-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S3584x1024 : Shape := ⟨2, ![3584, 1024]⟩
abbrev S3x2 : Shape := ⟨2, ![3, 2]⟩
abbrev S3x5 : Shape := ⟨2, ![3, 5]⟩
abbrev S13x3 : Shape := ⟨2, ![13, 3]⟩
abbrev S1x1 : Shape := ⟨2, ![1, 1]⟩
abbrev S_ : Shape := ⟨0, ![]⟩
abbrev S704x1024 : Shape := ⟨2, ![704, 1024]⟩
abbrev S640x1024 : Shape := ⟨2, ![640, 1024]⟩
abbrev S352x1024 : Shape := ⟨2, ![352, 1024]⟩
abbrev S320x1024 : Shape := ⟨2, ![320, 1024]⟩
abbrev S176x1024 : Shape := ⟨2, ![176, 1024]⟩
abbrev S160x1024 : Shape := ⟨2, ![160, 1024]⟩
abbrev S88x1024 : Shape := ⟨2, ![88, 1024]⟩
abbrev S80x1024 : Shape := ⟨2, ![80, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S3584x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v69 : BitVec 32 := Scalar.xori v2 c1_i32_48
  let c1_i32_50 : BitVec 32 := 1#32
  let v70 : BitVec 32 := Scalar.muli v69 c1_i32_50
  let v71 : BitVec 32 := Scalar.addi c0_i32_51 v70
  v71.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v72 : BitVec 32 := Scalar.xori v2 c3_i32
  let c1_i32_53 : BitVec 32 := 1#32
  let v73 : BitVec 32 := Scalar.muli v72 c1_i32_53
  let v74 : BitVec 32 := Scalar.addi c0_i32_54 v73
  v74.toNat
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v75 : BitVec 32 := Scalar.xori v2 c4_i32_55
  let c1_i32_57 : BitVec 32 := 1#32
  let v76 : BitVec 32 := Scalar.muli v75 c1_i32_57
  let v77 : BitVec 32 := Scalar.addi c0_i32_58 v76
  v77.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  v87
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_77 : BitVec 32 := 0#32
  let c0_i32_75 : BitVec 32 := 0#32
  let c704_i32_76 : BitVec 32 := 704#32
  let v89 : BitVec 32 := Scalar.addi c0_i32_75 c704_i32_76
  let v90 : BitVec 32 := Scalar.select v41 c0_i32_77 v89
  v90
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v94 : BitVec 32 := Scalar.addi v88 v92
  v94
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v94 : BitVec 32 := Scalar.addi v88 v92
  let v95 : BitVec 32 := v94
  let v96 : Index := Scalar.indexCast v95
  let c0 : Index := 0#32
  ![v96.toNat, 0]
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v98 : BitVec 32 := Scalar.addi v88 v92
  v98
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v105 : BitVec 32 := Scalar.addi v88 v92
  v105
def k0_mult6 (d0 : Dev nD) : BitVec 32 :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v107 : BitVec 32 := Scalar.addi c0_i32_82 v92
  v107
def k0_off2 (d0 : Dev nD) (c0_i32_82 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v107 : BitVec 32 := Scalar.addi c0_i32_82 v92
  let v108 : BitVec 32 := v107
  let c0_i32_89 : BitVec 32 := 0#32
  ![v108.toNat, 0]
def k0_off2_at (r : Fin 2) : BitVec 32 × BitVec 32 :=
  if r.val < 1 then
    (0#32, 2#32)
  else
    (1232#32, 4#32)
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v105 : BitVec 32 := Scalar.addi v88 v92
  let v106 : BitVec 32 := v105
  let c0_i32_90 : BitVec 32 := 0#32
  ![v106.toNat, 0]
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v104 : BitVec 32 := Scalar.xori v2 c1_i32_81
  let c1_i32_87 : BitVec 32 := 1#32
  let v109 : BitVec 32 := Scalar.muli v104 c1_i32_87
  let v110 : BitVec 32 := Scalar.addi c0_i32_88 v109
  v110.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c352_i32_79 : BitVec 32 := 352#32
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v93 : BitVec 32 := Scalar.subi c352_i32_79 v92
  let v117 : BitVec 32 := Scalar.addi v88 v93
  v117
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c352_i32_79 : BitVec 32 := 352#32
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v93 : BitVec 32 := Scalar.subi c352_i32_79 v92
  let v117 : BitVec 32 := Scalar.addi v88 v93
  let v118 : BitVec 32 := v117
  let v119 : Index := Scalar.indexCast v118
  let c0_91 : Index := 0#32
  ![v119.toNat, 0]
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c352_i32_79 : BitVec 32 := 352#32
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v93 : BitVec 32 := Scalar.subi c352_i32_79 v92
  let v121 : BitVec 32 := Scalar.addi v88 v93
  v121
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c352_i32_79 : BitVec 32 := 352#32
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v93 : BitVec 32 := Scalar.subi c352_i32_79 v92
  let v128 : BitVec 32 := Scalar.addi v88 v93
  v128
def k0_mult10 (d0 : Dev nD) : BitVec 32 :=
  let c0_i32_94 : BitVec 32 := 0#32
  let c352_i32_79 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v93 : BitVec 32 := Scalar.subi c352_i32_79 v92
  let v130 : BitVec 32 := Scalar.addi c0_i32_94 v93
  v130
def k0_off5 (d0 : Dev nD) (c0_i32_94 : BitVec 32) (c2_i32 : BitVec 32) : Fin 2 → Nat :=
  let c352_i32_79 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v93 : BitVec 32 := Scalar.subi c352_i32_79 v92
  let v130 : BitVec 32 := Scalar.addi c0_i32_94 v93
  let v131 : BitVec 32 := v130
  let c0_i32_101 : BitVec 32 := 0#32
  ![v131.toNat, 0]
def k0_off5_at (r : Fin 2) : BitVec 32 × BitVec 32 :=
  if r.val < 1 then
    (0#32, 2#32)
  else
    (1232#32, 4#32)
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_72 : BitVec 32 := 0#32
  let c704_i32_73 : BitVec 32 := 704#32
  let v86 : BitVec 32 := Scalar.addi c0_i32_72 c704_i32_73
  let c0_i32_74 : BitVec 32 := 0#32
  let v87 : BitVec 32 := Scalar.select v41 v86 c0_i32_74
  let v88 : BitVec 32 := v87
  let c352_i32_79 : BitVec 32 := 352#32
  let c0_i32_15 : BitVec 32 := 0#32
  let v42 : BitVec 1 := Scalar.cmpi .eq v21 c0_i32_15
  let c352_i32 : BitVec 32 := 352#32
  let c0_i32_78 : BitVec 32 := 0#32
  let v92 : BitVec 32 := Scalar.select v42 c352_i32 c0_i32_78
  let v93 : BitVec 32 := Scalar.subi c352_i32_79 v92
  let v128 : BitVec 32 := Scalar.addi v88 v93
  let v129 : BitVec 32 := v128
  let c0_i32_102 : BitVec 32 := 0#32
  ![v129.toNat, 0]
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_93 : BitVec 32 := 1#32
  let v127 : BitVec 32 := Scalar.xori v2 c1_i32_93
  let c1_i32_99 : BitVec 32 := 1#32
  let v132 : BitVec 32 := Scalar.muli v127 c1_i32_99
  let v133 : BitVec 32 := Scalar.addi c0_i32_100 v132
  v133.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  v149
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_120 : BitVec 32 := 1408#32
  let c1408_i32_118 : BitVec 32 := 1408#32
  let c704_i32_119 : BitVec 32 := 704#32
  let v151 : BitVec 32 := Scalar.addi c1408_i32_118 c704_i32_119
  let v152 : BitVec 32 := Scalar.select v42 c1408_i32_120 v151
  v152
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v156 : BitVec 32 := Scalar.addi v150 v154
  v156
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v156 : BitVec 32 := Scalar.addi v150 v154
  let v157 : BitVec 32 := v156
  let v158 : Index := Scalar.indexCast v157
  let c0_124 : Index := 0#32
  ![v158.toNat, 0]
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v160 : BitVec 32 := Scalar.addi v150 v154
  v160
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v167 : BitVec 32 := Scalar.addi v150 v154
  v167
def k0_mult16 (d0 : Dev nD) : BitVec 32 :=
  let c1232_i32 : BitVec 32 := 1232#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v169 : BitVec 32 := Scalar.addi c1232_i32 v154
  v169
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v167 : BitVec 32 := Scalar.addi v150 v154
  let v168 : BitVec 32 := v167
  let c0_i32_134 : BitVec 32 := 0#32
  ![v168.toNat, 0]
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v166 : BitVec 32 := Scalar.xori v2 c3_i32_126
  let c1_i32_131 : BitVec 32 := 1#32
  let v171 : BitVec 32 := Scalar.muli v166 c1_i32_131
  let v172 : BitVec 32 := Scalar.addi c0_i32_132 v171
  v172.toNat
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c352_i32_123 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v155 : BitVec 32 := Scalar.subi c352_i32_123 v154
  let v179 : BitVec 32 := Scalar.addi v150 v155
  v179
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c352_i32_123 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v155 : BitVec 32 := Scalar.subi c352_i32_123 v154
  let v179 : BitVec 32 := Scalar.addi v150 v155
  let v180 : BitVec 32 := v179
  let v181 : Index := Scalar.indexCast v180
  let c0_135 : Index := 0#32
  ![v181.toNat, 0]
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c352_i32_123 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v155 : BitVec 32 := Scalar.subi c352_i32_123 v154
  let v183 : BitVec 32 := Scalar.addi v150 v155
  v183
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c352_i32_123 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v155 : BitVec 32 := Scalar.subi c352_i32_123 v154
  let v190 : BitVec 32 := Scalar.addi v150 v155
  v190
def k0_mult20 (d0 : Dev nD) : BitVec 32 :=
  let c1232_i32_138 : BitVec 32 := 1232#32
  let c352_i32_123 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v155 : BitVec 32 := Scalar.subi c352_i32_123 v154
  let v192 : BitVec 32 := Scalar.addi c1232_i32_138 v155
  v192
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_115 : BitVec 32 := 1408#32
  let c704_i32_116 : BitVec 32 := 704#32
  let v148 : BitVec 32 := Scalar.addi c1408_i32_115 c704_i32_116
  let c1408_i32_117 : BitVec 32 := 1408#32
  let v149 : BitVec 32 := Scalar.select v42 v148 c1408_i32_117
  let v150 : BitVec 32 := v149
  let c352_i32_123 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_121 : BitVec 32 := 352#32
  let c0_i32_122 : BitVec 32 := 0#32
  let v154 : BitVec 32 := Scalar.select v43 c352_i32_121 c0_i32_122
  let v155 : BitVec 32 := Scalar.subi c352_i32_123 v154
  let v190 : BitVec 32 := Scalar.addi v150 v155
  let v191 : BitVec 32 := v190
  let c0_i32_146 : BitVec 32 := 0#32
  ![v191.toNat, 0]
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_137 : BitVec 32 := 3#32
  let v189 : BitVec 32 := Scalar.xori v2 c3_i32_137
  let c1_i32_143 : BitVec 32 := 1#32
  let v194 : BitVec 32 := Scalar.muli v189 c1_i32_143
  let v195 : BitVec 32 := Scalar.addi c0_i32_144 v194
  v195.toNat
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  v211
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_163 : BitVec 32 := 2816#32
  let c2816_i32_161 : BitVec 32 := 2816#32
  let c640_i32_162 : BitVec 32 := 640#32
  let v213 : BitVec 32 := Scalar.addi c2816_i32_161 c640_i32_162
  let v214 : BitVec 32 := Scalar.select v43 c2816_i32_163 v213
  v214
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v218 : BitVec 32 := Scalar.addi v212 v216
  v218
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v218 : BitVec 32 := Scalar.addi v212 v216
  let v219 : BitVec 32 := v218
  let v220 : Index := Scalar.indexCast v219
  let c0_166 : Index := 0#32
  ![v220.toNat, 0]
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v222 : BitVec 32 := Scalar.addi v212 v216
  v222
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v229 : BitVec 32 := Scalar.addi v212 v216
  v229
def k0_mult26 (d0 : Dev nD) : BitVec 32 :=
  let c2464_i32 : BitVec 32 := 2464#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v231 : BitVec 32 := Scalar.addi c2464_i32 v216
  v231
def k0_off12 (d0 : Dev nD) : Fin 2 → Nat :=
  let c2464_i32 : BitVec 32 := 2464#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v231 : BitVec 32 := Scalar.addi c2464_i32 v216
  let v232 : BitVec 32 := v231
  let c0_i32_175 : BitVec 32 := 0#32
  ![v232.toNat, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v229 : BitVec 32 := Scalar.addi v212 v216
  let v230 : BitVec 32 := v229
  let c0_i32_176 : BitVec 32 := 0#32
  ![v230.toNat, 0]
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_168 : BitVec 32 := 4#32
  let v228 : BitVec 32 := Scalar.xori v2 c4_i32_168
  let c1_i32_173 : BitVec 32 := 1#32
  let v233 : BitVec 32 := Scalar.muli v228 c1_i32_173
  let v234 : BitVec 32 := Scalar.addi c0_i32_174 v233
  v234.toNat
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c320_i32_165 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v217 : BitVec 32 := Scalar.subi c320_i32_165 v216
  let v241 : BitVec 32 := Scalar.addi v212 v217
  v241
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c320_i32_165 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v217 : BitVec 32 := Scalar.subi c320_i32_165 v216
  let v241 : BitVec 32 := Scalar.addi v212 v217
  let v242 : BitVec 32 := v241
  let v243 : Index := Scalar.indexCast v242
  let c0_177 : Index := 0#32
  ![v243.toNat, 0]
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c320_i32_165 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v217 : BitVec 32 := Scalar.subi c320_i32_165 v216
  let v245 : BitVec 32 := Scalar.addi v212 v217
  v245
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c320_i32_165 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v217 : BitVec 32 := Scalar.subi c320_i32_165 v216
  let v252 : BitVec 32 := Scalar.addi v212 v217
  v252
def k0_mult30 (d0 : Dev nD) : BitVec 32 :=
  let c2464_i32_180 : BitVec 32 := 2464#32
  let c320_i32_165 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v217 : BitVec 32 := Scalar.subi c320_i32_165 v216
  let v254 : BitVec 32 := Scalar.addi c2464_i32_180 v217
  v254
def k0_off15 (d0 : Dev nD) : Fin 2 → Nat :=
  let c2464_i32_180 : BitVec 32 := 2464#32
  let c320_i32_165 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v217 : BitVec 32 := Scalar.subi c320_i32_165 v216
  let v254 : BitVec 32 := Scalar.addi c2464_i32_180 v217
  let v255 : BitVec 32 := v254
  let c0_i32_187 : BitVec 32 := 0#32
  ![v255.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_159 : BitVec 32 := 2816#32
  let c640_i32 : BitVec 32 := 640#32
  let v210 : BitVec 32 := Scalar.addi c2816_i32_159 c640_i32
  let c2816_i32_160 : BitVec 32 := 2816#32
  let v211 : BitVec 32 := Scalar.select v43 v210 c2816_i32_160
  let v212 : BitVec 32 := v211
  let c320_i32_165 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32 : BitVec 32 := 320#32
  let c0_i32_164 : BitVec 32 := 0#32
  let v216 : BitVec 32 := Scalar.select v41 c320_i32 c0_i32_164
  let v217 : BitVec 32 := Scalar.subi c320_i32_165 v216
  let v252 : BitVec 32 := Scalar.addi v212 v217
  let v253 : BitVec 32 := v252
  let c0_i32_188 : BitVec 32 := 0#32
  ![v253.toNat, 0]
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_179 : BitVec 32 := 4#32
  let v251 : BitVec 32 := Scalar.xori v2 c4_i32_179
  let c1_i32_185 : BitVec 32 := 1#32
  let v256 : BitVec 32 := Scalar.muli v251 c1_i32_185
  let v257 : BitVec 32 := Scalar.addi c0_i32_186 v256
  v257.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_77 : BitVec 32 := 0#32
  let c0_i32_75 : BitVec 32 := 0#32
  let c704_i32_76 : BitVec 32 := 704#32
  let v89 : BitVec 32 := Scalar.addi c0_i32_75 c704_i32_76
  let v90 : BitVec 32 := Scalar.select v41 c0_i32_77 v89
  let v91 : BitVec 32 := v90
  let v264 : Index := Scalar.indexCast v91
  let c0_189 : Index := 0#32
  ![v264.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_120 : BitVec 32 := 1408#32
  let c1408_i32_118 : BitVec 32 := 1408#32
  let c704_i32_119 : BitVec 32 := 704#32
  let v151 : BitVec 32 := Scalar.addi c1408_i32_118 c704_i32_119
  let v152 : BitVec 32 := Scalar.select v42 c1408_i32_120 v151
  let v153 : BitVec 32 := v152
  let v270 : Index := Scalar.indexCast v153
  let c0_191 : Index := 0#32
  ![v270.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_163 : BitVec 32 := 2816#32
  let c2816_i32_161 : BitVec 32 := 2816#32
  let c640_i32_162 : BitVec 32 := 640#32
  let v213 : BitVec 32 := Scalar.addi c2816_i32_161 c640_i32_162
  let v214 : BitVec 32 := Scalar.select v43 c2816_i32_163 v213
  let v215 : BitVec 32 := v214
  let v276 : Index := Scalar.indexCast v215
  let c0_193 : Index := 0#32
  ![v276.toNat, 0]
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  v283
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v293 : BitVec 32 := Scalar.addi v284 v285
  v293
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v293 : BitVec 32 := Scalar.addi v284 v285
  let v295 : BitVec 32 := v293
  let v296 : Index := Scalar.indexCast v295
  let c0_210 : Index := 0#32
  ![v296.toNat, 0]
def k0_mult33 (d0 : Dev nD) : BitVec 32 :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v294 : BitVec 32 := Scalar.addi c0_i32_209 v285
  v294
def k0_off21 (d0 : Dev nD) (c0_i32_209 : BitVec 32) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v294 : BitVec 32 := Scalar.addi c0_i32_209 v285
  let v298 : BitVec 32 := v294
  let v299 : Index := Scalar.indexCast v298
  let c0_211 : Index := 0#32
  ![v299.toNat, 0]
def k0_off21_at (r : Fin 2) : BitVec 32 × BitVec 32 :=
  if r.val < 1 then
    (0#32, 2#32)
  else
    (1232#32, 4#32)
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v293 : BitVec 32 := Scalar.addi v284 v285
  v293
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_213 : BitVec 32 := 352#32
  let v307 : BitVec 32 := Scalar.addi v284 c352_i32_213
  let v308 : BitVec 32 := Scalar.select v42 v307 v284
  v308
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_213 : BitVec 32 := 352#32
  let v307 : BitVec 32 := Scalar.addi v284 c352_i32_213
  let v308 : BitVec 32 := Scalar.select v42 v307 v284
  let v309 : BitVec 32 := v308
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v313 : BitVec 32 := Scalar.addi v309 v310
  v313
def k0_mult37 (d0 : Dev nD) : BitVec 32 :=
  let c704_i32_217 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v315 : BitVec 32 := Scalar.addi c704_i32_217 v310
  v315
def k0_off22 (d0 : Dev nD) : Fin 2 → Nat :=
  let c704_i32_217 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v315 : BitVec 32 := Scalar.addi c704_i32_217 v310
  let v316 : BitVec 32 := v315
  let c0_i32_224 : BitVec 32 := 0#32
  ![v316.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_213 : BitVec 32 := 352#32
  let v307 : BitVec 32 := Scalar.addi v284 c352_i32_213
  let v308 : BitVec 32 := Scalar.select v42 v307 v284
  let v309 : BitVec 32 := v308
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v313 : BitVec 32 := Scalar.addi v309 v310
  let v314 : BitVec 32 := v313
  let c0_i32_225 : BitVec 32 := 0#32
  ![v314.toNat, 0]
def k0_dev10 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_216 : BitVec 32 := 3#32
  let v312 : BitVec 32 := Scalar.xori v2 c3_i32_216
  let c1_i32_222 : BitVec 32 := 1#32
  let v317 : BitVec 32 := Scalar.muli v312 c1_i32_222
  let v318 : BitVec 32 := Scalar.addi c0_i32_223 v317
  v318.toNat
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_213 : BitVec 32 := 352#32
  let v307 : BitVec 32 := Scalar.addi v284 c352_i32_213
  let v308 : BitVec 32 := Scalar.select v42 v307 v284
  let v309 : BitVec 32 := v308
  let c176_i32_215 : BitVec 32 := 176#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v311 : BitVec 32 := Scalar.subi c176_i32_215 v310
  let v326 : BitVec 32 := Scalar.addi v309 v311
  v326
def k0_mult39 (d0 : Dev nD) : BitVec 32 :=
  let c704_i32_227 : BitVec 32 := 704#32
  let c176_i32_215 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v311 : BitVec 32 := Scalar.subi c176_i32_215 v310
  let v328 : BitVec 32 := Scalar.addi c704_i32_227 v311
  v328
def k0_off24 (d0 : Dev nD) : Fin 2 → Nat :=
  let c704_i32_227 : BitVec 32 := 704#32
  let c176_i32_215 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v311 : BitVec 32 := Scalar.subi c176_i32_215 v310
  let v328 : BitVec 32 := Scalar.addi c704_i32_227 v311
  let v329 : BitVec 32 := v328
  let c0_i32_234 : BitVec 32 := 0#32
  ![v329.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_213 : BitVec 32 := 352#32
  let v307 : BitVec 32 := Scalar.addi v284 c352_i32_213
  let v308 : BitVec 32 := Scalar.select v42 v307 v284
  let v309 : BitVec 32 := v308
  let c176_i32_215 : BitVec 32 := 176#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32 : BitVec 32 := 176#32
  let c0_i32_214 : BitVec 32 := 0#32
  let v310 : BitVec 32 := Scalar.select v43 c176_i32 c0_i32_214
  let v311 : BitVec 32 := Scalar.subi c176_i32_215 v310
  let v326 : BitVec 32 := Scalar.addi v309 v311
  let v327 : BitVec 32 := v326
  let c0_i32_235 : BitVec 32 := 0#32
  ![v327.toNat, 0]
def k0_dev11 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_226 : BitVec 32 := 3#32
  let v325 : BitVec 32 := Scalar.xori v2 c3_i32_226
  let c1_i32_232 : BitVec 32 := 1#32
  let v330 : BitVec 32 := Scalar.muli v325 c1_i32_232
  let v331 : BitVec 32 := Scalar.addi c0_i32_233 v330
  v331.toNat
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  v339
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v349 : BitVec 32 := Scalar.addi v340 v341
  v349
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v349 : BitVec 32 := Scalar.addi v340 v341
  let v351 : BitVec 32 := v349
  let v352 : Index := Scalar.indexCast v351
  let c0_251 : Index := 0#32
  ![v352.toNat, 0]
def k0_mult42 (d0 : Dev nD) : BitVec 32 :=
  let c1232_i32_250 : BitVec 32 := 1232#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v350 : BitVec 32 := Scalar.addi c1232_i32_250 v341
  v350
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v349 : BitVec 32 := Scalar.addi v340 v341
  v349
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_254 : BitVec 32 := 352#32
  let v363 : BitVec 32 := Scalar.addi v340 c352_i32_254
  let v364 : BitVec 32 := Scalar.select v43 v363 v340
  v364
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_254 : BitVec 32 := 352#32
  let v363 : BitVec 32 := Scalar.addi v340 c352_i32_254
  let v364 : BitVec 32 := Scalar.select v43 v363 v340
  let v365 : BitVec 32 := v364
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v369 : BitVec 32 := Scalar.addi v365 v366
  v369
def k0_mult46 (d0 : Dev nD) : BitVec 32 :=
  let c1936_i32 : BitVec 32 := 1936#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v371 : BitVec 32 := Scalar.addi c1936_i32 v366
  v371
def k0_off27 (d0 : Dev nD) : Fin 2 → Nat :=
  let c1936_i32 : BitVec 32 := 1936#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v371 : BitVec 32 := Scalar.addi c1936_i32 v366
  let v372 : BitVec 32 := v371
  let c0_i32_265 : BitVec 32 := 0#32
  ![v372.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_254 : BitVec 32 := 352#32
  let v363 : BitVec 32 := Scalar.addi v340 c352_i32_254
  let v364 : BitVec 32 := Scalar.select v43 v363 v340
  let v365 : BitVec 32 := v364
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v369 : BitVec 32 := Scalar.addi v365 v366
  let v370 : BitVec 32 := v369
  let c0_i32_266 : BitVec 32 := 0#32
  ![v370.toNat, 0]
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_258 : BitVec 32 := 4#32
  let v368 : BitVec 32 := Scalar.xori v2 c4_i32_258
  let c1_i32_263 : BitVec 32 := 1#32
  let v373 : BitVec 32 := Scalar.muli v368 c1_i32_263
  let v374 : BitVec 32 := Scalar.addi c0_i32_264 v373
  v374.toNat
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_254 : BitVec 32 := 352#32
  let v363 : BitVec 32 := Scalar.addi v340 c352_i32_254
  let v364 : BitVec 32 := Scalar.select v43 v363 v340
  let v365 : BitVec 32 := v364
  let c176_i32_257 : BitVec 32 := 176#32
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v367 : BitVec 32 := Scalar.subi c176_i32_257 v366
  let v382 : BitVec 32 := Scalar.addi v365 v367
  v382
def k0_mult48 (d0 : Dev nD) : BitVec 32 :=
  let c1936_i32_268 : BitVec 32 := 1936#32
  let c176_i32_257 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v367 : BitVec 32 := Scalar.subi c176_i32_257 v366
  let v384 : BitVec 32 := Scalar.addi c1936_i32_268 v367
  v384
def k0_off29 (d0 : Dev nD) : Fin 2 → Nat :=
  let c1936_i32_268 : BitVec 32 := 1936#32
  let c176_i32_257 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v367 : BitVec 32 := Scalar.subi c176_i32_257 v366
  let v384 : BitVec 32 := Scalar.addi c1936_i32_268 v367
  let v385 : BitVec 32 := v384
  let c0_i32_275 : BitVec 32 := 0#32
  ![v385.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_254 : BitVec 32 := 352#32
  let v363 : BitVec 32 := Scalar.addi v340 c352_i32_254
  let v364 : BitVec 32 := Scalar.select v43 v363 v340
  let v365 : BitVec 32 := v364
  let c176_i32_257 : BitVec 32 := 176#32
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_255 : BitVec 32 := 176#32
  let c0_i32_256 : BitVec 32 := 0#32
  let v366 : BitVec 32 := Scalar.select v41 c176_i32_255 c0_i32_256
  let v367 : BitVec 32 := Scalar.subi c176_i32_257 v366
  let v382 : BitVec 32 := Scalar.addi v365 v367
  let v383 : BitVec 32 := v382
  let c0_i32_276 : BitVec 32 := 0#32
  ![v383.toNat, 0]
def k0_dev13 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_267 : BitVec 32 := 4#32
  let v381 : BitVec 32 := Scalar.xori v2 c4_i32_267
  let c1_i32_273 : BitVec 32 := 1#32
  let v386 : BitVec 32 := Scalar.muli v381 c1_i32_273
  let v387 : BitVec 32 := Scalar.addi c0_i32_274 v386
  v387.toNat
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  v395
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v405 : BitVec 32 := Scalar.addi v396 v397
  v405
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v405 : BitVec 32 := Scalar.addi v396 v397
  let v407 : BitVec 32 := v405
  let v408 : Index := Scalar.indexCast v407
  let c0_292 : Index := 0#32
  ![v408.toNat, 0]
def k0_mult51 (d0 : Dev nD) : BitVec 32 :=
  let c2464_i32_291 : BitVec 32 := 2464#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v406 : BitVec 32 := Scalar.addi c2464_i32_291 v397
  v406
def k0_off32 (d0 : Dev nD) : Fin 2 → Nat :=
  let c2464_i32_291 : BitVec 32 := 2464#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v406 : BitVec 32 := Scalar.addi c2464_i32_291 v397
  let v410 : BitVec 32 := v406
  let v411 : Index := Scalar.indexCast v410
  let c0_293 : Index := 0#32
  ![v411.toNat, 0]
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v405 : BitVec 32 := Scalar.addi v396 v397
  v405
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_295 : BitVec 32 := 320#32
  let v419 : BitVec 32 := Scalar.addi v396 c320_i32_295
  let v420 : BitVec 32 := Scalar.select v41 v419 v396
  v420
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_295 : BitVec 32 := 320#32
  let v419 : BitVec 32 := Scalar.addi v396 c320_i32_295
  let v420 : BitVec 32 := Scalar.select v41 v419 v396
  let v421 : BitVec 32 := v420
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v425 : BitVec 32 := Scalar.addi v421 v422
  v425
def k0_mult55 (d0 : Dev nD) : BitVec 32 :=
  let c3104_i32 : BitVec 32 := 3104#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v427 : BitVec 32 := Scalar.addi c3104_i32 v422
  v427
def k0_off33 (d0 : Dev nD) : Fin 2 → Nat :=
  let c3104_i32 : BitVec 32 := 3104#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v427 : BitVec 32 := Scalar.addi c3104_i32 v422
  let v428 : BitVec 32 := v427
  let c0_i32_305 : BitVec 32 := 0#32
  ![v428.toNat, 0]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_295 : BitVec 32 := 320#32
  let v419 : BitVec 32 := Scalar.addi v396 c320_i32_295
  let v420 : BitVec 32 := Scalar.select v41 v419 v396
  let v421 : BitVec 32 := v420
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v425 : BitVec 32 := Scalar.addi v421 v422
  let v426 : BitVec 32 := v425
  let c0_i32_306 : BitVec 32 := 0#32
  ![v426.toNat, 0]
def k0_dev14 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_298 : BitVec 32 := 1#32
  let v424 : BitVec 32 := Scalar.xori v2 c1_i32_298
  let c1_i32_303 : BitVec 32 := 1#32
  let v429 : BitVec 32 := Scalar.muli v424 c1_i32_303
  let v430 : BitVec 32 := Scalar.addi c0_i32_304 v429
  v430.toNat
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_295 : BitVec 32 := 320#32
  let v419 : BitVec 32 := Scalar.addi v396 c320_i32_295
  let v420 : BitVec 32 := Scalar.select v41 v419 v396
  let v421 : BitVec 32 := v420
  let c160_i32_297 : BitVec 32 := 160#32
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v423 : BitVec 32 := Scalar.subi c160_i32_297 v422
  let v438 : BitVec 32 := Scalar.addi v421 v423
  v438
def k0_mult57 (d0 : Dev nD) : BitVec 32 :=
  let c3104_i32_308 : BitVec 32 := 3104#32
  let c160_i32_297 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v423 : BitVec 32 := Scalar.subi c160_i32_297 v422
  let v440 : BitVec 32 := Scalar.addi c3104_i32_308 v423
  v440
def k0_off35 (d0 : Dev nD) : Fin 2 → Nat :=
  let c3104_i32_308 : BitVec 32 := 3104#32
  let c160_i32_297 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v423 : BitVec 32 := Scalar.subi c160_i32_297 v422
  let v440 : BitVec 32 := Scalar.addi c3104_i32_308 v423
  let v441 : BitVec 32 := v440
  let c0_i32_315 : BitVec 32 := 0#32
  ![v441.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_295 : BitVec 32 := 320#32
  let v419 : BitVec 32 := Scalar.addi v396 c320_i32_295
  let v420 : BitVec 32 := Scalar.select v41 v419 v396
  let v421 : BitVec 32 := v420
  let c160_i32_297 : BitVec 32 := 160#32
  let c0_i32_15 : BitVec 32 := 0#32
  let v42 : BitVec 1 := Scalar.cmpi .eq v21 c0_i32_15
  let c160_i32 : BitVec 32 := 160#32
  let c0_i32_296 : BitVec 32 := 0#32
  let v422 : BitVec 32 := Scalar.select v42 c160_i32 c0_i32_296
  let v423 : BitVec 32 := Scalar.subi c160_i32_297 v422
  let v438 : BitVec 32 := Scalar.addi v421 v423
  let v439 : BitVec 32 := v438
  let c0_i32_316 : BitVec 32 := 0#32
  ![v439.toNat, 0]
def k0_dev15 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_307 : BitVec 32 := 1#32
  let v437 : BitVec 32 := Scalar.xori v2 c1_i32_307
  let c1_i32_313 : BitVec 32 := 1#32
  let v442 : BitVec 32 := Scalar.muli v437 c1_i32_313
  let v443 : BitVec 32 := Scalar.addi c0_i32_314 v442
  v443.toNat
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_200 : BitVec 32 := 352#32
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v286 : BitVec 32 := Scalar.subi c352_i32_200 v285
  let v456 : BitVec 32 := Scalar.addi v284 v286
  v456
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_200 : BitVec 32 := 352#32
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v286 : BitVec 32 := Scalar.subi c352_i32_200 v285
  let v456 : BitVec 32 := Scalar.addi v284 v286
  let v458 : BitVec 32 := v456
  let v459 : Index := Scalar.indexCast v458
  let c0_326 : Index := 0#32
  ![v459.toNat, 0]
def k0_mult59 (d0 : Dev nD) : BitVec 32 :=
  let c0_i32_325 : BitVec 32 := 0#32
  let c352_i32_200 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v286 : BitVec 32 := Scalar.subi c352_i32_200 v285
  let v457 : BitVec 32 := Scalar.addi c0_i32_325 v286
  v457
def k0_off38 (d0 : Dev nD) (c0_i32_325 : BitVec 32) (c2_i32 : BitVec 32) : Fin 2 → Nat :=
  let c352_i32_200 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v286 : BitVec 32 := Scalar.subi c352_i32_200 v285
  let v457 : BitVec 32 := Scalar.addi c0_i32_325 v286
  let v461 : BitVec 32 := v457
  let v462 : Index := Scalar.indexCast v461
  let c0_327 : Index := 0#32
  ![v462.toNat, 0]
def k0_off38_at (r : Fin 2) : BitVec 32 × BitVec 32 :=
  if r.val < 1 then
    (0#32, 2#32)
  else
    (1232#32, 4#32)
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_200 : BitVec 32 := 352#32
  let c0_i32_15 : BitVec 32 := 0#32
  let v42 : BitVec 1 := Scalar.cmpi .eq v21 c0_i32_15
  let c352_i32_198 : BitVec 32 := 352#32
  let c0_i32_199 : BitVec 32 := 0#32
  let v285 : BitVec 32 := Scalar.select v42 c352_i32_198 c0_i32_199
  let v286 : BitVec 32 := Scalar.subi c352_i32_200 v285
  let v456 : BitVec 32 := Scalar.addi v284 v286
  v456
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_241 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v342 : BitVec 32 := Scalar.subi c352_i32_241 v341
  let v476 : BitVec 32 := Scalar.addi v340 v342
  v476
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_241 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v342 : BitVec 32 := Scalar.subi c352_i32_241 v341
  let v476 : BitVec 32 := Scalar.addi v340 v342
  let v478 : BitVec 32 := v476
  let v479 : Index := Scalar.indexCast v478
  let c0_338 : Index := 0#32
  ![v479.toNat, 0]
def k0_mult62 (d0 : Dev nD) : BitVec 32 :=
  let c1232_i32_337 : BitVec 32 := 1232#32
  let c352_i32_241 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v342 : BitVec 32 := Scalar.subi c352_i32_241 v341
  let v477 : BitVec 32 := Scalar.addi c1232_i32_337 v342
  v477
def k0_mult63 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_241 : BitVec 32 := 352#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c352_i32_239 : BitVec 32 := 352#32
  let c0_i32_240 : BitVec 32 := 0#32
  let v341 : BitVec 32 := Scalar.select v43 c352_i32_239 c0_i32_240
  let v342 : BitVec 32 := Scalar.subi c352_i32_241 v341
  let v476 : BitVec 32 := Scalar.addi v340 v342
  v476
def k0_mult64 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_282 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v398 : BitVec 32 := Scalar.subi c320_i32_282 v397
  let v496 : BitVec 32 := Scalar.addi v396 v398
  v496
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_282 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v398 : BitVec 32 := Scalar.subi c320_i32_282 v397
  let v496 : BitVec 32 := Scalar.addi v396 v398
  let v498 : BitVec 32 := v496
  let v499 : Index := Scalar.indexCast v498
  let c0_350 : Index := 0#32
  ![v499.toNat, 0]
def k0_mult65 (d0 : Dev nD) : BitVec 32 :=
  let c2464_i32_349 : BitVec 32 := 2464#32
  let c320_i32_282 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v398 : BitVec 32 := Scalar.subi c320_i32_282 v397
  let v497 : BitVec 32 := Scalar.addi c2464_i32_349 v398
  v497
def k0_off41 (d0 : Dev nD) : Fin 2 → Nat :=
  let c2464_i32_349 : BitVec 32 := 2464#32
  let c320_i32_282 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v398 : BitVec 32 := Scalar.subi c320_i32_282 v397
  let v497 : BitVec 32 := Scalar.addi c2464_i32_349 v398
  let v501 : BitVec 32 := v497
  let v502 : Index := Scalar.indexCast v501
  let c0_351 : Index := 0#32
  ![v502.toNat, 0]
def k0_mult66 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_282 : BitVec 32 := 320#32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c320_i32_280 : BitVec 32 := 320#32
  let c0_i32_281 : BitVec 32 := 0#32
  let v397 : BitVec 32 := Scalar.select v41 c320_i32_280 c0_i32_281
  let v398 : BitVec 32 := Scalar.subi c320_i32_282 v397
  let v496 : BitVec 32 := Scalar.addi v396 v398
  v496
def k0_mult67 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  v511
def k0_mult68 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v521 : BitVec 32 := Scalar.addi v512 v513
  v521
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v521 : BitVec 32 := Scalar.addi v512 v513
  let v523 : BitVec 32 := v521
  let v524 : Index := Scalar.indexCast v523
  let c0_366 : Index := 0#32
  ![v524.toNat, 0]
def k0_mult69 (d0 : Dev nD) : BitVec 32 :=
  let c704_i32_365 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v522 : BitVec 32 := Scalar.addi c704_i32_365 v513
  v522
def k0_off43 (d0 : Dev nD) : Fin 2 → Nat :=
  let c704_i32_365 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v522 : BitVec 32 := Scalar.addi c704_i32_365 v513
  let v526 : BitVec 32 := v522
  let v527 : Index := Scalar.indexCast v526
  let c0_367 : Index := 0#32
  ![v527.toNat, 0]
def k0_mult70 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v521 : BitVec 32 := Scalar.addi v512 v513
  v521
def k0_mult71 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_369 : BitVec 32 := 176#32
  let v535 : BitVec 32 := Scalar.addi v512 c176_i32_369
  let v536 : BitVec 32 := Scalar.select v43 v535 v512
  v536
def k0_mult72 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_369 : BitVec 32 := 176#32
  let v535 : BitVec 32 := Scalar.addi v512 c176_i32_369
  let v536 : BitVec 32 := Scalar.select v43 v535 v512
  let v537 : BitVec 32 := v536
  let c0_i32_372 : BitVec 32 := 0#32
  let v540 : BitVec 32 := Scalar.addi v537 c0_i32_372
  v540
def k0_mult73 : BitVec 32 :=
  let c1056_i32 : BitVec 32 := 1056#32
  let c0_i32_373 : BitVec 32 := 0#32
  let v542 : BitVec 32 := Scalar.addi c1056_i32 c0_i32_373
  v542
def k0_off44 (c1056_i32 : BitVec 32) : Fin 2 → Nat :=
  let c0_i32_373 : BitVec 32 := 0#32
  let v542 : BitVec 32 := Scalar.addi c1056_i32 c0_i32_373
  let v543 : BitVec 32 := v542
  let c0_i32_380 : BitVec 32 := 0#32
  ![v543.toNat, 0]
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_369 : BitVec 32 := 176#32
  let v535 : BitVec 32 := Scalar.addi v512 c176_i32_369
  let v536 : BitVec 32 := Scalar.select v43 v535 v512
  let v537 : BitVec 32 := v536
  let c0_i32_372 : BitVec 32 := 0#32
  let v540 : BitVec 32 := Scalar.addi v537 c0_i32_372
  let v541 : BitVec 32 := v540
  let c0_i32_381 : BitVec 32 := 0#32
  ![v541.toNat, 0]
def k0_dev16 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_371 : BitVec 32 := 4#32
  let v539 : BitVec 32 := Scalar.xori v2 c4_i32_371
  let c1_i32_378 : BitVec 32 := 1#32
  let v544 : BitVec 32 := Scalar.muli v539 c1_i32_378
  let v545 : BitVec 32 := Scalar.addi c0_i32_379 v544
  v545.toNat
def k0_mult74 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_369 : BitVec 32 := 176#32
  let v535 : BitVec 32 := Scalar.addi v512 c176_i32_369
  let v536 : BitVec 32 := Scalar.select v43 v535 v512
  let v537 : BitVec 32 := v536
  let c88_i32 : BitVec 32 := 88#32
  let c0_i32_370 : BitVec 32 := 0#32
  let v538 : BitVec 32 := Scalar.subi c88_i32 c0_i32_370
  let v553 : BitVec 32 := Scalar.addi v537 v538
  v553
def k0_mult75 : BitVec 32 :=
  let c1056_i32_383 : BitVec 32 := 1056#32
  let c88_i32 : BitVec 32 := 88#32
  let c0_i32_370 : BitVec 32 := 0#32
  let v538 : BitVec 32 := Scalar.subi c88_i32 c0_i32_370
  let v555 : BitVec 32 := Scalar.addi c1056_i32_383 v538
  v555
def k0_off46 (c1056_i32_383 : BitVec 32) : Fin 2 → Nat :=
  let c88_i32 : BitVec 32 := 88#32
  let c0_i32_370 : BitVec 32 := 0#32
  let v538 : BitVec 32 := Scalar.subi c88_i32 c0_i32_370
  let v555 : BitVec 32 := Scalar.addi c1056_i32_383 v538
  let v556 : BitVec 32 := v555
  let c0_i32_389 : BitVec 32 := 0#32
  ![v556.toNat, 0]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_369 : BitVec 32 := 176#32
  let v535 : BitVec 32 := Scalar.addi v512 c176_i32_369
  let v536 : BitVec 32 := Scalar.select v43 v535 v512
  let v537 : BitVec 32 := v536
  let c88_i32 : BitVec 32 := 88#32
  let c0_i32_370 : BitVec 32 := 0#32
  let v538 : BitVec 32 := Scalar.subi c88_i32 c0_i32_370
  let v553 : BitVec 32 := Scalar.addi v537 v538
  let v554 : BitVec 32 := v553
  let c0_i32_390 : BitVec 32 := 0#32
  ![v554.toNat, 0]
def k0_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_382 : BitVec 32 := 4#32
  let v552 : BitVec 32 := Scalar.xori v2 c4_i32_382
  let c1_i32_387 : BitVec 32 := 1#32
  let v557 : BitVec 32 := Scalar.muli v552 c1_i32_387
  let v558 : BitVec 32 := Scalar.addi c0_i32_388 v557
  v558.toNat
def k0_mult76 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  v566
def k0_mult77 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v576 : BitVec 32 := Scalar.addi v567 v568
  v576
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v576 : BitVec 32 := Scalar.addi v567 v568
  let v578 : BitVec 32 := v576
  let v579 : Index := Scalar.indexCast v578
  let c0_404 : Index := 0#32
  ![v579.toNat, 0]
def k0_mult78 (d0 : Dev nD) : BitVec 32 :=
  let c1936_i32_403 : BitVec 32 := 1936#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v577 : BitVec 32 := Scalar.addi c1936_i32_403 v568
  v577
def k0_off49 (d0 : Dev nD) : Fin 2 → Nat :=
  let c1936_i32_403 : BitVec 32 := 1936#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v577 : BitVec 32 := Scalar.addi c1936_i32_403 v568
  let v581 : BitVec 32 := v577
  let v582 : Index := Scalar.indexCast v581
  let c0_405 : Index := 0#32
  ![v582.toNat, 0]
def k0_mult79 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v576 : BitVec 32 := Scalar.addi v567 v568
  v576
def k0_mult80 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_407 : BitVec 32 := 176#32
  let v590 : BitVec 32 := Scalar.addi v567 c176_i32_407
  let v591 : BitVec 32 := Scalar.select v41 v590 v567
  v591
def k0_mult81 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_407 : BitVec 32 := 176#32
  let v590 : BitVec 32 := Scalar.addi v567 c176_i32_407
  let v591 : BitVec 32 := Scalar.select v41 v590 v567
  let v592 : BitVec 32 := v591
  let c0_i32_411 : BitVec 32 := 0#32
  let v595 : BitVec 32 := Scalar.addi v592 c0_i32_411
  v595
def k0_mult82 : BitVec 32 :=
  let c2288_i32 : BitVec 32 := 2288#32
  let c0_i32_412 : BitVec 32 := 0#32
  let v597 : BitVec 32 := Scalar.addi c2288_i32 c0_i32_412
  v597
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_407 : BitVec 32 := 176#32
  let v590 : BitVec 32 := Scalar.addi v567 c176_i32_407
  let v591 : BitVec 32 := Scalar.select v41 v590 v567
  let v592 : BitVec 32 := v591
  let c0_i32_411 : BitVec 32 := 0#32
  let v595 : BitVec 32 := Scalar.addi v592 c0_i32_411
  let v596 : BitVec 32 := v595
  let c0_i32_420 : BitVec 32 := 0#32
  ![v596.toNat, 0]
def k0_dev18 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_410 : BitVec 32 := 1#32
  let v594 : BitVec 32 := Scalar.xori v2 c1_i32_410
  let c1_i32_417 : BitVec 32 := 1#32
  let v599 : BitVec 32 := Scalar.muli v594 c1_i32_417
  let v600 : BitVec 32 := Scalar.addi c0_i32_418 v599
  v600.toNat
def k0_mult83 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_407 : BitVec 32 := 176#32
  let v590 : BitVec 32 := Scalar.addi v567 c176_i32_407
  let v591 : BitVec 32 := Scalar.select v41 v590 v567
  let v592 : BitVec 32 := v591
  let c88_i32_408 : BitVec 32 := 88#32
  let c0_i32_409 : BitVec 32 := 0#32
  let v593 : BitVec 32 := Scalar.subi c88_i32_408 c0_i32_409
  let v608 : BitVec 32 := Scalar.addi v592 v593
  v608
def k0_mult84 : BitVec 32 :=
  let c2288_i32_422 : BitVec 32 := 2288#32
  let c88_i32_408 : BitVec 32 := 88#32
  let c0_i32_409 : BitVec 32 := 0#32
  let v593 : BitVec 32 := Scalar.subi c88_i32_408 c0_i32_409
  let v610 : BitVec 32 := Scalar.addi c2288_i32_422 v593
  v610
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_407 : BitVec 32 := 176#32
  let v590 : BitVec 32 := Scalar.addi v567 c176_i32_407
  let v591 : BitVec 32 := Scalar.select v41 v590 v567
  let v592 : BitVec 32 := v591
  let c88_i32_408 : BitVec 32 := 88#32
  let c0_i32_409 : BitVec 32 := 0#32
  let v593 : BitVec 32 := Scalar.subi c88_i32_408 c0_i32_409
  let v608 : BitVec 32 := Scalar.addi v592 v593
  let v609 : BitVec 32 := v608
  let c0_i32_430 : BitVec 32 := 0#32
  ![v609.toNat, 0]
def k0_dev19 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_421 : BitVec 32 := 1#32
  let v607 : BitVec 32 := Scalar.xori v2 c1_i32_421
  let c1_i32_427 : BitVec 32 := 1#32
  let v612 : BitVec 32 := Scalar.muli v607 c1_i32_427
  let v613 : BitVec 32 := Scalar.addi c0_i32_428 v612
  v613.toNat
def k0_mult85 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  v621
def k0_mult86 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v631 : BitVec 32 := Scalar.addi v622 v623
  v631
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v631 : BitVec 32 := Scalar.addi v622 v623
  let v633 : BitVec 32 := v631
  let v634 : Index := Scalar.indexCast v633
  let c0_444 : Index := 0#32
  ![v634.toNat, 0]
def k0_mult87 (d0 : Dev nD) : BitVec 32 :=
  let c3104_i32_443 : BitVec 32 := 3104#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v632 : BitVec 32 := Scalar.addi c3104_i32_443 v623
  v632
def k0_off53 (d0 : Dev nD) : Fin 2 → Nat :=
  let c3104_i32_443 : BitVec 32 := 3104#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v632 : BitVec 32 := Scalar.addi c3104_i32_443 v623
  let v636 : BitVec 32 := v632
  let v637 : Index := Scalar.indexCast v636
  let c0_445 : Index := 0#32
  ![v637.toNat, 0]
def k0_mult88 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v631 : BitVec 32 := Scalar.addi v622 v623
  v631
def k0_mult89 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_447 : BitVec 32 := 160#32
  let v645 : BitVec 32 := Scalar.addi v622 c160_i32_447
  let v646 : BitVec 32 := Scalar.select v42 v645 v622
  v646
def k0_mult90 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_447 : BitVec 32 := 160#32
  let v645 : BitVec 32 := Scalar.addi v622 c160_i32_447
  let v646 : BitVec 32 := Scalar.select v42 v645 v622
  let v647 : BitVec 32 := v646
  let c0_i32_450 : BitVec 32 := 0#32
  let v650 : BitVec 32 := Scalar.addi v647 c0_i32_450
  v650
def k0_mult91 : BitVec 32 :=
  let c3424_i32 : BitVec 32 := 3424#32
  let c0_i32_451 : BitVec 32 := 0#32
  let v652 : BitVec 32 := Scalar.addi c3424_i32 c0_i32_451
  v652
def k0_off54 : Fin 2 → Nat :=
  let c3424_i32 : BitVec 32 := 3424#32
  let c0_i32_451 : BitVec 32 := 0#32
  let v652 : BitVec 32 := Scalar.addi c3424_i32 c0_i32_451
  let v653 : BitVec 32 := v652
  let c0_i32_458 : BitVec 32 := 0#32
  ![v653.toNat, 0]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_447 : BitVec 32 := 160#32
  let v645 : BitVec 32 := Scalar.addi v622 c160_i32_447
  let v646 : BitVec 32 := Scalar.select v42 v645 v622
  let v647 : BitVec 32 := v646
  let c0_i32_450 : BitVec 32 := 0#32
  let v650 : BitVec 32 := Scalar.addi v647 c0_i32_450
  let v651 : BitVec 32 := v650
  let c0_i32_459 : BitVec 32 := 0#32
  ![v651.toNat, 0]
def k0_dev20 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_449 : BitVec 32 := 3#32
  let v649 : BitVec 32 := Scalar.xori v2 c3_i32_449
  let c1_i32_456 : BitVec 32 := 1#32
  let v654 : BitVec 32 := Scalar.muli v649 c1_i32_456
  let v655 : BitVec 32 := Scalar.addi c0_i32_457 v654
  v655.toNat
def k0_mult92 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_447 : BitVec 32 := 160#32
  let v645 : BitVec 32 := Scalar.addi v622 c160_i32_447
  let v646 : BitVec 32 := Scalar.select v42 v645 v622
  let v647 : BitVec 32 := v646
  let c80_i32 : BitVec 32 := 80#32
  let c0_i32_448 : BitVec 32 := 0#32
  let v648 : BitVec 32 := Scalar.subi c80_i32 c0_i32_448
  let v663 : BitVec 32 := Scalar.addi v647 v648
  v663
def k0_mult93 : BitVec 32 :=
  let c3424_i32_461 : BitVec 32 := 3424#32
  let c80_i32 : BitVec 32 := 80#32
  let c0_i32_448 : BitVec 32 := 0#32
  let v648 : BitVec 32 := Scalar.subi c80_i32 c0_i32_448
  let v665 : BitVec 32 := Scalar.addi c3424_i32_461 v648
  v665
def k0_off56 : Fin 2 → Nat :=
  let c3424_i32_461 : BitVec 32 := 3424#32
  let c80_i32 : BitVec 32 := 80#32
  let c0_i32_448 : BitVec 32 := 0#32
  let v648 : BitVec 32 := Scalar.subi c80_i32 c0_i32_448
  let v665 : BitVec 32 := Scalar.addi c3424_i32_461 v648
  let v666 : BitVec 32 := v665
  let c0_i32_468 : BitVec 32 := 0#32
  ![v666.toNat, 0]
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_447 : BitVec 32 := 160#32
  let v645 : BitVec 32 := Scalar.addi v622 c160_i32_447
  let v646 : BitVec 32 := Scalar.select v42 v645 v622
  let v647 : BitVec 32 := v646
  let c80_i32 : BitVec 32 := 80#32
  let c0_i32_448 : BitVec 32 := 0#32
  let v648 : BitVec 32 := Scalar.subi c80_i32 c0_i32_448
  let v663 : BitVec 32 := Scalar.addi v647 v648
  let v664 : BitVec 32 := v663
  let c0_i32_469 : BitVec 32 := 0#32
  ![v664.toNat, 0]
def k0_dev21 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_460 : BitVec 32 := 3#32
  let v662 : BitVec 32 := Scalar.xori v2 c3_i32_460
  let c1_i32_466 : BitVec 32 := 1#32
  let v667 : BitVec 32 := Scalar.muli v662 c1_i32_466
  let v668 : BitVec 32 := Scalar.addi c0_i32_467 v667
  v668.toNat
def k0_mult94 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_356 : BitVec 32 := 176#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v514 : BitVec 32 := Scalar.subi c176_i32_356 v513
  let v681 : BitVec 32 := Scalar.addi v512 v514
  v681
def k0_off58 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_356 : BitVec 32 := 176#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v514 : BitVec 32 := Scalar.subi c176_i32_356 v513
  let v681 : BitVec 32 := Scalar.addi v512 v514
  let v683 : BitVec 32 := v681
  let v684 : Index := Scalar.indexCast v683
  let c0_479 : Index := 0#32
  ![v684.toNat, 0]
def k0_mult95 (d0 : Dev nD) : BitVec 32 :=
  let c704_i32_478 : BitVec 32 := 704#32
  let c176_i32_356 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v514 : BitVec 32 := Scalar.subi c176_i32_356 v513
  let v682 : BitVec 32 := Scalar.addi c704_i32_478 v514
  v682
def k0_off59 (d0 : Dev nD) : Fin 2 → Nat :=
  let c704_i32_478 : BitVec 32 := 704#32
  let c176_i32_356 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v514 : BitVec 32 := Scalar.subi c176_i32_356 v513
  let v682 : BitVec 32 := Scalar.addi c704_i32_478 v514
  let v686 : BitVec 32 := v682
  let v687 : Index := Scalar.indexCast v686
  let c0_480 : Index := 0#32
  ![v687.toNat, 0]
def k0_mult96 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_356 : BitVec 32 := 176#32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c176_i32_354 : BitVec 32 := 176#32
  let c0_i32_355 : BitVec 32 := 0#32
  let v513 : BitVec 32 := Scalar.select v43 c176_i32_354 c0_i32_355
  let v514 : BitVec 32 := Scalar.subi c176_i32_356 v513
  let v681 : BitVec 32 := Scalar.addi v512 v514
  v681
def k0_mult97 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_394 : BitVec 32 := 176#32
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v569 : BitVec 32 := Scalar.subi c176_i32_394 v568
  let v701 : BitVec 32 := Scalar.addi v567 v569
  v701
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_394 : BitVec 32 := 176#32
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v569 : BitVec 32 := Scalar.subi c176_i32_394 v568
  let v701 : BitVec 32 := Scalar.addi v567 v569
  let v703 : BitVec 32 := v701
  let v704 : Index := Scalar.indexCast v703
  let c0_491 : Index := 0#32
  ![v704.toNat, 0]
def k0_mult98 (d0 : Dev nD) : BitVec 32 :=
  let c1936_i32_490 : BitVec 32 := 1936#32
  let c176_i32_394 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v569 : BitVec 32 := Scalar.subi c176_i32_394 v568
  let v702 : BitVec 32 := Scalar.addi c1936_i32_490 v569
  v702
def k0_off61 (d0 : Dev nD) : Fin 2 → Nat :=
  let c1936_i32_490 : BitVec 32 := 1936#32
  let c176_i32_394 : BitVec 32 := 176#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v569 : BitVec 32 := Scalar.subi c176_i32_394 v568
  let v702 : BitVec 32 := Scalar.addi c1936_i32_490 v569
  let v706 : BitVec 32 := v702
  let v707 : Index := Scalar.indexCast v706
  let c0_492 : Index := 0#32
  ![v707.toNat, 0]
def k0_mult99 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_394 : BitVec 32 := 176#32
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c176_i32_392 : BitVec 32 := 176#32
  let c0_i32_393 : BitVec 32 := 0#32
  let v568 : BitVec 32 := Scalar.select v41 c176_i32_392 c0_i32_393
  let v569 : BitVec 32 := Scalar.subi c176_i32_394 v568
  let v701 : BitVec 32 := Scalar.addi v567 v569
  v701
def k0_mult100 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_434 : BitVec 32 := 160#32
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v624 : BitVec 32 := Scalar.subi c160_i32_434 v623
  let v721 : BitVec 32 := Scalar.addi v622 v624
  v721
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_434 : BitVec 32 := 160#32
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v624 : BitVec 32 := Scalar.subi c160_i32_434 v623
  let v721 : BitVec 32 := Scalar.addi v622 v624
  let v723 : BitVec 32 := v721
  let v724 : Index := Scalar.indexCast v723
  let c0_503 : Index := 0#32
  ![v724.toNat, 0]
def k0_mult101 (d0 : Dev nD) : BitVec 32 :=
  let c3104_i32_502 : BitVec 32 := 3104#32
  let c160_i32_434 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v624 : BitVec 32 := Scalar.subi c160_i32_434 v623
  let v722 : BitVec 32 := Scalar.addi c3104_i32_502 v624
  v722
def k0_off63 (d0 : Dev nD) : Fin 2 → Nat :=
  let c3104_i32_502 : BitVec 32 := 3104#32
  let c160_i32_434 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v624 : BitVec 32 := Scalar.subi c160_i32_434 v623
  let v722 : BitVec 32 := Scalar.addi c3104_i32_502 v624
  let v726 : BitVec 32 := v722
  let v727 : Index := Scalar.indexCast v726
  let c0_504 : Index := 0#32
  ![v727.toNat, 0]
def k0_mult102 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_434 : BitVec 32 := 160#32
  let c0_i32_15 : BitVec 32 := 0#32
  let v42 : BitVec 1 := Scalar.cmpi .eq v21 c0_i32_15
  let c160_i32_432 : BitVec 32 := 160#32
  let c0_i32_433 : BitVec 32 := 0#32
  let v623 : BitVec 32 := Scalar.select v42 c160_i32_432 c0_i32_433
  let v624 : BitVec 32 := Scalar.subi c160_i32_434 v623
  let v721 : BitVec 32 := Scalar.addi v622 v624
  v721
def k0_mult103 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  v736
def k0_mult104 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c0_i32_517 : BitVec 32 := 0#32
  let v745 : BitVec 32 := Scalar.addi v737 c0_i32_517
  v745
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c0_i32_517 : BitVec 32 := 0#32
  let v745 : BitVec 32 := Scalar.addi v737 c0_i32_517
  let v747 : BitVec 32 := v745
  let v748 : Index := Scalar.indexCast v747
  let c0_520 : Index := 0#32
  ![v748.toNat, 0]
def k0_mult105 : BitVec 32 :=
  let c1056_i32_518 : BitVec 32 := 1056#32
  let c0_i32_519 : BitVec 32 := 0#32
  let v746 : BitVec 32 := Scalar.addi c1056_i32_518 c0_i32_519
  v746
def k0_off65 (c1056_i32_518 : BitVec 32) : Fin 2 → Nat :=
  let c0_i32_519 : BitVec 32 := 0#32
  let v746 : BitVec 32 := Scalar.addi c1056_i32_518 c0_i32_519
  let v750 : BitVec 32 := v746
  let v751 : Index := Scalar.indexCast v750
  let c0_521 : Index := 0#32
  ![v751.toNat, 0]
def k0_mult106 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c0_i32_517 : BitVec 32 := 0#32
  let v745 : BitVec 32 := Scalar.addi v737 c0_i32_517
  v745
def k0_mult107 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  v760
def k0_mult108 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c0_i32_534 : BitVec 32 := 0#32
  let v769 : BitVec 32 := Scalar.addi v761 c0_i32_534
  v769
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c0_i32_534 : BitVec 32 := 0#32
  let v769 : BitVec 32 := Scalar.addi v761 c0_i32_534
  let v771 : BitVec 32 := v769
  let v772 : Index := Scalar.indexCast v771
  let c0_537 : Index := 0#32
  ![v772.toNat, 0]
def k0_mult109 : BitVec 32 :=
  let c2288_i32_535 : BitVec 32 := 2288#32
  let c0_i32_536 : BitVec 32 := 0#32
  let v770 : BitVec 32 := Scalar.addi c2288_i32_535 c0_i32_536
  v770
def k0_mult110 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c0_i32_534 : BitVec 32 := 0#32
  let v769 : BitVec 32 := Scalar.addi v761 c0_i32_534
  v769
def k0_mult111 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  v784
def k0_mult112 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c0_i32_551 : BitVec 32 := 0#32
  let v793 : BitVec 32 := Scalar.addi v785 c0_i32_551
  v793
def k0_off67 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c0_i32_551 : BitVec 32 := 0#32
  let v793 : BitVec 32 := Scalar.addi v785 c0_i32_551
  let v795 : BitVec 32 := v793
  let v796 : Index := Scalar.indexCast v795
  let c0_554 : Index := 0#32
  ![v796.toNat, 0]
def k0_mult113 : BitVec 32 :=
  let c3424_i32_552 : BitVec 32 := 3424#32
  let c0_i32_553 : BitVec 32 := 0#32
  let v794 : BitVec 32 := Scalar.addi c3424_i32_552 c0_i32_553
  v794
def k0_off68 : Fin 2 → Nat :=
  let c3424_i32_552 : BitVec 32 := 3424#32
  let c0_i32_553 : BitVec 32 := 0#32
  let v794 : BitVec 32 := Scalar.addi c3424_i32_552 c0_i32_553
  let v798 : BitVec 32 := v794
  let v799 : Index := Scalar.indexCast v798
  let c0_555 : Index := 0#32
  ![v799.toNat, 0]
def k0_mult114 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c0_i32_551 : BitVec 32 := 0#32
  let v793 : BitVec 32 := Scalar.addi v785 c0_i32_551
  v793
def k0_mult115 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c88_i32_507 : BitVec 32 := 88#32
  let c0_i32_508 : BitVec 32 := 0#32
  let v738 : BitVec 32 := Scalar.subi c88_i32_507 c0_i32_508
  let v813 : BitVec 32 := Scalar.addi v737 v738
  v813
def k0_off69 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c88_i32_507 : BitVec 32 := 88#32
  let c0_i32_508 : BitVec 32 := 0#32
  let v738 : BitVec 32 := Scalar.subi c88_i32_507 c0_i32_508
  let v813 : BitVec 32 := Scalar.addi v737 v738
  let v815 : BitVec 32 := v813
  let v816 : Index := Scalar.indexCast v815
  let c0_566 : Index := 0#32
  ![v816.toNat, 0]
def k0_mult116 : BitVec 32 :=
  let c1056_i32_565 : BitVec 32 := 1056#32
  let c88_i32_507 : BitVec 32 := 88#32
  let c0_i32_508 : BitVec 32 := 0#32
  let v738 : BitVec 32 := Scalar.subi c88_i32_507 c0_i32_508
  let v814 : BitVec 32 := Scalar.addi c1056_i32_565 v738
  v814
def k0_off70 (c1056_i32_565 : BitVec 32) : Fin 2 → Nat :=
  let c88_i32_507 : BitVec 32 := 88#32
  let c0_i32_508 : BitVec 32 := 0#32
  let v738 : BitVec 32 := Scalar.subi c88_i32_507 c0_i32_508
  let v814 : BitVec 32 := Scalar.addi c1056_i32_565 v738
  let v818 : BitVec 32 := v814
  let v819 : Index := Scalar.indexCast v818
  let c0_567 : Index := 0#32
  ![v819.toNat, 0]
def k0_mult117 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c88_i32_507 : BitVec 32 := 88#32
  let c0_i32_508 : BitVec 32 := 0#32
  let v738 : BitVec 32 := Scalar.subi c88_i32_507 c0_i32_508
  let v813 : BitVec 32 := Scalar.addi v737 v738
  v813
def k0_mult118 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  v832
def k0_mult119 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_574 : BitVec 32 := 176#32
  let v834 : BitVec 32 := Scalar.subi v737 c176_i32_574
  let v835 : BitVec 32 := Scalar.select v43 v737 v834
  v835
def k0_mult120 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_574 : BitVec 32 := 176#32
  let v834 : BitVec 32 := Scalar.subi v737 c176_i32_574
  let v835 : BitVec 32 := Scalar.select v43 v737 v834
  let v836 : BitVec 32 := v835
  let c352_i32_575 : BitVec 32 := 352#32
  let v837 : BitVec 32 := Scalar.subi v836 c352_i32_575
  let v838 : BitVec 32 := Scalar.select v42 v836 v837
  v838
def k0_mult121 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_574 : BitVec 32 := 176#32
  let v834 : BitVec 32 := Scalar.subi v737 c176_i32_574
  let v835 : BitVec 32 := Scalar.select v43 v737 v834
  let v836 : BitVec 32 := v835
  let c352_i32_575 : BitVec 32 := 352#32
  let v837 : BitVec 32 := Scalar.subi v836 c352_i32_575
  let v838 : BitVec 32 := Scalar.select v42 v836 v837
  let v839 : BitVec 32 := v838
  let c704_i32_576 : BitVec 32 := 704#32
  let v840 : BitVec 32 := Scalar.addi v839 c704_i32_576
  let c704_i32_577 : BitVec 32 := 704#32
  let v841 : BitVec 32 := Scalar.subi v839 c704_i32_577
  let v842 : BitVec 32 := Scalar.select v41 v840 v841
  v842
def k0_mult122 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  v845
def k0_mult123 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  let c176_i32_579 : BitVec 32 := 176#32
  let v847 : BitVec 32 := Scalar.addi v846 c176_i32_579
  let c176_i32_580 : BitVec 32 := 176#32
  let v848 : BitVec 32 := Scalar.subi v846 c176_i32_580
  let v849 : BitVec 32 := Scalar.select v43 v847 v848
  v849
def k0_mult124 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_mult125 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_off71 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let v852 : BitVec 32 := v737
  let c0_i32_586 : BitVec 32 := 0#32
  ![v852.toNat, 0]
def k0_dev22 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_569 : BitVec 32 := 4#32
  let v827 : BitVec 32 := Scalar.xori v2 c4_i32_569
  let c1_i32_584 : BitVec 32 := 1#32
  let v853 : BitVec 32 := Scalar.muli v827 c1_i32_584
  let v854 : BitVec 32 := Scalar.addi c0_i32_585 v853
  v854.toNat
def k0_mult126 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_mult127 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_dev23 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_570 : BitVec 32 := 3#32
  let v828 : BitVec 32 := Scalar.xori v2 c3_i32_570
  let c1_i32_591 : BitVec 32 := 1#32
  let v863 : BitVec 32 := Scalar.muli v828 c1_i32_591
  let v864 : BitVec 32 := Scalar.addi c0_i32_592 v863
  v864.toNat
def k0_mult128 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_mult129 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_dev24 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_571 : BitVec 32 := 1#32
  let v829 : BitVec 32 := Scalar.xori v2 c1_i32_571
  let c1_i32_598 : BitVec 32 := 1#32
  let v873 : BitVec 32 := Scalar.muli v829 c1_i32_598
  let v874 : BitVec 32 := Scalar.addi c0_i32_599 v873
  v874.toNat
def k0_mult130 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_mult131 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  v737
def k0_mult132 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c88_i32_524 : BitVec 32 := 88#32
  let c0_i32_525 : BitVec 32 := 0#32
  let v762 : BitVec 32 := Scalar.subi c88_i32_524 c0_i32_525
  let v893 : BitVec 32 := Scalar.addi v761 v762
  v893
def k0_off72 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c88_i32_524 : BitVec 32 := 88#32
  let c0_i32_525 : BitVec 32 := 0#32
  let v762 : BitVec 32 := Scalar.subi c88_i32_524 c0_i32_525
  let v893 : BitVec 32 := Scalar.addi v761 v762
  let v895 : BitVec 32 := v893
  let v896 : Index := Scalar.indexCast v895
  let c0_615 : Index := 0#32
  ![v896.toNat, 0]
def k0_mult133 : BitVec 32 :=
  let c2288_i32_614 : BitVec 32 := 2288#32
  let c88_i32_524 : BitVec 32 := 88#32
  let c0_i32_525 : BitVec 32 := 0#32
  let v762 : BitVec 32 := Scalar.subi c88_i32_524 c0_i32_525
  let v894 : BitVec 32 := Scalar.addi c2288_i32_614 v762
  v894
def k0_mult134 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c88_i32_524 : BitVec 32 := 88#32
  let c0_i32_525 : BitVec 32 := 0#32
  let v762 : BitVec 32 := Scalar.subi c88_i32_524 c0_i32_525
  let v893 : BitVec 32 := Scalar.addi v761 v762
  v893
def k0_mult135 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  v912
def k0_mult136 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_623 : BitVec 32 := 176#32
  let v914 : BitVec 32 := Scalar.subi v761 c176_i32_623
  let v915 : BitVec 32 := Scalar.select v41 v761 v914
  v915
def k0_mult137 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_623 : BitVec 32 := 176#32
  let v914 : BitVec 32 := Scalar.subi v761 c176_i32_623
  let v915 : BitVec 32 := Scalar.select v41 v761 v914
  let v916 : BitVec 32 := v915
  let c352_i32_624 : BitVec 32 := 352#32
  let v917 : BitVec 32 := Scalar.subi v916 c352_i32_624
  let v918 : BitVec 32 := Scalar.select v43 v916 v917
  v918
def k0_mult138 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_623 : BitVec 32 := 176#32
  let v914 : BitVec 32 := Scalar.subi v761 c176_i32_623
  let v915 : BitVec 32 := Scalar.select v41 v761 v914
  let v916 : BitVec 32 := v915
  let c352_i32_624 : BitVec 32 := 352#32
  let v917 : BitVec 32 := Scalar.subi v916 c352_i32_624
  let v918 : BitVec 32 := Scalar.select v43 v916 v917
  let v919 : BitVec 32 := v918
  let c704_i32_625 : BitVec 32 := 704#32
  let v920 : BitVec 32 := Scalar.addi v919 c704_i32_625
  let c704_i32_626 : BitVec 32 := 704#32
  let v921 : BitVec 32 := Scalar.subi v919 c704_i32_626
  let v922 : BitVec 32 := Scalar.select v42 v920 v921
  v922
def k0_mult139 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  v925
def k0_mult140 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  let c176_i32_629 : BitVec 32 := 176#32
  let v927 : BitVec 32 := Scalar.addi v926 c176_i32_629
  let c176_i32_630 : BitVec 32 := 176#32
  let v928 : BitVec 32 := Scalar.subi v926 c176_i32_630
  let v929 : BitVec 32 := Scalar.select v41 v927 v928
  v929
def k0_mult141 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_mult142 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_off73 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let v932 : BitVec 32 := v761
  let c0_i32_637 : BitVec 32 := 0#32
  ![v932.toNat, 0]
def k0_dev25 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_618 : BitVec 32 := 1#32
  let v907 : BitVec 32 := Scalar.xori v2 c1_i32_618
  let c1_i32_635 : BitVec 32 := 1#32
  let v933 : BitVec 32 := Scalar.muli v907 c1_i32_635
  let v934 : BitVec 32 := Scalar.addi c0_i32_636 v933
  v934.toNat
def k0_mult143 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_mult144 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_dev26 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_619 : BitVec 32 := 4#32
  let v908 : BitVec 32 := Scalar.xori v2 c4_i32_619
  let c1_i32_643 : BitVec 32 := 1#32
  let v943 : BitVec 32 := Scalar.muli v908 c1_i32_643
  let v944 : BitVec 32 := Scalar.addi c0_i32_644 v943
  v944.toNat
def k0_mult145 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_mult146 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_dev27 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_620 : BitVec 32 := 3#32
  let v909 : BitVec 32 := Scalar.xori v2 c3_i32_620
  let c1_i32_651 : BitVec 32 := 1#32
  let v953 : BitVec 32 := Scalar.muli v909 c1_i32_651
  let v954 : BitVec 32 := Scalar.addi c0_i32_652 v953
  v954.toNat
def k0_mult147 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_mult148 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  v761
def k0_mult149 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c80_i32_541 : BitVec 32 := 80#32
  let c0_i32_542 : BitVec 32 := 0#32
  let v786 : BitVec 32 := Scalar.subi c80_i32_541 c0_i32_542
  let v973 : BitVec 32 := Scalar.addi v785 v786
  v973
def k0_off74 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c80_i32_541 : BitVec 32 := 80#32
  let c0_i32_542 : BitVec 32 := 0#32
  let v786 : BitVec 32 := Scalar.subi c80_i32_541 c0_i32_542
  let v973 : BitVec 32 := Scalar.addi v785 v786
  let v975 : BitVec 32 := v973
  let v976 : Index := Scalar.indexCast v975
  let c0_668 : Index := 0#32
  ![v976.toNat, 0]
def k0_mult150 : BitVec 32 :=
  let c3424_i32_667 : BitVec 32 := 3424#32
  let c80_i32_541 : BitVec 32 := 80#32
  let c0_i32_542 : BitVec 32 := 0#32
  let v786 : BitVec 32 := Scalar.subi c80_i32_541 c0_i32_542
  let v974 : BitVec 32 := Scalar.addi c3424_i32_667 v786
  v974
def k0_off75 : Fin 2 → Nat :=
  let c3424_i32_667 : BitVec 32 := 3424#32
  let c80_i32_541 : BitVec 32 := 80#32
  let c0_i32_542 : BitVec 32 := 0#32
  let v786 : BitVec 32 := Scalar.subi c80_i32_541 c0_i32_542
  let v974 : BitVec 32 := Scalar.addi c3424_i32_667 v786
  let v978 : BitVec 32 := v974
  let v979 : Index := Scalar.indexCast v978
  let c0_669 : Index := 0#32
  ![v979.toNat, 0]
def k0_mult151 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c80_i32_541 : BitVec 32 := 80#32
  let c0_i32_542 : BitVec 32 := 0#32
  let v786 : BitVec 32 := Scalar.subi c80_i32_541 c0_i32_542
  let v973 : BitVec 32 := Scalar.addi v785 v786
  v973
def k0_mult152 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  v992
def k0_mult153 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_676 : BitVec 32 := 160#32
  let v994 : BitVec 32 := Scalar.subi v785 c160_i32_676
  let v995 : BitVec 32 := Scalar.select v42 v785 v994
  v995
def k0_mult154 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_676 : BitVec 32 := 160#32
  let v994 : BitVec 32 := Scalar.subi v785 c160_i32_676
  let v995 : BitVec 32 := Scalar.select v42 v785 v994
  let v996 : BitVec 32 := v995
  let c320_i32_677 : BitVec 32 := 320#32
  let v997 : BitVec 32 := Scalar.subi v996 c320_i32_677
  let v998 : BitVec 32 := Scalar.select v41 v996 v997
  v998
def k0_mult155 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_676 : BitVec 32 := 160#32
  let v994 : BitVec 32 := Scalar.subi v785 c160_i32_676
  let v995 : BitVec 32 := Scalar.select v42 v785 v994
  let v996 : BitVec 32 := v995
  let c320_i32_677 : BitVec 32 := 320#32
  let v997 : BitVec 32 := Scalar.subi v996 c320_i32_677
  let v998 : BitVec 32 := Scalar.select v41 v996 v997
  let v999 : BitVec 32 := v998
  let c640_i32_678 : BitVec 32 := 640#32
  let v1000 : BitVec 32 := Scalar.addi v999 c640_i32_678
  let c640_i32_679 : BitVec 32 := 640#32
  let v1001 : BitVec 32 := Scalar.subi v999 c640_i32_679
  let v1002 : BitVec 32 := Scalar.select v43 v1000 v1001
  v1002
def k0_mult156 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  v1005
def k0_mult157 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  let c160_i32_681 : BitVec 32 := 160#32
  let v1007 : BitVec 32 := Scalar.addi v1006 c160_i32_681
  let c160_i32_682 : BitVec 32 := 160#32
  let v1008 : BitVec 32 := Scalar.subi v1006 c160_i32_682
  let v1009 : BitVec 32 := Scalar.select v42 v1007 v1008
  v1009
def k0_mult158 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_mult159 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_off76 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let v1012 : BitVec 32 := v785
  let c0_i32_689 : BitVec 32 := 0#32
  ![v1012.toNat, 0]
def k0_dev28 (d0 : Dev nD) : Nat :=
  let c0_i32_688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_671 : BitVec 32 := 3#32
  let v987 : BitVec 32 := Scalar.xori v2 c3_i32_671
  let c1_i32_687 : BitVec 32 := 1#32
  let v1013 : BitVec 32 := Scalar.muli v987 c1_i32_687
  let v1014 : BitVec 32 := Scalar.addi c0_i32_688 v1013
  v1014.toNat
def k0_mult160 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_mult161 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_dev29 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_672 : BitVec 32 := 1#32
  let v988 : BitVec 32 := Scalar.xori v2 c1_i32_672
  let c1_i32_695 : BitVec 32 := 1#32
  let v1023 : BitVec 32 := Scalar.muli v988 c1_i32_695
  let v1024 : BitVec 32 := Scalar.addi c0_i32_696 v1023
  v1024.toNat
def k0_mult162 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_mult163 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_dev30 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_673 : BitVec 32 := 4#32
  let v989 : BitVec 32 := Scalar.xori v2 c4_i32_673
  let c1_i32_703 : BitVec 32 := 1#32
  let v1033 : BitVec 32 := Scalar.muli v989 c1_i32_703
  let v1034 : BitVec 32 := Scalar.addi c0_i32_704 v1033
  v1034.toNat
def k0_mult164 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_mult165 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  v785
def k0_mult166 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  let v833 : BitVec 32 := v832
  v833
def k0_mult167 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  let v833 : BitVec 32 := v832
  v833
def k0_off77 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  let v833 : BitVec 32 := v832
  let v1054 : BitVec 32 := v833
  let c0_i32_725 : BitVec 32 := 0#32
  ![v1054.toNat, 0]
def k0_dev31 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_570 : BitVec 32 := 3#32
  let v828 : BitVec 32 := Scalar.xori v2 c3_i32_570
  let c1_i32_723 : BitVec 32 := 1#32
  let v1055 : BitVec 32 := Scalar.muli v828 c1_i32_723
  let v1056 : BitVec 32 := Scalar.addi c0_i32_724 v1055
  v1056.toNat
def k0_mult168 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  let v833 : BitVec 32 := v832
  v833
def k0_mult169 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  let v833 : BitVec 32 := v832
  v833
def k0_dev32 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_571 : BitVec 32 := 1#32
  let v829 : BitVec 32 := Scalar.xori v2 c1_i32_571
  let c1_i32_730 : BitVec 32 := 1#32
  let v1065 : BitVec 32 := Scalar.muli v829 c1_i32_730
  let v1066 : BitVec 32 := Scalar.addi c0_i32_731 v1065
  v1066.toNat
def k0_mult170 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  let v833 : BitVec 32 := v832
  v833
def k0_mult171 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_572 : BitVec 32 := 176#32
  let v830 : BitVec 32 := Scalar.addi v737 c176_i32_572
  let c176_i32_573 : BitVec 32 := 176#32
  let v831 : BitVec 32 := Scalar.subi v737 c176_i32_573
  let v832 : BitVec 32 := Scalar.select v43 v830 v831
  let v833 : BitVec 32 := v832
  v833
def k0_mult172 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  let v913 : BitVec 32 := v912
  v913
def k0_mult173 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  let v913 : BitVec 32 := v912
  v913
def k0_off78 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  let v913 : BitVec 32 := v912
  let v1086 : BitVec 32 := v913
  let c0_i32_752 : BitVec 32 := 0#32
  ![v1086.toNat, 0]
def k0_dev33 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_619 : BitVec 32 := 4#32
  let v908 : BitVec 32 := Scalar.xori v2 c4_i32_619
  let c1_i32_750 : BitVec 32 := 1#32
  let v1087 : BitVec 32 := Scalar.muli v908 c1_i32_750
  let v1088 : BitVec 32 := Scalar.addi c0_i32_751 v1087
  v1088.toNat
def k0_mult174 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  let v913 : BitVec 32 := v912
  v913
def k0_mult175 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  let v913 : BitVec 32 := v912
  v913
def k0_dev34 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_620 : BitVec 32 := 3#32
  let v909 : BitVec 32 := Scalar.xori v2 c3_i32_620
  let c1_i32_758 : BitVec 32 := 1#32
  let v1097 : BitVec 32 := Scalar.muli v909 c1_i32_758
  let v1098 : BitVec 32 := Scalar.addi c0_i32_759 v1097
  v1098.toNat
def k0_mult176 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  let v913 : BitVec 32 := v912
  v913
def k0_mult177 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_621 : BitVec 32 := 176#32
  let v910 : BitVec 32 := Scalar.addi v761 c176_i32_621
  let c176_i32_622 : BitVec 32 := 176#32
  let v911 : BitVec 32 := Scalar.subi v761 c176_i32_622
  let v912 : BitVec 32 := Scalar.select v41 v910 v911
  let v913 : BitVec 32 := v912
  v913
def k0_mult178 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  let v993 : BitVec 32 := v992
  v993
def k0_mult179 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  let v993 : BitVec 32 := v992
  v993
def k0_off79 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  let v993 : BitVec 32 := v992
  let v1118 : BitVec 32 := v993
  let c0_i32_780 : BitVec 32 := 0#32
  ![v1118.toNat, 0]
def k0_dev35 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_672 : BitVec 32 := 1#32
  let v988 : BitVec 32 := Scalar.xori v2 c1_i32_672
  let c1_i32_778 : BitVec 32 := 1#32
  let v1119 : BitVec 32 := Scalar.muli v988 c1_i32_778
  let v1120 : BitVec 32 := Scalar.addi c0_i32_779 v1119
  v1120.toNat
def k0_mult180 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  let v993 : BitVec 32 := v992
  v993
def k0_mult181 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  let v993 : BitVec 32 := v992
  v993
def k0_dev36 (d0 : Dev nD) : Nat :=
  let c0_i32_787 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_673 : BitVec 32 := 4#32
  let v989 : BitVec 32 := Scalar.xori v2 c4_i32_673
  let c1_i32_786 : BitVec 32 := 1#32
  let v1129 : BitVec 32 := Scalar.muli v989 c1_i32_786
  let v1130 : BitVec 32 := Scalar.addi c0_i32_787 v1129
  v1130.toNat
def k0_mult182 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  let v993 : BitVec 32 := v992
  v993
def k0_mult183 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_674 : BitVec 32 := 160#32
  let v990 : BitVec 32 := Scalar.addi v785 c160_i32_674
  let c160_i32_675 : BitVec 32 := 160#32
  let v991 : BitVec 32 := Scalar.subi v785 c160_i32_675
  let v992 : BitVec 32 := Scalar.select v42 v990 v991
  let v993 : BitVec 32 := v992
  v993
def k0_mult184 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  v846
def k0_mult185 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  v846
def k0_off80 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  let v1150 : BitVec 32 := v846
  let c0_i32_807 : BitVec 32 := 0#32
  ![v1150.toNat, 0]
def k0_dev37 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_571 : BitVec 32 := 1#32
  let v829 : BitVec 32 := Scalar.xori v2 c1_i32_571
  let c1_i32_805 : BitVec 32 := 1#32
  let v1151 : BitVec 32 := Scalar.muli v829 c1_i32_805
  let v1152 : BitVec 32 := Scalar.addi c0_i32_806 v1151
  v1152.toNat
def k0_mult186 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  v846
def k0_mult187 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  v846
def k0_mult188 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  v926
def k0_mult189 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  v926
def k0_off81 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  let v1172 : BitVec 32 := v926
  let c0_i32_827 : BitVec 32 := 0#32
  ![v1172.toNat, 0]
def k0_dev38 (d0 : Dev nD) : Nat :=
  let c0_i32_826 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_620 : BitVec 32 := 3#32
  let v909 : BitVec 32 := Scalar.xori v2 c3_i32_620
  let c1_i32_825 : BitVec 32 := 1#32
  let v1173 : BitVec 32 := Scalar.muli v909 c1_i32_825
  let v1174 : BitVec 32 := Scalar.addi c0_i32_826 v1173
  v1174.toNat
def k0_mult190 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  v926
def k0_mult191 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  v926
def k0_mult192 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  v1006
def k0_mult193 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  v1006
def k0_off82 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  let v1194 : BitVec 32 := v1006
  let c0_i32_847 : BitVec 32 := 0#32
  ![v1194.toNat, 0]
def k0_dev39 (d0 : Dev nD) : Nat :=
  let c0_i32_846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_673 : BitVec 32 := 4#32
  let v989 : BitVec 32 := Scalar.xori v2 c4_i32_673
  let c1_i32_845 : BitVec 32 := 1#32
  let v1195 : BitVec 32 := Scalar.muli v989 c1_i32_845
  let v1196 : BitVec 32 := Scalar.addi c0_i32_846 v1195
  v1196.toNat
def k0_mult194 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  v1006
def k0_mult195 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  v1006
def k0_mult196 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  let c176_i32_579 : BitVec 32 := 176#32
  let v847 : BitVec 32 := Scalar.addi v846 c176_i32_579
  let c176_i32_580 : BitVec 32 := 176#32
  let v848 : BitVec 32 := Scalar.subi v846 c176_i32_580
  let v849 : BitVec 32 := Scalar.select v43 v847 v848
  let v850 : BitVec 32 := v849
  v850
def k0_mult197 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  let c176_i32_579 : BitVec 32 := 176#32
  let v847 : BitVec 32 := Scalar.addi v846 c176_i32_579
  let c176_i32_580 : BitVec 32 := 176#32
  let v848 : BitVec 32 := Scalar.subi v846 c176_i32_580
  let v849 : BitVec 32 := Scalar.select v43 v847 v848
  let v850 : BitVec 32 := v849
  v850
def k0_off83 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  let c176_i32_579 : BitVec 32 := 176#32
  let v847 : BitVec 32 := Scalar.addi v846 c176_i32_579
  let c176_i32_580 : BitVec 32 := 176#32
  let v848 : BitVec 32 := Scalar.subi v846 c176_i32_580
  let v849 : BitVec 32 := Scalar.select v43 v847 v848
  let v850 : BitVec 32 := v849
  let v1216 : BitVec 32 := v850
  let c0_i32_866 : BitVec 32 := 0#32
  ![v1216.toNat, 0]
def k0_dev40 (d0 : Dev nD) : Nat :=
  let c0_i32_865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_571 : BitVec 32 := 1#32
  let v829 : BitVec 32 := Scalar.xori v2 c1_i32_571
  let c1_i32_864 : BitVec 32 := 1#32
  let v1217 : BitVec 32 := Scalar.muli v829 c1_i32_864
  let v1218 : BitVec 32 := Scalar.addi c0_i32_865 v1217
  v1218.toNat
def k0_mult198 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  let c176_i32_579 : BitVec 32 := 176#32
  let v847 : BitVec 32 := Scalar.addi v846 c176_i32_579
  let c176_i32_580 : BitVec 32 := 176#32
  let v848 : BitVec 32 := Scalar.subi v846 c176_i32_580
  let v849 : BitVec 32 := Scalar.select v43 v847 v848
  let v850 : BitVec 32 := v849
  v850
def k0_mult199 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c352_i32_578 : BitVec 32 := 352#32
  let c_m352_i32 : BitVec 32 := 4294966944#32
  let v844 : BitVec 32 := Scalar.select v42 c352_i32_578 c_m352_i32
  let v845 : BitVec 32 := Scalar.addi v737 v844
  let v846 : BitVec 32 := v845
  let c176_i32_579 : BitVec 32 := 176#32
  let v847 : BitVec 32 := Scalar.addi v846 c176_i32_579
  let c176_i32_580 : BitVec 32 := 176#32
  let v848 : BitVec 32 := Scalar.subi v846 c176_i32_580
  let v849 : BitVec 32 := Scalar.select v43 v847 v848
  let v850 : BitVec 32 := v849
  v850
def k0_mult200 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  let c176_i32_629 : BitVec 32 := 176#32
  let v927 : BitVec 32 := Scalar.addi v926 c176_i32_629
  let c176_i32_630 : BitVec 32 := 176#32
  let v928 : BitVec 32 := Scalar.subi v926 c176_i32_630
  let v929 : BitVec 32 := Scalar.select v41 v927 v928
  let v930 : BitVec 32 := v929
  v930
def k0_mult201 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  let c176_i32_629 : BitVec 32 := 176#32
  let v927 : BitVec 32 := Scalar.addi v926 c176_i32_629
  let c176_i32_630 : BitVec 32 := 176#32
  let v928 : BitVec 32 := Scalar.subi v926 c176_i32_630
  let v929 : BitVec 32 := Scalar.select v41 v927 v928
  let v930 : BitVec 32 := v929
  v930
def k0_off84 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  let c176_i32_629 : BitVec 32 := 176#32
  let v927 : BitVec 32 := Scalar.addi v926 c176_i32_629
  let c176_i32_630 : BitVec 32 := 176#32
  let v928 : BitVec 32 := Scalar.subi v926 c176_i32_630
  let v929 : BitVec 32 := Scalar.select v41 v927 v928
  let v930 : BitVec 32 := v929
  let v1238 : BitVec 32 := v930
  let c0_i32_886 : BitVec 32 := 0#32
  ![v1238.toNat, 0]
def k0_dev41 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_620 : BitVec 32 := 3#32
  let v909 : BitVec 32 := Scalar.xori v2 c3_i32_620
  let c1_i32_884 : BitVec 32 := 1#32
  let v1239 : BitVec 32 := Scalar.muli v909 c1_i32_884
  let v1240 : BitVec 32 := Scalar.addi c0_i32_885 v1239
  v1240.toNat
def k0_mult202 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  let c176_i32_629 : BitVec 32 := 176#32
  let v927 : BitVec 32 := Scalar.addi v926 c176_i32_629
  let c176_i32_630 : BitVec 32 := 176#32
  let v928 : BitVec 32 := Scalar.subi v926 c176_i32_630
  let v929 : BitVec 32 := Scalar.select v41 v927 v928
  let v930 : BitVec 32 := v929
  v930
def k0_mult203 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_15 : BitVec 32 := 0#32
  let v42 : BitVec 1 := Scalar.cmpi .eq v21 c0_i32_15
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c352_i32_627 : BitVec 32 := 352#32
  let c_m352_i32_628 : BitVec 32 := 4294966944#32
  let v924 : BitVec 32 := Scalar.select v43 c352_i32_627 c_m352_i32_628
  let v925 : BitVec 32 := Scalar.addi v761 v924
  let v926 : BitVec 32 := v925
  let c176_i32_629 : BitVec 32 := 176#32
  let v927 : BitVec 32 := Scalar.addi v926 c176_i32_629
  let c176_i32_630 : BitVec 32 := 176#32
  let v928 : BitVec 32 := Scalar.subi v926 c176_i32_630
  let v929 : BitVec 32 := Scalar.select v41 v927 v928
  let v930 : BitVec 32 := v929
  v930
def k0_mult204 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  let c160_i32_681 : BitVec 32 := 160#32
  let v1007 : BitVec 32 := Scalar.addi v1006 c160_i32_681
  let c160_i32_682 : BitVec 32 := 160#32
  let v1008 : BitVec 32 := Scalar.subi v1006 c160_i32_682
  let v1009 : BitVec 32 := Scalar.select v42 v1007 v1008
  let v1010 : BitVec 32 := v1009
  v1010
def k0_mult205 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  let c160_i32_681 : BitVec 32 := 160#32
  let v1007 : BitVec 32 := Scalar.addi v1006 c160_i32_681
  let c160_i32_682 : BitVec 32 := 160#32
  let v1008 : BitVec 32 := Scalar.subi v1006 c160_i32_682
  let v1009 : BitVec 32 := Scalar.select v42 v1007 v1008
  let v1010 : BitVec 32 := v1009
  v1010
def k0_off85 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  let c160_i32_681 : BitVec 32 := 160#32
  let v1007 : BitVec 32 := Scalar.addi v1006 c160_i32_681
  let c160_i32_682 : BitVec 32 := 160#32
  let v1008 : BitVec 32 := Scalar.subi v1006 c160_i32_682
  let v1009 : BitVec 32 := Scalar.select v42 v1007 v1008
  let v1010 : BitVec 32 := v1009
  let v1260 : BitVec 32 := v1010
  let c0_i32_906 : BitVec 32 := 0#32
  ![v1260.toNat, 0]
def k0_dev42 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_673 : BitVec 32 := 4#32
  let v989 : BitVec 32 := Scalar.xori v2 c4_i32_673
  let c1_i32_904 : BitVec 32 := 1#32
  let v1261 : BitVec 32 := Scalar.muli v989 c1_i32_904
  let v1262 : BitVec 32 := Scalar.addi c0_i32_905 v1261
  v1262.toNat
def k0_mult206 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  let c160_i32_681 : BitVec 32 := 160#32
  let v1007 : BitVec 32 := Scalar.addi v1006 c160_i32_681
  let c160_i32_682 : BitVec 32 := 160#32
  let v1008 : BitVec 32 := Scalar.subi v1006 c160_i32_682
  let v1009 : BitVec 32 := Scalar.select v42 v1007 v1008
  let v1010 : BitVec 32 := v1009
  v1010
def k0_mult207 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c320_i32_680 : BitVec 32 := 320#32
  let c_m320_i32 : BitVec 32 := 4294966976#32
  let v1004 : BitVec 32 := Scalar.select v41 c320_i32_680 c_m320_i32
  let v1005 : BitVec 32 := Scalar.addi v785 v1004
  let v1006 : BitVec 32 := v1005
  let c160_i32_681 : BitVec 32 := 160#32
  let v1007 : BitVec 32 := Scalar.addi v1006 c160_i32_681
  let c160_i32_682 : BitVec 32 := 160#32
  let v1008 : BitVec 32 := Scalar.subi v1006 c160_i32_682
  let v1009 : BitVec 32 := Scalar.select v42 v1007 v1008
  let v1010 : BitVec 32 := v1009
  v1010
def k0_mult208 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_574 : BitVec 32 := 176#32
  let v834 : BitVec 32 := Scalar.subi v737 c176_i32_574
  let v835 : BitVec 32 := Scalar.select v43 v737 v834
  let v836 : BitVec 32 := v835
  let c352_i32_575 : BitVec 32 := 352#32
  let v837 : BitVec 32 := Scalar.subi v836 c352_i32_575
  let v838 : BitVec 32 := Scalar.select v42 v836 v837
  let v839 : BitVec 32 := v838
  let c704_i32_576 : BitVec 32 := 704#32
  let v840 : BitVec 32 := Scalar.addi v839 c704_i32_576
  let c704_i32_577 : BitVec 32 := 704#32
  let v841 : BitVec 32 := Scalar.subi v839 c704_i32_577
  let v842 : BitVec 32 := Scalar.select v41 v840 v841
  let v843 : BitVec 32 := v842
  v843
def k0_mult209 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_574 : BitVec 32 := 176#32
  let v834 : BitVec 32 := Scalar.subi v737 c176_i32_574
  let v835 : BitVec 32 := Scalar.select v43 v737 v834
  let v836 : BitVec 32 := v835
  let c352_i32_575 : BitVec 32 := 352#32
  let v837 : BitVec 32 := Scalar.subi v836 c352_i32_575
  let v838 : BitVec 32 := Scalar.select v42 v836 v837
  let v839 : BitVec 32 := v838
  let c704_i32_576 : BitVec 32 := 704#32
  let v840 : BitVec 32 := Scalar.addi v839 c704_i32_576
  let c704_i32_577 : BitVec 32 := 704#32
  let v841 : BitVec 32 := Scalar.subi v839 c704_i32_577
  let v842 : BitVec 32 := Scalar.select v41 v840 v841
  let v843 : BitVec 32 := v842
  v843
def k0_off86 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c0_i32_197 : BitVec 32 := 0#32
  let c0_i32_195 : BitVec 32 := 0#32
  let c704_i32_196 : BitVec 32 := 704#32
  let v282 : BitVec 32 := Scalar.addi c0_i32_195 c704_i32_196
  let v283 : BitVec 32 := Scalar.select v41 c0_i32_197 v282
  let v284 : BitVec 32 := v283
  let c352_i32_353 : BitVec 32 := 352#32
  let v510 : BitVec 32 := Scalar.addi v284 c352_i32_353
  let v511 : BitVec 32 := Scalar.select v42 v284 v510
  let v512 : BitVec 32 := v511
  let c176_i32_506 : BitVec 32 := 176#32
  let v735 : BitVec 32 := Scalar.addi v512 c176_i32_506
  let v736 : BitVec 32 := Scalar.select v43 v512 v735
  let v737 : BitVec 32 := v736
  let c176_i32_574 : BitVec 32 := 176#32
  let v834 : BitVec 32 := Scalar.subi v737 c176_i32_574
  let v835 : BitVec 32 := Scalar.select v43 v737 v834
  let v836 : BitVec 32 := v835
  let c352_i32_575 : BitVec 32 := 352#32
  let v837 : BitVec 32 := Scalar.subi v836 c352_i32_575
  let v838 : BitVec 32 := Scalar.select v42 v836 v837
  let v839 : BitVec 32 := v838
  let c704_i32_576 : BitVec 32 := 704#32
  let v840 : BitVec 32 := Scalar.addi v839 c704_i32_576
  let c704_i32_577 : BitVec 32 := 704#32
  let v841 : BitVec 32 := Scalar.subi v839 c704_i32_577
  let v842 : BitVec 32 := Scalar.select v41 v840 v841
  let v843 : BitVec 32 := v842
  let v1300 : BitVec 32 := v843
  let c0_i32_946 : BitVec 32 := 0#32
  ![v1300.toNat, 0]
def k0_mult210 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_623 : BitVec 32 := 176#32
  let v914 : BitVec 32 := Scalar.subi v761 c176_i32_623
  let v915 : BitVec 32 := Scalar.select v41 v761 v914
  let v916 : BitVec 32 := v915
  let c352_i32_624 : BitVec 32 := 352#32
  let v917 : BitVec 32 := Scalar.subi v916 c352_i32_624
  let v918 : BitVec 32 := Scalar.select v43 v916 v917
  let v919 : BitVec 32 := v918
  let c704_i32_625 : BitVec 32 := 704#32
  let v920 : BitVec 32 := Scalar.addi v919 c704_i32_625
  let c704_i32_626 : BitVec 32 := 704#32
  let v921 : BitVec 32 := Scalar.subi v919 c704_i32_626
  let v922 : BitVec 32 := Scalar.select v42 v920 v921
  let v923 : BitVec 32 := v922
  v923
def k0_mult211 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_623 : BitVec 32 := 176#32
  let v914 : BitVec 32 := Scalar.subi v761 c176_i32_623
  let v915 : BitVec 32 := Scalar.select v41 v761 v914
  let v916 : BitVec 32 := v915
  let c352_i32_624 : BitVec 32 := 352#32
  let v917 : BitVec 32 := Scalar.subi v916 c352_i32_624
  let v918 : BitVec 32 := Scalar.select v43 v916 v917
  let v919 : BitVec 32 := v918
  let c704_i32_625 : BitVec 32 := 704#32
  let v920 : BitVec 32 := Scalar.addi v919 c704_i32_625
  let c704_i32_626 : BitVec 32 := 704#32
  let v921 : BitVec 32 := Scalar.subi v919 c704_i32_626
  let v922 : BitVec 32 := Scalar.select v42 v920 v921
  let v923 : BitVec 32 := v922
  v923
def k0_off87 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let c0_i32_15 : BitVec 32 := 0#32
  let v42 : BitVec 1 := Scalar.cmpi .eq v21 c0_i32_15
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let v40 : BitVec 32 := Scalar.xori v3 v21
  let c0_i32_14 : BitVec 32 := 0#32
  let v41 : BitVec 1 := Scalar.cmpi .eq v40 c0_i32_14
  let c1408_i32_238 : BitVec 32 := 1408#32
  let c1408_i32_236 : BitVec 32 := 1408#32
  let c704_i32_237 : BitVec 32 := 704#32
  let v338 : BitVec 32 := Scalar.addi c1408_i32_236 c704_i32_237
  let v339 : BitVec 32 := Scalar.select v42 c1408_i32_238 v338
  let v340 : BitVec 32 := v339
  let c352_i32_391 : BitVec 32 := 352#32
  let v565 : BitVec 32 := Scalar.addi v340 c352_i32_391
  let v566 : BitVec 32 := Scalar.select v43 v340 v565
  let v567 : BitVec 32 := v566
  let c176_i32_523 : BitVec 32 := 176#32
  let v759 : BitVec 32 := Scalar.addi v567 c176_i32_523
  let v760 : BitVec 32 := Scalar.select v41 v567 v759
  let v761 : BitVec 32 := v760
  let c176_i32_623 : BitVec 32 := 176#32
  let v914 : BitVec 32 := Scalar.subi v761 c176_i32_623
  let v915 : BitVec 32 := Scalar.select v41 v761 v914
  let v916 : BitVec 32 := v915
  let c352_i32_624 : BitVec 32 := 352#32
  let v917 : BitVec 32 := Scalar.subi v916 c352_i32_624
  let v918 : BitVec 32 := Scalar.select v43 v916 v917
  let v919 : BitVec 32 := v918
  let c704_i32_625 : BitVec 32 := 704#32
  let v920 : BitVec 32 := Scalar.addi v919 c704_i32_625
  let c704_i32_626 : BitVec 32 := 704#32
  let v921 : BitVec 32 := Scalar.subi v919 c704_i32_626
  let v922 : BitVec 32 := Scalar.select v42 v920 v921
  let v923 : BitVec 32 := v922
  let v1330 : BitVec 32 := v923
  let c0_i32_982 : BitVec 32 := 0#32
  ![v1330.toNat, 0]
def k0_mult212 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_676 : BitVec 32 := 160#32
  let v994 : BitVec 32 := Scalar.subi v785 c160_i32_676
  let v995 : BitVec 32 := Scalar.select v42 v785 v994
  let v996 : BitVec 32 := v995
  let c320_i32_677 : BitVec 32 := 320#32
  let v997 : BitVec 32 := Scalar.subi v996 c320_i32_677
  let v998 : BitVec 32 := Scalar.select v41 v996 v997
  let v999 : BitVec 32 := v998
  let c640_i32_678 : BitVec 32 := 640#32
  let v1000 : BitVec 32 := Scalar.addi v999 c640_i32_678
  let c640_i32_679 : BitVec 32 := 640#32
  let v1001 : BitVec 32 := Scalar.subi v999 c640_i32_679
  let v1002 : BitVec 32 := Scalar.select v43 v1000 v1001
  let v1003 : BitVec 32 := v1002
  v1003
def k0_mult213 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_676 : BitVec 32 := 160#32
  let v994 : BitVec 32 := Scalar.subi v785 c160_i32_676
  let v995 : BitVec 32 := Scalar.select v42 v785 v994
  let v996 : BitVec 32 := v995
  let c320_i32_677 : BitVec 32 := 320#32
  let v997 : BitVec 32 := Scalar.subi v996 c320_i32_677
  let v998 : BitVec 32 := Scalar.select v41 v996 v997
  let v999 : BitVec 32 := v998
  let c640_i32_678 : BitVec 32 := 640#32
  let v1000 : BitVec 32 := Scalar.addi v999 c640_i32_678
  let c640_i32_679 : BitVec 32 := 640#32
  let v1001 : BitVec 32 := Scalar.subi v999 c640_i32_679
  let v1002 : BitVec 32 := Scalar.select v43 v1000 v1001
  let v1003 : BitVec 32 := v1002
  v1003
def k0_off88 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_7 : BitVec 32 := 0#32
  let v23 : BitVec 1 := Scalar.cmpi .sgt v2 c0_i32_7
  let v24 : BitVec 32 := Scalar.extui v23
  let c0_i32_8 : BitVec 32 := 0#32
  let v25 : BitVec 1 := Scalar.cmpi .slt v2 c0_i32_8
  let v26 : BitVec 32 := Scalar.extui v25
  let v27 : BitVec 32 := Scalar.subi v24 v26
  let c4_i32 : BitVec 32 := 4#32
  let c0_i32_9 : BitVec 32 := 0#32
  let v28 : BitVec 1 := Scalar.cmpi .sgt c4_i32 c0_i32_9
  let v29 : BitVec 32 := Scalar.extui v28
  let c0_i32_10 : BitVec 32 := 0#32
  let v30 : BitVec 1 := Scalar.cmpi .slt c4_i32 c0_i32_10
  let v31 : BitVec 32 := Scalar.extui v30
  let v32 : BitVec 32 := Scalar.subi v29 v31
  let v33 : BitVec 1 := Scalar.cmpi .ne v27 v32
  let v34 : BitVec 32 := Scalar.remsi v2 c4_i32
  let c0_i32_11 : BitVec 32 := 0#32
  let v35 : BitVec 1 := Scalar.cmpi .ne v34 c0_i32_11
  let v36 : BitVec 1 := Scalar.andi v33 v35
  let v22 : BitVec 32 := Scalar.divsi v2 c4_i32
  let c1_i32_12 : BitVec 32 := 1#32
  let v37 : BitVec 32 := Scalar.subi v22 c1_i32_12
  let v38 : BitVec 32 := Scalar.select v36 v37 v22
  let c1_i32_13 : BitVec 32 := 1#32
  let v39 : BitVec 32 := Scalar.andi v38 c1_i32_13
  let c0_i32_16 : BitVec 32 := 0#32
  let v43 : BitVec 1 := Scalar.cmpi .eq v39 c0_i32_16
  let c1_i32_0 : BitVec 32 := 1#32
  let v3 : BitVec 32 := Scalar.andi v2 c1_i32_0
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v2 c2_i32
  let c0_i32_4 : BitVec 32 := 0#32
  let v17 : BitVec 1 := Scalar.cmpi .ne v16 c0_i32_4
  let v18 : BitVec 1 := Scalar.andi v15 v17
  let v4 : BitVec 32 := Scalar.divsi v2 c2_i32
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.andi v20 c1_i32_6
  let v40 : BitVec 32 := Scalar.xori v3 v21
  let c0_i32_14 : BitVec 32 := 0#32
  let v41 : BitVec 1 := Scalar.cmpi .eq v40 c0_i32_14
  let c0_i32_15 : BitVec 32 := 0#32
  let v42 : BitVec 1 := Scalar.cmpi .eq v21 c0_i32_15
  let c2816_i32_279 : BitVec 32 := 2816#32
  let c2816_i32_277 : BitVec 32 := 2816#32
  let c640_i32_278 : BitVec 32 := 640#32
  let v394 : BitVec 32 := Scalar.addi c2816_i32_277 c640_i32_278
  let v395 : BitVec 32 := Scalar.select v43 c2816_i32_279 v394
  let v396 : BitVec 32 := v395
  let c320_i32_431 : BitVec 32 := 320#32
  let v620 : BitVec 32 := Scalar.addi v396 c320_i32_431
  let v621 : BitVec 32 := Scalar.select v41 v396 v620
  let v622 : BitVec 32 := v621
  let c160_i32_540 : BitVec 32 := 160#32
  let v783 : BitVec 32 := Scalar.addi v622 c160_i32_540
  let v784 : BitVec 32 := Scalar.select v42 v622 v783
  let v785 : BitVec 32 := v784
  let c160_i32_676 : BitVec 32 := 160#32
  let v994 : BitVec 32 := Scalar.subi v785 c160_i32_676
  let v995 : BitVec 32 := Scalar.select v42 v785 v994
  let v996 : BitVec 32 := v995
  let c320_i32_677 : BitVec 32 := 320#32
  let v997 : BitVec 32 := Scalar.subi v996 c320_i32_677
  let v998 : BitVec 32 := Scalar.select v41 v996 v997
  let v999 : BitVec 32 := v998
  let c640_i32_678 : BitVec 32 := 640#32
  let v1000 : BitVec 32 := Scalar.addi v999 c640_i32_678
  let c640_i32_679 : BitVec 32 := 640#32
  let v1001 : BitVec 32 := Scalar.subi v999 c640_i32_679
  let v1002 : BitVec 32 := Scalar.select v43 v1000 v1001
  let v1003 : BitVec 32 := v1002
  let v1360 : BitVec 32 := v1003
  let c0_i32_1018 : BitVec 32 := 0#32
  ![v1360.toNat, 0]
-- ==== ReferenceIdeal.lean ====
abbrev S32768x1024 : Shape := ⟨2, ![32768, 1024]⟩
abbrev S8x4096x1024 : Shape := ⟨3, ![8, 4096, 1024]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S8x4096x1024, .f32⟩
  | .hbm, ⟨3, _⟩ => ⟨S_, .f32⟩
  | .hbm, ⟨4, _⟩ => ⟨S4096x1024, .f32⟩
  | .hbm, ⟨5, _⟩ => ⟨S4096x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Tables.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

/-!
The tables of the all-reduce: three butterflies `b`, each over its own band of rows, each in three
stages. For every device the tables give the rows each transfer reads and writes, and its partner.
-/

@[expose] public section

namespace Cert.Butterfly

open Cert.KernelIdeal Cert.KernelIdeal.Gen
open Idealize.ShloMosaic

/-- The bit of device `c` that partner `j` flips: 0 when `c` keeps the low half of what it splits
    along `j`, 1 when it keeps the high half. -/
def bit (j : Fin 3) (c : Dev nD) : Nat :=
  match j with
  | 0 => ((c.val % 2) + (c.val / 2 % 2)) % 2
  | 1 => c.val / 2 % 2
  | 2 => c.val / 4

/-- The partner of device `c` in direction `j`: the device whose number differs by the mask 1, 3 or 4. -/
def peer (j : Fin 3) (c : Dev nD) : Dev nD :=
  match j with
  | 0 => ⟨c.val / 2 * 2 + (1 - c.val % 2), by have := c.isLt; simp only [nD] at *; omega⟩
  | 1 => ⟨c.val / 4 * 4 + (3 - c.val % 4), by have := c.isLt; simp only [nD] at *; omega⟩
  | 2 => ⟨(c.val + 4) % 8, by simp only [nD]; omega⟩

/-- The direction butterfly `b` takes at stage `s`. -/
abbrev dir (b s : Fin 3) : Fin 3 := b + s

/-- The first row of butterfly `b`'s band and the number of its rows. -/
def base (b : Fin 3) : Nat := match b with | 0 => 0 | 1 => 1408 | 2 => 2816
def tot (b : Fin 3) : Nat := match b with | 0 => 1408 | 1 => 1408 | 2 => 1280

/-- The rows device `c` still works on after stage `s`, and those it gives away at stage `s`. -/
def half (b s : Fin 3) : Nat := match s with | 0 => tot b / 2 | 1 => tot b / 4 | 2 => tot b / 8
def keep (b s : Fin 3) (c : Dev nD) : Nat := match s with
  | 0 => base b + bit (dir b 0) c * (tot b / 2)
  | 1 => base b + bit (dir b 0) c * (tot b / 2) + bit (dir b 1) c * (tot b / 4)
  | 2 => base b + bit (dir b 0) c * (tot b / 2) + bit (dir b 1) c * (tot b / 4) + bit (dir b 2) c * (tot b / 8)
def give (b s : Fin 3) (c : Dev nD) : Nat := match s with
  | 0 => base b + (1 - bit (dir b 0) c) * (tot b / 2)
  | 1 => base b + bit (dir b 0) c * (tot b / 2) + (1 - bit (dir b 1) c) * (tot b / 4)
  | 2 => base b + bit (dir b 0) c * (tot b / 2) + bit (dir b 1) c * (tot b / 4) + (1 - bit (dir b 2) c) * (tot b / 8)

/-- The landing region of stage `s` in the communication buffer. -/
def land (b s : Fin 3) : Nat := match b, s with
  | 0, 0 => 0 | 0, 1 => 704 | 0, 2 => 1056
  | 1, 0 => 1232 | 1, 1 => 1936 | 1, 2 => 2288
  | 2, 0 => 2464 | 2, 1 => 3104 | 2, 2 => 3424

/-- Reduce-scatter transfers: `r = 2 s + sub`, stage `s`, first piece (`sub = 0`, the rows needed first)
    or second. -/
def stg (r : Fin 6) : Fin 3 := match r with | 0 => 0 | 1 => 0 | 2 => 1 | 3 => 1 | 4 => 2 | 5 => 2
def rsz (b : Fin 3) (r : Fin 6) : Nat := match stg r with | 0 => tot b / 4 | 1 => tot b / 8 | 2 => tot b / 16
/-- Where the piece starts inside its half. -/
def rel (b : Fin 3) (r : Fin 6) (c : Dev nD) : Nat := match r with
  | 0 => (1 - bit (dir b 1) c) * (tot b / 4)
  | 1 => bit (dir b 1) c * (tot b / 4)
  | 2 => (1 - bit (dir b 2) c) * (tot b / 8)
  | 3 => bit (dir b 2) c * (tot b / 8)
  | 4 => 0
  | 5 => tot b / 16
/-- The rows piece `r` reads (its sender's buffer), the rows its landing is added to, and the landing rows. -/
def slo (b : Fin 3) (r : Fin 6) (c : Dev nD) : Nat := give b (stg r) c + rel b r c
def klo (b : Fin 3) (r : Fin 6) (c : Dev nD) : Nat := keep b (stg r) c + rel b r c
def clo (b : Fin 3) (r : Fin 6) (c : Dev nD) : Nat := land b (stg r) + rel b r c

/-- All-gather transfers `a`: their rows in the sender's buffer (the same rows of the receiver's),
    and their direction. -/
def gsz (b : Fin 3) : Nat := tot b / 8
def glo (b : Fin 3) (a : Fin 7) (c : Dev nD) : Nat := match a with
  | 0 => keep b 2 c | 1 => keep b 2 c | 3 => keep b 2 c
  | 2 => give b 2 c | 4 => give b 2 c
  | 5 => keep b 2 (peer (dir b 1) c)
  | 6 => give b 2 (peer (dir b 1) c)
def gdir (b : Fin 3) (a : Fin 7) : Fin 3 := match a with
  | 0 => dir b 2 | 1 => dir b 1 | 2 => dir b 1 | 3 => dir b 0 | 4 => dir b 0 | 5 => dir b 0 | 6 => dir b 0

/-- The copies out: five per butterfly. -/
def osz (b : Fin 3) (o : Fin 5) : Nat := match o with | 4 => tot b / 2 | _ => tot b / 8
def olo (b : Fin 3) (o : Fin 5) (c : Dev nD) : Nat := match o with
  | 0 => keep b 2 c | 1 => give b 2 c
  | 2 => keep b 2 (peer (dir b 1) c) | 3 => give b 2 (peer (dir b 1) c)
  | 4 => give b 0 c
/-- The copies in: two per butterfly. -/
def isz (b : Fin 3) : Nat := tot b / 2
def ilo (b : Fin 3) (h : Fin 2) : Nat := match h with | 0 => base b | 1 => base b + tot b / 2

/-- The place of each remote transfer in a device's order of sends. -/
def rpos (b : Fin 3) (r : Fin 6) : Nat := match r with
  | 0 => 2 * b.val | 1 => 2 * b.val + 1
  | 2 => 6 + 2 * b.val | 3 => 6 + 2 * b.val + 1
  | 4 => 12 + 2 * b.val | 5 => 12 + 2 * b.val + 1
def gpos (b : Fin 3) (a : Fin 7) : Nat := match a with
  | 0 => 18 + 3 * b.val | 1 => 18 + 3 * b.val + 1 | 3 => 18 + 3 * b.val + 2
  | 2 => 27 + 2 * b.val | 4 => 27 + 2 * b.val + 1
  | 5 => 33 + b.val | 6 => 36 + b.val

/-! ### Facts decided over the eight devices -/

/-- A partner's partner is the device itself. -/
theorem peer_peer : ∀ j c, peer j (peer j c) = c := by decide +kernel
/-- Each piece sent lies within the array, at an even row. -/
theorem slo_le : ∀ b r c, slo b r c + rsz b r ≤ 4096 ∧ 2 ∣ slo b r c := by decide +kernel
/-- Each piece added to lies within the array, at an even row. -/
theorem klo_le : ∀ b r c, klo b r c + rsz b r ≤ 4096 ∧ 2 ∣ klo b r c := by decide +kernel
/-- Each landing piece lies within the communication buffer, at an even row. -/
theorem clo_le : ∀ b r c, clo b r c + rsz b r ≤ 3584 ∧ 2 ∣ clo b r c := by decide +kernel
/-- Each pushed block lies within the array, at an even row. -/
theorem glo_le : ∀ b a c, glo b a c + gsz b ≤ 4096 ∧ 2 ∣ glo b a c := by decide +kernel
/-- Each block copied out lies within the array, at an even row. -/
theorem olo_le : ∀ b o c, olo b o c + osz b o ≤ 4096 ∧ 2 ∣ olo b o c := by decide +kernel
/-- Each half band copied in lies within the array, at an even row. -/
theorem ilo_le : ∀ b h, ilo b h + isz b ≤ 4096 ∧ 2 ∣ ilo b h := by decide +kernel
/-- The half a device keeps lies within the array, at an even row. -/
theorem keep_le : ∀ b c, keep b 0 c + isz b ≤ 4096 ∧ 2 ∣ keep b 0 c := by decide +kernel
theorem rsz_pos : ∀ b r, 0 < rsz b r ∧ 2 ∣ rsz b r := by decide +kernel
theorem osz_pos : ∀ b o, 0 < osz b o ∧ 2 ∣ osz b o := by decide +kernel
theorem isz_pos : ∀ b, 0 < isz b ∧ 2 ∣ isz b := by decide +kernel
theorem gsz_pos : ∀ b, 0 < gsz b ∧ 2 ∣ gsz b := by decide +kernel

end Cert.Butterfly
-- ==== Proof.Offsets.lean ====
module

public import proofs.«01_k».proof.Proof.Tables

/-!
The printed offset and device chains are the tables'.
-/

@[expose] public section

namespace Cert.Butterfly

open Cert.KernelIdeal Cert.KernelIdeal.Gen
open Idealize.ShloMosaic

set_option synthInstance.maxSize 100000
set_option synthInstance.maxHeartbeats 2000000
set_option maxRecDepth 20000

/-- The printed row offsets of the pieces a device gives away. -/
theorem off_send : ∀ c : Dev nD,
    k0_off1 c = ![slo 0 0 c, 0]
    ∧ k0_off3 c = ![slo 0 0 c, 0]
    ∧ k0_off4 c = ![slo 0 1 c, 0]
    ∧ k0_off6 c = ![slo 0 1 c, 0]
    ∧ k0_off7 c = ![slo 1 0 c, 0]
    ∧ k0_off8 c = ![slo 1 0 c, 0]
    ∧ k0_off9 c = ![slo 1 1 c, 0]
    ∧ k0_off10 c = ![slo 1 1 c, 0]
    ∧ k0_off11 c = ![slo 2 0 c, 0]
    ∧ k0_off13 c = ![slo 2 0 c, 0]
    ∧ k0_off14 c = ![slo 2 1 c, 0]
    ∧ k0_off16 c = ![slo 2 1 c, 0]
    ∧ k0_off23 c = ![slo 0 2 c, 0]
    ∧ k0_off25 c = ![slo 0 3 c, 0]
    ∧ k0_off28 c = ![slo 1 2 c, 0]
    ∧ k0_off30 c = ![slo 1 3 c, 0]
    ∧ k0_off34 c = ![slo 2 2 c, 0]
    ∧ k0_off36 c = ![slo 2 3 c, 0]
    ∧ k0_off45 c = ![slo 0 4 c, 0]
    ∧ k0_off47 c = ![slo 0 5 c, 0]
    ∧ k0_off50 c = ![slo 1 4 c, 0]
    ∧ k0_off51 c = ![slo 1 5 c, 0]
    ∧ k0_off55 c = ![slo 2 4 c, 0]
    ∧ k0_off57 c = ![slo 2 5 c, 0] := by
  decide +kernel

/-- The printed row offsets of the kept half and of the pieces added to. -/
theorem off_kept : ∀ c : Dev nD,
    k0_off17 c = ![keep 0 0 c, 0]
    ∧ k0_off18 c = ![keep 1 0 c, 0]
    ∧ k0_off19 c = ![keep 2 0 c, 0]
    ∧ k0_off20 c = ![klo 0 0 c, 0]
    ∧ k0_off26 c = ![klo 1 0 c, 0]
    ∧ k0_off31 c = ![klo 2 0 c, 0]
    ∧ k0_off37 c = ![klo 0 1 c, 0]
    ∧ k0_off39 c = ![klo 1 1 c, 0]
    ∧ k0_off40 c = ![klo 2 1 c, 0]
    ∧ k0_off42 c = ![klo 0 2 c, 0]
    ∧ k0_off48 c = ![klo 1 2 c, 0]
    ∧ k0_off52 c = ![klo 2 2 c, 0]
    ∧ k0_off58 c = ![klo 0 3 c, 0]
    ∧ k0_off60 c = ![klo 1 3 c, 0]
    ∧ k0_off62 c = ![klo 2 3 c, 0]
    ∧ k0_off64 c = ![klo 0 4 c, 0]
    ∧ k0_off66 c = ![klo 1 4 c, 0]
    ∧ k0_off67 c = ![klo 2 4 c, 0]
    ∧ k0_off69 c = ![klo 0 5 c, 0]
    ∧ k0_off72 c = ![klo 1 5 c, 0]
    ∧ k0_off74 c = ![klo 2 5 c, 0] := by
  decide +kernel

/-- The printed row offsets of the landing rows. -/
theorem off_land : ∀ c : Dev nD,
    k0_off2 c 0#32 2#32 = ![clo 0 0 c, 0]
    ∧ k0_off2 c 1232#32 4#32 = ![clo 1 0 c, 0]
    ∧ k0_off5 c 0#32 2#32 = ![clo 0 1 c, 0]
    ∧ k0_off5 c 1232#32 4#32 = ![clo 1 1 c, 0]
    ∧ k0_off12 c = ![clo 2 0 c, 0]
    ∧ k0_off15 c = ![clo 2 1 c, 0]
    ∧ k0_off21 c 0#32 2#32 = ![clo 0 0 c, 0]
    ∧ k0_off21 c 1232#32 4#32 = ![clo 1 0 c, 0]
    ∧ k0_off32 c = ![clo 2 0 c, 0]
    ∧ k0_off22 c = ![clo 0 2 c, 0]
    ∧ k0_off24 c = ![clo 0 3 c, 0]
    ∧ k0_off27 c = ![clo 1 2 c, 0]
    ∧ k0_off29 c = ![clo 1 3 c, 0]
    ∧ k0_off33 c = ![clo 2 2 c, 0]
    ∧ k0_off35 c = ![clo 2 3 c, 0]
    ∧ k0_off38 c 0#32 2#32 = ![clo 0 1 c, 0]
    ∧ k0_off38 c 1232#32 4#32 = ![clo 1 1 c, 0]
    ∧ k0_off41 c = ![clo 2 1 c, 0]
    ∧ k0_off43 c = ![clo 0 2 c, 0]
    ∧ k0_off49 c = ![clo 1 2 c, 0]
    ∧ k0_off53 c = ![clo 2 2 c, 0]
    ∧ k0_off59 c = ![clo 0 3 c, 0]
    ∧ k0_off61 c = ![clo 1 3 c, 0]
    ∧ k0_off63 c = ![clo 2 3 c, 0] := by
  decide +kernel

/-- The printed row offsets of the all-gather and of the last copies out. -/
theorem off_gather : ∀ c : Dev nD,
    k0_off71 c = ![glo 0 0 c, 0]
    ∧ k0_off73 c = ![glo 1 0 c, 0]
    ∧ k0_off76 c = ![glo 2 0 c, 0]
    ∧ k0_off77 c = ![glo 0 2 c, 0]
    ∧ k0_off78 c = ![glo 1 2 c, 0]
    ∧ k0_off79 c = ![glo 2 2 c, 0]
    ∧ k0_off80 c = ![glo 0 5 c, 0]
    ∧ k0_off81 c = ![glo 1 5 c, 0]
    ∧ k0_off82 c = ![glo 2 5 c, 0]
    ∧ k0_off83 c = ![glo 0 6 c, 0]
    ∧ k0_off84 c = ![glo 1 6 c, 0]
    ∧ k0_off85 c = ![glo 2 6 c, 0]
    ∧ k0_off86 c = ![olo 0 4 c, 0]
    ∧ k0_off87 c = ![olo 1 4 c, 0]
    ∧ k0_off88 c = ![olo 2 4 c, 0] := by
  decide +kernel

/-- The printed target devices. -/
theorem dev_table : ∀ c : Dev nD,
    k0_dev1 c = (peer 0 c).val
    ∧ k0_dev2 c = (peer 1 c).val
    ∧ k0_dev3 c = (peer 2 c).val
    ∧ k0_dev4 c = (peer 0 c).val
    ∧ k0_dev5 c = (peer 0 c).val
    ∧ k0_dev6 c = (peer 1 c).val
    ∧ k0_dev7 c = (peer 1 c).val
    ∧ k0_dev8 c = (peer 2 c).val
    ∧ k0_dev9 c = (peer 2 c).val
    ∧ k0_dev10 c = (peer 1 c).val
    ∧ k0_dev11 c = (peer 1 c).val
    ∧ k0_dev12 c = (peer 2 c).val
    ∧ k0_dev13 c = (peer 2 c).val
    ∧ k0_dev14 c = (peer 0 c).val
    ∧ k0_dev15 c = (peer 0 c).val
    ∧ k0_dev16 c = (peer 2 c).val
    ∧ k0_dev17 c = (peer 2 c).val
    ∧ k0_dev18 c = (peer 0 c).val
    ∧ k0_dev19 c = (peer 0 c).val
    ∧ k0_dev20 c = (peer 1 c).val
    ∧ k0_dev21 c = (peer 1 c).val
    ∧ k0_dev22 c = (peer 2 c).val
    ∧ k0_dev23 c = (peer 1 c).val
    ∧ k0_dev24 c = (peer 0 c).val
    ∧ k0_dev25 c = (peer 0 c).val
    ∧ k0_dev26 c = (peer 2 c).val
    ∧ k0_dev27 c = (peer 1 c).val
    ∧ k0_dev28 c = (peer 1 c).val
    ∧ k0_dev29 c = (peer 0 c).val
    ∧ k0_dev30 c = (peer 2 c).val
    ∧ k0_dev31 c = (peer 1 c).val
    ∧ k0_dev32 c = (peer 0 c).val
    ∧ k0_dev33 c = (peer 2 c).val
    ∧ k0_dev34 c = (peer 1 c).val
    ∧ k0_dev35 c = (peer 0 c).val
    ∧ k0_dev36 c = (peer 2 c).val
    ∧ k0_dev37 c = (peer 0 c).val
    ∧ k0_dev38 c = (peer 1 c).val
    ∧ k0_dev39 c = (peer 2 c).val
    ∧ k0_dev40 c = (peer 0 c).val
    ∧ k0_dev41 c = (peer 1 c).val
    ∧ k0_dev42 c = (peer 2 c).val := by
  decide +kernel

/-- The landing rows of the last stage do not depend on the device. -/
theorem off_land2 : k0_off44 1056#32 = ![1056, 0] ∧ k0_off44 2288#32 = ![2288, 0] ∧ k0_off54 = ![3424, 0]
    ∧ k0_off46 1056#32 = ![1144, 0] ∧ k0_off46 2288#32 = ![2376, 0] ∧ k0_off56 = ![3504, 0]
    ∧ k0_off65 1056#32 = ![1056, 0] ∧ k0_off65 2288#32 = ![2288, 0] ∧ k0_off68 = ![3424, 0]
    ∧ k0_off70 1056#32 = ![1144, 0] ∧ k0_off70 2288#32 = ![2376, 0] ∧ k0_off75 = ![3504, 0] := by
  decide +kernel

end Cert.Butterfly
-- ==== Proof.Events.lean ====
module

public import proofs.«01_k».proof.Proof.Offsets

/-!
The kernel's body as a list of steps, each over the tables: copies in, signals, the pieces of the
reduce-scatter, the all-gather, copies out and the closing waits.
-/

@[expose] public section

noncomputable section

namespace Cert.Butterfly

open Cert.KernelIdeal Cert.KernelIdeal.Gen
open Idealize.ShloMosaic Idealize.ShloMosaic.TcCoe
open Idealize.SL.Sem

variable {F : FTy → Type} [FloatOps F]

/-- Programs of the kernel on a TensorCore. -/
abbrev PT (F : FTy → Type) [FloatOps F] := Prog (TpuEff nD τ sig (Elt F) Λ₀ .tc) PUnit

/-- The five buffers: the argument, the result, and the three scratch buffers. -/
abbrev xM : Memref sig .tc .hbm S4096x1024 .bf16 := Memref.whole main_arg0
abbrev oM : Memref sig .tc .hbm S4096x1024 .bf16 := Memref.whole main_v1
abbrev gM : Memref sig .tc .vmem S4096x1024 .bf16 := Memref.whole cc0_scratch0
abbrev vM : Memref sig .tc .vmem S4096x1024 .bf16 := Memref.whole cc0_scratch1
abbrev cM : Memref sig .tc .vmem S3584x1024 .bf16 := Memref.whole cc0_scratch2

/-- `n` rows of 1024 lanes, as a shape. -/
abbrev Sn (n : Nat) : Shape := ⟨2, ![n, 1024]⟩

/-- Offset `o` starts a block of `n` rows inside a buffer of `R` rows, at an even row. -/
abbrev Good (R n : Nat) (o : Fin 2 → Nat) : Prop := o 0 + n ≤ R ∧ o 1 = 0 ∧ 2 ∣ o 0

theorem Good.inb {R n : Nat} {o : Fin 2 → Nat} (h : Good R n o) : ∀ i, o i + (Sn n).size i ≤ (Sn R).size i :=
  Rect.inb₂ h.1 (by rw [h.2.1]; exact Nat.le_refl _)

theorem good {R a n : Nat} (h : a + n ≤ R ∧ 2 ∣ a) : Good R n ![a, 0] := ⟨h.1, rfl, h.2⟩

/-- The rectangle of `n` rows at `o`. -/
abbrev rc (R n : Nat) (o : Fin 2 → Nat) (h : Good R n o) : Rect (Sn R) := Rect.unit (s := Sn R) o (Sn n).size h.inb

theorem rc_packed {R n : Nat} {o : Fin 2 → Nat} (h : Good R n o) (hn : 0 < n ∧ 2 ∣ n) : (rc R n o h).PackedRows (EltTy.packing .bf16) :=
  .inr ⟨Nat.le_refl 2, rfl, .inl ⟨h.2.2, hn.2⟩⟩

theorem rows_numel_pos {n : Nat} (h : 0 < n) : 0 < (Sn n).numel :=
  Shape.numel_pos fun a => by
    match a with
    | 0 => exact h
    | 1 => exact Nat.succ_pos _

/-- A slice of rows. -/
abbrev sl {sp : Space} {R : Nat} (M : Memref sig .tc sp (Sn R) .bf16) (n : Nat) (o : Fin 2 → Nat) (h : Good R n o) :
    Memref sig .tc sp (Sn n) .bf16 :=
  M.slice (rc R n o h) (fun _ => rfl)

theorem sl_exact {sp : Space} {R n : Nat} {o : Fin 2 → Nat} (M : Memref sig .tc sp (Sn R) .bf16) (hM : M.IsWhole)
    (hl : Kind.tc.statesLayout sp = true) (h : Good R n o) (hn : 0 < n ∧ 2 ∣ n) : (sl M n o h).view.WordExact :=
  hM.wordExact_slice hl _ (rc_packed h hn).wholeWords

/-! ### Semaphores -/

def inS (b : Fin 3) (h : Fin 2) : DmaSem sig := ⟨2 * b.val + h.val, by have := b.isLt; have := h.isLt; show _ < 99; omega⟩
def outS (b : Fin 3) (o : Fin 5) : DmaSem sig := ⟨6 + 5 * b.val + o.val, by have := b.isLt; have := o.isLt; show _ < 99; omega⟩
def srS (b : Fin 3) (r : Fin 6) : DmaSem sig := ⟨21 + 3 * r.val + b.val, by have := b.isLt; have := r.isLt; show _ < 99; omega⟩
def sgS (b : Fin 3) (a : Fin 7) : DmaSem sig := ⟨39 + 3 * a.val + b.val, by have := b.isLt; have := a.isLt; show _ < 99; omega⟩
def rrS (b : Fin 3) (r : Fin 6) : DmaSem sig := ⟨60 + 3 * r.val + b.val, by have := b.isLt; have := r.isLt; show _ < 99; omega⟩
def rgS (b : Fin 3) (a : Fin 7) : DmaSem sig := ⟨78 + 3 * a.val + b.val, by have := b.isLt; have := a.isLt; show _ < 99; omega⟩
abbrev barS : Sem sig := (SemArray.scalar (sig.barrier 0 rfl) : Sems sig S_).sem

/-! ### Values stored -/

theorem sc_self (n : Nat) : (Sn n).ShapeCasts (Sn n) := rfl

def payCopy {n : Nat} (v : Vec F (Sn n) .bf16) : FVec F (Sn n) .bf16 := shapeCast (Sn n) v (sc_self n)
def payAdd {n : Nat} (v w : Vec F (Sn n) .bf16) : FVec F (Sn n) .bf16 := shapeCast (Sn n) (addf v w) (sc_self n)

/-! ### Steps at given offsets -/

section
variable (n : Nat) (hn : 0 < n ∧ 2 ∣ n) (o : Fin 2 → Nat) (h : Good 4096 n o) (o' : Fin 2 → Nat) (h' : Good 3584 n o')

def gIn (s : DmaSem sig) : PT F :=
  .op (.enqueueDma (sl xM n o h) (.here (sl vM n o h)) (.dma s) (sl_exact _ (Memref.isWhole_whole _) rfl h hn) (sl_exact _ (Memref.isWhole_whole _) rfl h hn) ⟨Or.inl rfl, trivial⟩) .ret
def gInWait (s : DmaSem sig) : PT F :=
  .op (.waitDma2 s (sl xM n o h) (sl vM n o h) (sl_exact _ (Memref.isWhole_whole _) rfl h hn) (sl_exact _ (Memref.isWhole_whole _) rfl h hn)) .ret
def gOut (s : DmaSem sig) : PT F :=
  .op (.enqueueDma (sl gM n o h) (.here (sl oM n o h)) (.dma s) (sl_exact _ (Memref.isWhole_whole _) rfl h hn) (sl_exact _ (Memref.isWhole_whole _) rfl h hn) ⟨Or.inl rfl, trivial⟩) .ret
def gOutWait (s : DmaSem sig) : PT F :=
  .op (.waitDma2 s (sl gM n o h) (sl oM n o h) (sl_exact _ (Memref.isWhole_whole _) rfl h hn) (sl_exact _ (Memref.isWhole_whole _) rfl h hn)) .ret
def gSend (d : Dev nD) (s r : DmaSem sig) : PT F :=
  .op (.enqueueDma (sl gM n o h) (.remote (Dev.tc d) (sl cM n o' h') (.dma s)) (.dma r) (sl_exact _ (Memref.isWhole_whole _) rfl h hn) (sl_exact _ (Memref.isWhole_whole _) rfl h' hn) ⟨⟨rfl, Or.inl rfl⟩, trivial⟩) .ret
def gRecv (s : DmaSem sig) : PT F :=
  .op (.waitDma2 s (sl gM n o h) (sl cM n o' h') (sl_exact _ (Memref.isWhole_whole _) rfl h hn) (sl_exact _ (Memref.isWhole_whole _) rfl h' hn)) .ret
def gSent (s : DmaSem sig) : PT F :=
  .op (.waitDma2 s (sl cM n o' h') (sl gM n o h) (sl_exact _ (Memref.isWhole_whole _) rfl h' hn) (sl_exact _ (Memref.isWhole_whole _) rfl h hn)) .ret
def gPush (d : Dev nD) (s r : DmaSem sig) : PT F :=
  .op (.enqueueDma (sl gM n o h) (.remote (Dev.tc d) (sl gM n o h) (.dma s)) (.dma r) (sl_exact _ (Memref.isWhole_whole _) rfl h hn) (sl_exact _ (Memref.isWhole_whole _) rfl h hn) ⟨⟨rfl, Or.inl rfl⟩, trivial⟩) .ret
def gPull (s : DmaSem sig) : PT F :=
  .op (.waitDma2 s (sl gM n o h) (sl gM n o h) (sl_exact _ (Memref.isWhole_whole _) rfl h hn) (sl_exact _ (Memref.isWhole_whole _) rfl h hn)) .ret

variable {α : Type}
def ldV (k : Vec F (Sn n) .bf16 → Prog (TpuEff nD τ sig (Elt F) Λ₀ .tc) α) : Prog (TpuEff nD τ sig (Elt F) Λ₀ .tc) α :=
  .op (.load vM (rc 4096 n o h).toLoadRect (View.loadsAt_vmem (rows_numel_pos hn.1))) k
def ldG (k : Vec F (Sn n) .bf16 → Prog (TpuEff nD τ sig (Elt F) Λ₀ .tc) α) : Prog (TpuEff nD τ sig (Elt F) Λ₀ .tc) α :=
  .op (.load gM (rc 4096 n o h).toLoadRect (View.loadsAt_vmem (rows_numel_pos hn.1))) k
def ldC (k : Vec F (Sn n) .bf16 → Prog (TpuEff nD τ sig (Elt F) Λ₀ .tc) α) : Prog (TpuEff nD τ sig (Elt F) Λ₀ .tc) α :=
  .op (.load cM (rc 3584 n o' h').toLoadRect (View.loadsAt_vmem (rows_numel_pos hn.1))) k
def stG (v : FVec F (Sn n) .bf16) (k : PUnit → Prog (TpuEff nD τ sig (Elt F) Λ₀ .tc) α) : Prog (TpuEff nD τ sig (Elt F) Λ₀ .tc) α :=
  .op (.store gM (rc 4096 n o h) v Finset.univ
    (View.stores_vmem (rows_numel_pos hn.1) ((Memref.isWhole_whole _).storeExact_slice rfl _ (rc_packed h hn)) (fun _ => rfl)) (.inl rfl)) k

/-- Copy `n` rows from the loaded argument to the gather buffer. -/
def gCopy : PT F := ldV n hn o h fun v => ldG n hn o h fun _ => stG n hn o h (payCopy v) .ret
/-- Add `n` landed rows to the gather buffer's. -/
def gAdd : PT F := ldG n hn o h fun v => ldC n hn o' h' fun w => ldG n hn o h fun _ => stG n hn o h (payAdd v w) .ret
end

/-! ### The kernel's steps -/

variable (c : Dev nD)

def evIn (b : Fin 3) (h : Fin 2) : PT F := gIn (isz b) (isz_pos b) ![ilo b h, 0] (good (ilo_le b h)) (inS b h)
def evInWait (b : Fin 3) (h : Fin 2) : PT F := gInWait (isz b) (isz_pos b) ![ilo b h, 0] (good (ilo_le b h)) (inS b h)

def evSig (j : Fin 3) : PT F := semSignalWord (peer j c) barS 1#32
def evBar : PT F := semWaitWord barS 3#32

def evPrep (b : Fin 3) (r : Fin 6) : PT F := gCopy (rsz b r) (rsz_pos b r) ![slo b r c, 0] (good (slo_le b r c))
def evKeep (b : Fin 3) : PT F := gCopy (isz b) (isz_pos b) ![keep b 0 c, 0] (good (keep_le b c))

/-- Send piece `r`. -/
def evSend (b : Fin 3) (r : Fin 6) : PT F :=
  gSend (rsz b r) (rsz_pos b r) ![slo b r c, 0] (good (slo_le b r c)) ![clo b r c, 0] (good (clo_le b r c)) (peer (dir b (stg r)) c) (srS b r) (rrS b r)
/-- Wait until the partner's piece `r` has landed. -/
def evRecv (b : Fin 3) (r : Fin 6) : PT F :=
  gRecv (rsz b r) (rsz_pos b r) ![slo b r c, 0] (good (slo_le b r c)) ![clo b r c, 0] (good (clo_le b r c)) (rrS b r)
/-- Wait until the own piece `r` has left. -/
def evSent (b : Fin 3) (r : Fin 6) : PT F :=
  gSent (rsz b r) (rsz_pos b r) ![slo b r c, 0] (good (slo_le b r c)) ![clo b r c, 0] (good (clo_le b r c)) (srS b r)
/-- Add the landed piece `r` to the own rows. -/
def evAdd (b : Fin 3) (r : Fin 6) : PT F :=
  gAdd (rsz b r) (rsz_pos b r) ![klo b r c, 0] (good (klo_le b r c)) ![clo b r c, 0] (good (clo_le b r c))

/-- Push finished rows `a` to the same rows of a partner. -/
def evPush (b : Fin 3) (a : Fin 7) : PT F :=
  gPush (gsz b) (gsz_pos b) ![glo b a c, 0] (good (glo_le b a c)) (peer (gdir b a) c) (sgS b a) (rgS b a)
/-- Wait on the arrival of pushed rows `a`. -/
def evPull (b : Fin 3) (a : Fin 7) : PT F := gPull (gsz b) (gsz_pos b) ![glo b a c, 0] (good (glo_le b a c)) (rgS b a)
/-- Wait until the own push `a` has left. -/
def evPushed (b : Fin 3) (a : Fin 7) : PT F := gPull (gsz b) (gsz_pos b) ![glo b a c, 0] (good (glo_le b a c)) (sgS b a)

def evOut (b : Fin 3) (o : Fin 5) : PT F := gOut (osz b o) (osz_pos b o) ![olo b o c, 0] (good (olo_le b o c)) (outS b o)
def evOutWait (b : Fin 3) (o : Fin 5) : PT F := gOutWait (osz b o) (osz_pos b o) ![olo b o c, 0] (good (olo_le b o c)) (outS b o)

/-- Run steps one after another, then `t`. -/
def runsK {α : Type} : List (PT F) → Prog (TpuEff nD τ sig (Elt F) Λ₀ .tc) α → Prog (TpuEff nD τ sig (Elt F) Λ₀ .tc) α
  | [], t => t
  | e :: l, t => e >>= fun _ => runsK l t

/-- Running two lists of steps one after the other is running their concatenation. -/
theorem runsK_append {α : Type} (l l' : List (PT F)) (t : Prog (TpuEff nD τ sig (Elt F) Λ₀ .tc) α) :
    runsK (l ++ l') t = runsK l (runsK l' t) := by
  induction l with
  | nil => rfl
  | cons e l ih => simp only [List.cons_append, runsK, ih]

/-- A list of steps followed by a program is the steps run before that program. -/
theorem runsK_bind {α β : Type} (l : List (PT F)) (t : Prog (TpuEff nD τ sig (Elt F) Λ₀ .tc) α)
    (k : α → Prog (TpuEff nD τ sig (Elt F) Λ₀ .tc) β) : runsK l t >>= k = runsK l (t >>= k) := by
  induction l with
  | nil => rfl
  | cons e l ih =>
    show (e >>= fun _ => runsK l t) >>= k = e >>= fun _ => runsK l (t >>= k)
    rw [Idealize.SL.Sem.Prog.bind_assoc]
    simp only [ih]

abbrev runs (l : List (PT F)) : PT F := runsK l (.ret PUnit.unit)

/-- A phase for each butterfly in turn. -/
def each (f : Fin 3 → List (PT F)) : List (PT F) := f 0 ++ f 1 ++ f 2

def phIn (b : Fin 3) : List (PT F) := [evIn b 0, evIn b 1]
def phBar : List (PT F) := [evSig c 0, evSig c 1, evSig c 2, evBar]
def phPrep (b : Fin 3) : List (PT F) := [evInWait b 0, evInWait b 1, evPrep c b 0, evSend c b 0, evPrep c b 1, evSend c b 1]
def phKeep (b : Fin 3) : List (PT F) := [evKeep c b]
def phA0 (b : Fin 3) : List (PT F) := [evRecv c b 0, evAdd c b 0, evSend c b 2, evSend c b 3]
def phA1 (b : Fin 3) : List (PT F) := [evRecv c b 1, evAdd c b 1]
def phB0 (b : Fin 3) : List (PT F) := [evRecv c b 2, evAdd c b 2, evSend c b 4, evSend c b 5]
def phB1 (b : Fin 3) : List (PT F) := [evRecv c b 3, evAdd c b 3]
def phC0 (b : Fin 3) : List (PT F) := [evRecv c b 4, evAdd c b 4]
def phC1 (b : Fin 3) : List (PT F) := [evRecv c b 5, evAdd c b 5, evPush c b 0, evPush c b 1, evPush c b 3, evOut c b 0]
def phG0 (b : Fin 3) : List (PT F) := [evPull c b 0, evPush c b 2, evPush c b 4, evOut c b 1]
def phG1 (b : Fin 3) : List (PT F) := [evPull c b 1, evPush c b 5, evOut c b 2]
def phG2 (b : Fin 3) : List (PT F) := [evPull c b 2, evPush c b 6, evOut c b 3]
def phG3 (b : Fin 3) : List (PT F) := [evPull c b 3, evPull c b 4, evPull c b 5, evPull c b 6, evOut c b 4]
def phS (r₀ r₁ : Fin 6) (b : Fin 3) : List (PT F) := [evSent c b r₀, evSent c b r₁]
def phS0 (b : Fin 3) : List (PT F) := [evPushed c b 0, evPushed c b 1, evPushed c b 3]
def phS1 (b : Fin 3) : List (PT F) := [evPushed c b 2, evPushed c b 4]
def phO (o : Fin 5) (b : Fin 3) : List (PT F) := [evOutWait c b o]

/-- The whole body after a device has read its number. -/
def steps : List (PT F) :=
  each phIn ++ phBar c ++ each (phPrep c) ++ each (phKeep c) ++ each (phA0 c) ++ each (phA1 c) ++ each (phB0 c) ++ each (phB1 c)
    ++ each (phC0 c) ++ each (phC1 c) ++ each (phG0 c) ++ each (phG1 c) ++ each (phG2 c) ++ each (phG3 c)
    ++ each (phS c 0 1) ++ each (phS c 2 3) ++ each (phS c 4 5) ++ each (phS0 c) ++ each (phS1 c)
    ++ each (fun b => [evPushed c b 5]) ++ each (fun b => [evPushed c b 6])
    ++ each (phO c 0) ++ each (phO c 1) ++ each (phO c 2) ++ each (phO c 3) ++ each (phO c 4)

/-! ### Steps at equal offsets are equal -/

section
variable {n : Nat} {hn hn' : 0 < n ∧ 2 ∣ n} {o p : Fin 2 → Nat} {h : Good 4096 n o} {k : Good 4096 n p} {o' p' : Fin 2 → Nat}
  {h' : Good 3584 n o'} {k' : Good 3584 n p'} {s r : DmaSem sig} {d e : Dev nD}

theorem gIn_eq (x : o = p) : gIn (F := F) n hn o h s = gIn n hn' p k s := by subst x; rfl
theorem gInWait_eq (x : o = p) : gInWait (F := F) n hn o h s = gInWait n hn' p k s := by subst x; rfl
theorem gOut_eq (x : o = p) : gOut (F := F) n hn o h s = gOut n hn' p k s := by subst x; rfl
theorem gOutWait_eq (x : o = p) : gOutWait (F := F) n hn o h s = gOutWait n hn' p k s := by subst x; rfl
theorem gPull_eq (x : o = p) : gPull (F := F) n hn o h s = gPull n hn' p k s := by subst x; rfl
theorem gCopy_eq (x : o = p) : gCopy (F := F) n hn o h = gCopy n hn' p k := by subst x; rfl
theorem gAdd_eq (x : o = p) (y : o' = p') : gAdd (F := F) n hn o h o' h' = gAdd n hn' p k p' k' := by subst x y; rfl
theorem gRecv_eq (x : o = p) (y : o' = p') : gRecv (F := F) n hn o h o' h' s = gRecv n hn' p k p' k' s := by subst x y; rfl
theorem gSent_eq (x : o = p) (y : o' = p') : gSent (F := F) n hn o h o' h' s = gSent n hn' p k p' k' s := by subst x y; rfl
theorem gSend_eq (x : o = p) (y : o' = p') (z : d.val = e.val) : gSend (F := F) n hn o h o' h' d s r = gSend n hn' p k p' k' e s r := by
  subst x y; obtain rfl := Fin.ext z; rfl
theorem gPush_eq (x : o = p) (z : d.val = e.val) : gPush (F := F) n hn o h d s r = gPush n hn' p k e s r := by
  subst x; obtain rfl := Fin.ext z; rfl
theorem sig_eq (z : d.val = e.val) : (semSignalWord d barS 1#32 : PT F) = semSignalWord e barS 1#32 := by
  obtain rfl := Fin.ext z; rfl
end

end Cert.Butterfly
-- ==== Proof.Rows.lean ====
module

public import proofs.«01_k».proof.Proof.Events

/-!
Rows of the buffers: a block of rows owned with its contents, how blocks split and join, and what
loads, stores and copies of a block do to the contents.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's copy, and the protocol's with three duties to a cell's round. -/
abbrev UB : Type := URounds (GSem nD τ sig) (Fin 3)
abbrev UU : Type := UR sig nD τ × UB

local notation "𝕄" => MT nD τ sig Unit (Elt F) ℕ UU ℕ

/-- The rows `a, …, a + n - 1` of a buffer of `R` rows. -/
def rows (R a n : Nat) : Finset (Sn R).Idx := Finset.univ.filter fun i => a ≤ (i 0).val ∧ (i 0).val < a + n

/-- An element is in a block of rows when its row is. -/
theorem mem_rows {R a n : Nat} {i : (Sn R).Idx} : i ∈ rows R a n ↔ a ≤ (i 0).val ∧ (i 0).val < a + n := by
  unfold rows; simp

/-- The rectangle of `n` rows holds the elements of those rows. -/
theorem rc_set {R n : Nat} {o : Fin 2 → Nat} (h : Good R n o) : (rc R n o h).set = rows R (o 0) n := by
  ext i
  rw [mem_rows, Rect.mem_set_unit]
  constructor
  · intro H; exact H 0
  · intro H a
    match a with
    | 0 => exact H
    | 1 =>
      have h1 : (i 1).val < 1024 := (i 1).isLt
      have h2 := h.2.1
      refine ⟨?_, ?_⟩
      · show o 1 ≤ _; omega
      · show _ < o 1 + 1024; omega

/-- All the rows. -/
theorem rows_all (R : Nat) : rows R 0 R = Finset.univ := by
  ext i; rw [mem_rows]; have : (i 0).val < R := (i 0).isLt; simp; omega

/-- Adjacent blocks of rows are one block. -/
theorem rows_add {R a n k : Nat} : rows R a (n + k) = rows R a n ∪ rows R (a + n) k := by
  ext i; rw [Finset.mem_union, mem_rows, mem_rows, mem_rows]; omega

/-- Blocks of rows that do not meet are disjoint. -/
theorem rows_disj {R a n b k : Nat} (h : a + n ≤ b ∨ b + k ≤ a) : Disjoint (rows R a n) (rows R b k) := by
  rw [Finset.disjoint_left]; intro i hi hj; rw [mem_rows] at hi hj; omega

/-- A block of rows within another. -/
theorem rows_sub {R a n b k : Nat} (h : b ≤ a ∧ a + n ≤ b + k) : rows R a n ⊆ rows R b k := by
  intro i hi; rw [mem_rows] at hi ⊢; omega

/-- Assertions that entail each other are equal. -/
theorem eq_of {P Q : sProp 𝕄} (h : P ⊣⊢ Q) : P = Q := BI.equiv_iff.mp ⟨h.1, h.2⟩

/-! ### Blocks of rows, owned -/

section
variable {sp : Space} {R : Nat} (M : Memref sig .tc sp (Sn R) .bf16) (c : Dev nD)

/-- The rows `a, …, a + n - 1` of buffer `M` on device `c`, at a share, holding `f`'s values there. -/
def pt (a n : Nat) (q : PosShare TreeShare) (f : M.view.ty.Contents (Elt F)) : sProp 𝕄 :=
  M.view.loc (c : Thread nD τ) ↦[(rows R a n).map M.view.emb]{q} f

/-- The same rows in full, holding anything. -/
def ex (a n : Nat) : sProp 𝕄 := iprop(∃ f, pt (F := F) M c a n fullShare f)

instance (a n : Nat) (q) (f) : BI.Storable (upEmb : UEmb _ 𝕄) (pt (F := F) M c a n q f) := by unfold pt; infer_instance
instance (a n : Nat) : BI.Storable (upEmb : UEmb _ 𝕄) (ex (F := F) M c a n) := by unfold ex; infer_instance

variable {M c} {a n k a₁ a₂ : Nat} {q : PosShare TreeShare} {f g : M.view.ty.Contents (Elt F)}

/-- Ownership of rows speaks of those rows' contents alone. -/
theorem pt_congr (h : ∀ i ∈ rows R a n, f (M.view.emb i) = g (M.view.emb i)) : pt M c a n q f = (pt M c a n q g : sProp 𝕄) := by
  unfold pt
  refine pointsTo_congr fun i hi => ?_
  obtain ⟨j, hj, rfl⟩ := Finset.mem_map.mp hi
  exact h j hj

/-- Owning adjacent blocks is owning the block they make. -/
theorem pt_add : (pt M c a (n + k) q f : sProp 𝕄) = iprop(pt M c a n q f ∗ pt M c (a + n) k q f) := by
  unfold pt
  rw [rows_add, Finset.map_union]
  exact eq_of (pointsTo_union ((Finset.disjoint_map _).mpr (rows_disj (Or.inl (Nat.le_refl _)))))

/-- The same at unknown contents. -/
theorem ex_add : (ex (F := F) M c a (n + k) : sProp 𝕄) = iprop(ex M c a n ∗ ex M c (a + n) k) := by
  refine eq_of ⟨?_, ?_⟩
  · unfold ex
    iintro ⟨%f, H⟩
    ihave H := (Entails.of_eq pt_add) $$ H
    icases H with ⟨H1, H2⟩
    isplitl [H1]
    · iexists f; iexact H1
    · iexists f; iexact H2
  · unfold ex
    iintro ⟨⟨%f, H1⟩, ⟨%g, H2⟩⟩
    iexists ((rows R (a + n) k).map M.view.emb).piecewise g f
    unfold pt
    rw [rows_add, Finset.map_union]
    iapply (pointsTo_join ((Finset.disjoint_map _).mpr (rows_disj (Or.inl (Nat.le_refl _)))))
    isplitl [H1] <;> iassumption

/-- `a₁` and `a₂` start the two halves, of `k` rows each, of the rows starting at `a`, in some order. -/
abbrev Halves (a a₁ a₂ k : Nat) : Prop := (a₁ = a ∧ a₂ = a + k) ∨ (a₂ = a ∧ a₁ = a + k)

theorem pt_halves (h : Halves a a₁ a₂ k) (hn : n = k + k) :
    (pt M c a n q f : sProp 𝕄) = iprop(pt M c a₁ k q f ∗ pt M c a₂ k q f) := by
  subst hn
  rcases h with ⟨rfl, rfl⟩ | ⟨rfl, rfl⟩
  · exact pt_add
  · rw [pt_add]; exact eq_of Laws.sep_comm

theorem ex_halves (h : Halves a a₁ a₂ k) (hn : n = k + k) :
    (ex (F := F) M c a n : sProp 𝕄) = iprop(ex M c a₁ k ∗ ex M c a₂ k) := by
  subst hn
  rcases h with ⟨rfl, rfl⟩ | ⟨rfl, rfl⟩
  · exact ex_add
  · rw [ex_add]; exact eq_of Laws.sep_comm

/-- Known contents are some contents. -/
theorem pt_ex : (pt M c a n fullShare f : sProp 𝕄) ⊢ ex M c a n := by
  unfold ex; iintro H; iexists f; iexact H

/-- A share splits in two. -/
theorem pt_share : (pt M c a n q f : sProp 𝕄) = iprop(pt M c a n q.left f ∗ pt M c a n q.right f) := by
  unfold pt
  exact eq_of (pointsTo_share (PosShare.mem_left_op_right q))

/-! ### Loads, stores, copies -/

theorem sl_set {o : Fin 2 → Nat} (h : Good R n o) : (sl M n o h).view.set = (rows R (o 0) n).map M.view.emb := by
  show (M.view.slice (rc R n o h)).set = _
  rw [View.set_slice, rc_set]

/-- What a slice of rows writes, being what it reads of `g`, leaves `g` on the rows. -/
theorem write_read {o : Fin 2 → Nat} (h : Good R n o) (i : (Sn R).Idx) (hi : i ∈ rows R (o 0) n) :
    (sl M n o h).view.write (Elt F) f ((sl M n o h).view.read (Elt F) g) Finset.univ (M.view.emb i) = g (M.view.emb i) := by
  rw [← rc_set h, ← Rect.map_emb_univ] at hi
  obtain ⟨x, -, rfl⟩ := Finset.mem_map.mp hi
  have := View.write_emb_of_mem (v := (sl M n o h).view) (Val := Elt F) f ((sl M n o h).view.read (Elt F) g) (Finset.mem_univ x)
  rw [View.read_apply, cast_cast, cast_eq] at this
  exact this

/-- A write over the rows does not depend on what was there. -/
theorem write_indep {o : Fin 2 → Nat} (h : Good R n o) (w : (Sn n).Idx → Elt F .bf16) (i : (Sn R).Idx) (hi : i ∈ rows R (o 0) n) :
    (sl M n o h).view.write (Elt F) f w Finset.univ (M.view.emb i) = (sl M n o h).view.write (Elt F) g w Finset.univ (M.view.emb i) := by
  rw [← rc_set h, ← Rect.map_emb_univ] at hi
  obtain ⟨x, -, rfl⟩ := Finset.mem_map.mp hi
  have h1 := View.write_emb_of_mem (v := (sl M n o h).view) (Val := Elt F) f w (Finset.mem_univ x)
  have h2 := View.write_emb_of_mem (v := (sl M n o h).view) (Val := Elt F) g w (Finset.mem_univ x)
  exact h1.trans h2.symm

/-- Rows written with what a window reads hold what it was read from. -/
theorem pt_write_read {o : Fin 2 → Nat} (h : Good R n o) (w : (Sn n).Idx → Elt F .bf16) (hw : w = (sl M n o h).view.read (Elt F) g) :
    pt M c (o 0) n q ((sl M n o h).view.write (Elt F) f w Finset.univ) = (pt M c (o 0) n q g : sProp 𝕄) := by
  subst hw; exact pt_congr fun i hi => write_read h i hi

/-- What a window held before it is written does not matter. -/
theorem pt_write_indep {o : Fin 2 → Nat} (h : Good R n o) (w : (Sn n).Idx → Elt F .bf16) :
    pt M c (o 0) n q ((sl M n o h).view.write (Elt F) f w Finset.univ) = (pt M c (o 0) n q ((sl M n o h).view.write (Elt F) g w Finset.univ) : sProp 𝕄) :=
  pt_congr fun i hi => write_indep h w i hi

/-- A slice of rows, owned, is the block of rows. -/
theorem pt_sl {o : Fin 2 → Nat} (h : Good R n o) :
    ((sl M n o h).view.loc (c : Thread nD τ) ↦[(sl M n o h).view.set]{q} f : sProp 𝕄) = pt M c (o 0) n q f := by
  rw [sl_set h]; rfl

end

/-- A whole buffer is all its rows. -/
theorem pt_whole {sp : Space} {R : Nat} (M : Memref sig .tc sp (Sn R) .bf16) (c : Dev nD) (q : PosShare TreeShare) (f : M.view.ty.Contents (Elt F))
    (hM : M.view.set = Finset.univ) :
    (M.view.loc (c : Thread nD τ) ↦{q} f : sProp 𝕄) = pt M c 0 R q f := by
  unfold pt
  rw [rows_all, show (Finset.univ : Finset (Sn R).Idx).map M.view.emb = M.view.set from rfl, hM]

end Cert.Butterfly
-- ==== Proof.Protocol.lean ====
module

public import proofs.«01_k».proof.Proof.Rows

/-!
What the buffers hold at each stage, and the protocol: each semaphore's one round, what its raise
hands over, what each device owes the others, and the order of the waits.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ### Contents -/

/-- Contents of a buffer of 4096 rows. -/
abbrev V (F : FTy → Type) [FloatOps F] := Vec F (Sn 4096) .bf16

/-- The argument's block on device `c`. -/
def X (c : Dev nD) : V F := m ((c : Thread nD τ).loc main_arg0)

/-- The stage with number `s`. -/
abbrev st (s : Nat) : Fin 3 := Fin.ofNat 3 s

/-- The partial sums of butterfly `b` on device `c` after `s` stages: own sum plus the partner's. -/
def A (b : Fin 3) : Nat → Dev nD → V F
  | 0, c => X m c
  | s + 1, c => addf (A b s c) (A b s (peer (dir b (st s)) c))

/-- The butterfly and the device that finish the row of an element. -/
def Owner (i : (Sn 4096).Idx) (p : Fin 3 × Dev nD) : Prop := i ∈ rows 4096 (keep p.1 2 p.2) (gsz p.1)

open Classical in
/-- The finished array: each row as the device that finishes it leaves it. -/
def Final : V F := fun i => if h : ∃ p, Owner i p then A m h.choose.1 3 h.choose.2 i else X m 0 i

/-- The blocks that two devices finish do not meet. -/
theorem owner_apart : ∀ p q : Fin 3 × Dev nD, p = q ∨ keep p.1 2 p.2 + gsz p.1 ≤ keep q.1 2 q.2 ∨ keep q.1 2 q.2 + gsz q.1 ≤ keep p.1 2 p.2 := by
  decide +kernel

/-- One device of one butterfly finishes an element. -/
theorem owner_unique {i : (Sn 4096).Idx} {p q : Fin 3 × Dev nD} (hp : Owner i p) (hq : Owner i q) : p = q := by
  unfold Owner at hp hq
  rw [mem_rows] at hp hq
  rcases owner_apart p q with h | h | h
  · exact h
  · omega
  · omega

/-- On the rows that device `c` finishes in butterfly `b`, the finished array is its third partial sum. -/
theorem final_eq (b : Fin 3) (c : Dev nD) (i : (Sn 4096).Idx) (hi : i ∈ rows 4096 (keep b 2 c) (gsz b)) : Final m i = A m b 3 c i := by
  have h : ∃ p, Owner i p := ⟨(b, c), hi⟩
  unfold Final
  rw [dif_pos h, owner_unique h.choose_spec (show Owner i (b, c) from hi)]

/-- What lands in the communication buffer: piece `r` of the partner's partial sums. -/
def landed (b : Fin 3) (r : Fin 6) (c : Dev nD) : Vec F (Sn 3584) .bf16 :=
  (sl cM (rsz b r) ![clo b r c, 0] (good (clo_le b r c))).view.write (Elt F) (m ((c : Thread nD τ).loc cc0_scratch2))
    ((sl gM (rsz b r) ![klo b r c, 0] (good (klo_le b r c))).view.read (Elt F) (A m b (stg r).val (peer (dir b (stg r)) c))) Finset.univ

/-! ### The semaphores' uses -/

/-- What a semaphore is for: a copy in, a copy out, a piece's sending, a push's sending, a piece's arrival,
    a push's arrival. -/
inductive Kd where
  | inn (b : Fin 3) (h : Fin 2)
  | out (b : Fin 3) (o : Fin 5)
  | rs (b : Fin 3) (r : Fin 6)
  | gs (b : Fin 3) (a : Fin 7)
  | rr (b : Fin 3) (r : Fin 6)
  | rg (b : Fin 3) (a : Fin 7)
deriving DecidableEq

def kd (n : Nat) : Kd :=
  if n < 6 then .inn (Fin.ofNat 3 (n / 2)) (Fin.ofNat 2 n)
  else if n < 21 then .out (Fin.ofNat 3 ((n - 6) / 5)) (Fin.ofNat 5 (n - 6))
  else if n < 39 then .rs (Fin.ofNat 3 (n - 21)) (Fin.ofNat 6 ((n - 21) / 3))
  else if n < 60 then .gs (Fin.ofNat 3 (n - 39)) (Fin.ofNat 7 ((n - 39) / 3))
  else if n < 78 then .rr (Fin.ofNat 3 (n - 60)) (Fin.ofNat 6 ((n - 60) / 3))
  else .rg (Fin.ofNat 3 (n - 78)) (Fin.ofNat 7 ((n - 78) / 3))
def dec (q : DmaSem sig) : Kd := kd q.val

theorem dec_in : ∀ b h, dec (inS b h) = .inn b h := by decide +kernel
theorem dec_out : ∀ b o, dec (outS b o) = .out b o := by decide +kernel
theorem dec_sr : ∀ b r, dec (srS b r) = .rs b r := by decide +kernel
theorem dec_sg : ∀ b a, dec (sgS b a) = .gs b a := by decide +kernel
theorem dec_rr : ∀ b r, dec (rrS b r) = .rr b r := by decide +kernel
theorem dec_rg : ∀ b a, dec (rgS b a) = .rg b a := by decide +kernel

/-- The rows a use moves. -/
def Kd.size : Kd → Nat
  | .inn b _ => isz b
  | .out b o => osz b o
  | .rs b r => rsz b r
  | .rr b r => rsz b r
  | .gs b _ => gsz b
  | .rg b _ => gsz b

theorem Kd.size_pos (k : Kd) : 0 < k.size := by
  cases k with
  | inn b h => exact (isz_pos b).1
  | out b o => exact (osz_pos b o).1
  | rs b r => exact (rsz_pos b r).1
  | rr b r => exact (rsz_pos b r).1
  | gs b a => exact (gsz_pos b).1
  | rg b a => exact (gsz_pos b).1

/-- The credit of `n` rows. -/
abbrev credit (n : Nat) : Nat := RefSig.tileCredit (Sn n) .bf16
/-- The units a semaphore is raised by in all. -/
def amt (q : DmaSem sig) : Nat := credit (dec q).size

/-! ### Payloads -/

/-- The share of finished rows a push or a copy out reads with. -/
def gq (a : Fin 7) : PosShare TreeShare := match a with
  | 0 => fullShare.left.left | 1 => fullShare.left.right | 3 => fullShare.right.left
  | 2 => fullShare.left | 4 => fullShare.right.left
  | 5 => fullShare.left | 6 => fullShare.left
def oq (o : Fin 5) : PosShare TreeShare := match o with
  | 0 => fullShare.right.right | 1 => fullShare.right.right | 2 => fullShare.right | 3 => fullShare.right | 4 => fullShare

/-- The place for the piece `r` that `c` sends, in its partner's communication buffer. -/
def comP (c : Dev nD) (b : Fin 3) (r : Fin 6) : sProp 𝕄 := ex (F := F) cM (peer (dir b (stg r)) c) (clo b r c) (rsz b r)

/-- What the signal of partner `d` hands device `c`: the places for the pieces `c` sends there. -/
def barPay (c : Dev nD) (d : Fin 3) : sProp 𝕄 := match d with
  | 0 => iprop(comP c 0 0 ∗ comP c 0 1 ∗ comP c 1 4 ∗ comP c 1 5 ∗ comP c 2 2 ∗ comP c 2 3)
  | 1 => iprop(comP c 0 2 ∗ comP c 0 3 ∗ comP c 1 0 ∗ comP c 1 1 ∗ comP c 2 4 ∗ comP c 2 5)
  | 2 => iprop(comP c 0 4 ∗ comP c 0 5 ∗ comP c 1 2 ∗ comP c 1 3 ∗ comP c 2 0 ∗ comP c 2 1)

/-- What a semaphore's use hands over on device `c`. -/
def pay (c : Dev nD) : Kd → sProp 𝕄
  | .inn b h => iprop(pt xM c (ilo b h) (isz b) fullShare (X m c) ∗ pt vM c (ilo b h) (isz b) fullShare (X m c))
  | .out b o => iprop(pt gM c (olo b o c) (osz b o) (oq o) (Final m) ∗ pt oM c (olo b o c) (osz b o) fullShare (Final m))
  | .rs _ _ => iprop(emp)
  | .gs b a => pt gM c (glo b a c) (gsz b) (gq a) (Final m)
  | .rr b r => iprop(pt cM c (clo b r c) (rsz b r) fullShare (landed m b r c) ∗ ex gM (peer (dir b (stg r)) c) (klo b r c) (rsz b r))
  | .rg b a => pt gM c (glo b a (peer (gdir b a) c)) (gsz b) fullShare (Final m)

/-- One round for every semaphore: a transfer's has one duty, of the transfer's credit; the barrier has three,
    of one unit each. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => amt q
  payload g _ d := match g.2 with | .reg _ => barPay g.1.1 d | .dma q => pay m g.1.1 (dec q)
  amount_pos g _ _ _ := by
    rcases g with ⟨t, s | q⟩
    · exact Nat.one_pos
    · exact RefSig.tileCredit_pos _ _ (rows_numel_pos (Kd.size_pos _))

instance comP_storable (c : Dev nD) (b r) : BI.Storable (upEmb : UEmb _ 𝕄) (comP (F := F) c b r) := by unfold comP; infer_instance

instance barPay_storable (c : Dev nD) (d : Fin 3) : BI.Storable (upEmb : UEmb _ 𝕄) (barPay (F := F) c d) := by
  unfold barPay; split <;> infer_instance

instance pay_storable (c : Dev nD) (k : Kd) : BI.Storable (upEmb : UEmb _ 𝕄) (pay m c k) := by
  cases k <;> (unfold pay; infer_instance)

instance Rd_storable (g : GSem nD τ sig) (r : ℕ) (d : Fin 3) : BI.Storable (upEmb : UEmb _ 𝕄) ((Rd m).payload g r d) := by
  rcases g with ⟨t, s | q⟩
  · exact barPay_storable _ _
  · exact pay_storable m _ _

abbrev dcell (c : Dev nD) (q : DmaSem sig) : GSem nD τ sig := ((c : Thread nD τ), .dma q)
abbrev bcell (c : Dev nD) : GSem nD τ sig := ((c : Thread nD τ), .reg barS)

/-- A transfer's semaphore has one duty, in the first round. -/
theorem duties_d (c : Dev nD) (q : DmaSem sig) : (Rd m).duties (dcell c q) 0 = {0} := by
  dsimp only [Rd]; exact if_pos ⟨rfl, rfl⟩
/-- The barrier has three duties, one for each partner. -/
theorem duties_b (c : Dev nD) : (Rd m).duties (bcell c) 0 = Finset.univ := by
  dsimp only [Rd]; exact if_pos ⟨rfl, rfl⟩
theorem duties_later (g : GSem nD τ sig) : ∀ r, 1 ≤ r → (Rd m).duties g r = ∅ := fun r hr => by
  dsimp only [Rd]; exact if_neg fun h => by omega
theorem mem_d (c : Dev nD) (q : DmaSem sig) : (0 : Fin 3) ∈ (Rd m).duties (dcell c q) 0 := by
  rw [duties_d]; exact Finset.mem_singleton_self _
theorem mem_b (c : Dev nD) (d : Fin 3) : d ∈ (Rd m).duties (bcell c) 0 := by
  rw [duties_b]; exact Finset.mem_univ _
/-- A transfer's semaphore is credited the size of its transfer. -/
theorem expect_d (c : Dev nD) (q : DmaSem sig) : (Rd m).expect (dcell c q) 0 = amt q := by
  unfold Schedule.expect Schedule.amountOf; rw [duties_d, Finset.sum_singleton]; rfl
/-- The barrier is credited three. -/
theorem expect_b (c : Dev nD) : (Rd m).expect (bcell c) 0 = 3 := by
  unfold Schedule.expect Schedule.amountOf; rw [duties_b]; rfl
theorem rest_d (c : Dev nD) (q : DmaSem sig) :
    bigSep ((Rd m).duties (dcell c q) 0 \ ∅) (fun d => (Rd m).payload (dcell c q) 0 d) = pay m c (dec q) := by
  rw [Finset.sdiff_empty, duties_d, bigSep_singleton]; rfl
theorem rest_b (c : Dev nD) :
    bigSep ((Rd m).duties (bcell c) 0 \ ∅) (fun d => (Rd m).payload (bcell c) 0 d) = iprop(barPay c 0 ∗ barPay c 1 ∗ barPay c 2) := by
  rw [Finset.sdiff_empty, duties_b, bigSep_univ_eq_bigSepL [0, 1, 2] (by decide) (by decide), bigSepL_cons_cons, bigSepL_cons_cons, bigSepL_singleton]
  rfl

/-! ### What each device owes -/

/-- The remote transfers a device makes. -/
abbrev Tx := (Fin 3 × Fin 6) ⊕ (Fin 3 × Fin 7)

def Tx.pos : Tx → Nat
  | .inl (b, r) => rpos b r
  | .inr (b, a) => gpos b a
def Tx.sem : Tx → DmaSem sig
  | .inl (b, r) => rrS b r
  | .inr (b, a) => rgS b a
def Tx.dir : Tx → Fin 3
  | .inl (b, r) => Butterfly.dir b (stg r)
  | .inr (b, a) => gdir b a
def Tx.cell (c : Dev nD) (p : Tx) : GSem nD τ sig := dcell (peer p.dir c) p.sem

/-- What device `c` owes from the transfer with place `n` on. -/
def Ow (n : Nat) (c : Dev nD) : CellTallies nD τ sig Unit :=
  ∑ p ∈ Finset.univ.filter (fun p : Tx => n ≤ p.pos), tallyAt (p.cell c) () (amt p.sem)

theorem pos_inj : ∀ p q : Tx, p.pos = q.pos → p = q := by decide +kernel
theorem pos_lt : ∀ p : Tx, p.pos < 39 := by decide +kernel

/-- What is owed from a transfer on: that transfer, and what is owed after it. -/
theorem Ow_peel (p : Tx) (c : Dev nD) : Ow p.pos c = Ow (p.pos + 1) c + tallyAt (p.cell c) () (amt p.sem) := by
  unfold Ow
  have : Finset.univ.filter (fun q : Tx => p.pos ≤ q.pos) = insert p (Finset.univ.filter (fun q : Tx => p.pos + 1 ≤ q.pos)) := by
    ext q
    simp only [Finset.mem_filter, Finset.mem_univ, true_and, Finset.mem_insert]
    constructor
    · intro h
      by_cases h' : p.pos = q.pos
      · exact Or.inl (pos_inj _ _ h').symm
      · right; omega
    · rintro (rfl | h)
      · exact Nat.le_refl _
      · omega
  rw [this, Finset.sum_insert (by simp), add_comm]

/-- Nothing is owed after the last transfer. -/
theorem Ow_end (c : Dev nD) : Ow 39 c = 0 := by
  unfold Ow
  rw [Finset.filter_false_of_mem, Finset.sum_empty]
  intro p _; have := pos_lt p; omega

/-- What device `c` owes at the start: its transfers, and a signal to each partner. -/
def O₀ (c : Dev nD) : CellTallies nD τ sig Unit :=
  Ow 0 c + tallyAt (bcell (peer 2 c)) () 1 + tallyAt (bcell (peer 1 c)) () 1 + tallyAt (bcell (peer 0 c)) () 1

theorem sum_pos {ι : Type} {S : Finset ι} {f : ι → CellTallies nD τ sig Unit} {g : GSem nD τ sig} {u : Unit}
    (h : 0 < (∑ p ∈ S, f p) g u) : ∃ p ∈ S, 0 < f p g u := by
  classical
  induction S using Finset.induction_on with
  | empty => rw [Finset.sum_empty] at h; exact absurd h (Nat.lt_irrefl 0)
  | insert a S ha ih =>
    rw [Finset.sum_insert ha, Pi.add_apply, Finsupp.add_apply] at h
    by_cases h0 : 0 < f a g u
    · exact ⟨a, Finset.mem_insert_self _ _, h0⟩
    · obtain ⟨p, hp, hp'⟩ := ih (by omega)
      exact ⟨p, Finset.mem_insert_of_mem hp, hp'⟩

theorem tally_pos {g g' : GSem nD τ sig} {u : Unit} {n : Nat} (h : 0 < (tallyAt g' () n : CellTallies nD τ sig Unit) g u) : g = g' := by
  by_contra hne
  rw [tallyAt_apply, if_neg fun h' => hne h'.1] at h
  exact Nat.lt_irrefl 0 h

/-- What is owed is the transfers still to be sent. -/
theorem Ow_pos {n : Nat} {c : Dev nD} {g : GSem nD τ sig} {u : Unit} (h : 0 < Ow n c g u) : ∃ p : Tx, n ≤ p.pos ∧ g = p.cell c := by
  obtain ⟨p, hp, hp'⟩ := sum_pos h
  exact ⟨p, (Finset.mem_filter.mp hp).2, tally_pos hp'⟩

def L (g : GSem nD τ sig) : Finset Unit := if g.1.2 = .tc then {()} else ∅

/-- The place of a semaphore in the order of waits. -/
def lvk : Kd → Nat
  | .rr b r => rpos b r + 2
  | .rg b a => gpos b a + 2
  | _ => 0
def lv (g : GSem nD τ sig) (_ : Unit) : ℕ := match g.2 with
  | .reg _ => 1
  | .dma q => lvk (dec q)

theorem L_of_ne (g : GSem nD τ sig) (h : g.1.2 ≠ .tc) : L g = ∅ := if_neg h
theorem L_tc (c : Dev nD) (sm : SemLoc sig) : L ((c : Thread nD τ), sm) = {()} := if_pos rfl

/-- The level of the semaphore on which a transfer arrives. -/
theorem lv_tx (p : Tx) (c : Dev nD) (u : Unit) : lv (p.cell c) u = p.pos + 2 := by
  rcases p with ⟨b, r⟩ | ⟨b, a⟩
  · show lvk (dec (rrS b r)) = _; rw [dec_rr]; rfl
  · show lvk (dec (rgS b a)) = _; rw [dec_rg]; rfl

/-- A device may wait on a semaphore placed before every transfer it still owes. -/
theorem mayWait (c : Dev nD) (sm : SemLoc sig) (n : Nat) (h : lv ((c : Thread nD τ), sm) () ≤ n + 1) :
    (levAts L lv : sProp 𝕄) ⊢ MayWait (c : Thread nD τ) sm () (Ow n c) :=
  MayOwe.of_cut (L := L) (lev := lv) (n + 1)
    (fun p hp => by rw [Finset.mem_singleton.mp hp, L_tc]; exact Finset.mem_singleton_self _)
    (fun g u hg => by obtain ⟨p, -, rfl⟩ := Ow_pos hg; exact Finset.mem_singleton_self _)
    (fun p hp => by rw [Finset.mem_singleton.mp hp]; exact h)
    (fun g u hg => by obtain ⟨p, hp, rfl⟩ := Ow_pos hg; rw [lv_tx]; omega)

end Cert.Butterfly
-- ==== Proof.Steps.lean ====
module

public import proofs.«01_k».proof.Proof.Protocol

/-!
One rule for each kind of step of the kernel: what a device must hold before it and what it holds
after it.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (m : (ℓ : Loc nD τ sig) → Buf (Elt F) ℓ)

abbrev 𝒱₀ : Variants := Variants.none

/-- A device's semaphore. -/
abbrev kcell (ck : Dev nD × SemLoc sig) : GSem nD τ sig := ((ck.1 : Thread nD τ), ck.2)

/-- What every device knows: the invariants of all semaphores, that each has reached its round, and the order of waits. -/
def ctx (K : Dev nD × SemLoc sig → ℕ) : sProp 𝕄 :=
  iprop((bigSep Finset.univ fun ck => cellInv ER (Rd m) (K ck) (kcell ck))
    ∗ (bigSep Finset.univ fun ck => reached ER (kcell ck) 0) ∗ levAts L lv)

instance ctx_persistent (K : Dev nD × SemLoc sig → ℕ) : BI.Persistent (ctx m K) := by unfold ctx; infer_instance

theorem ctx_inv (K : Dev nD × SemLoc sig → ℕ) (ck : Dev nD × SemLoc sig) : ctx m K ⊢ cellInv ER (Rd m) (K ck) (kcell ck) := by
  unfold ctx
  iintro ⟨#H, -, -⟩
  iapply (show (bigSep Finset.univ fun ck => (cellInv ER (Rd m) (K ck) (kcell ck) : sProp 𝕄)) ⊢ cellInv ER (Rd m) (K ck) (kcell ck) from bigSep_elim (Finset.mem_univ ck))
  iexact H
theorem ctx_reached (K : Dev nD × SemLoc sig → ℕ) (ck : Dev nD × SemLoc sig) : ctx m K ⊢ reached ER (kcell ck) 0 := by
  unfold ctx
  iintro ⟨-, #H, -⟩
  iapply (show (bigSep Finset.univ fun ck => (reached ER (kcell ck) 0 : sProp 𝕄)) ⊢ reached ER (kcell ck) 0 from bigSep_elim (Finset.mem_univ ck))
  iexact H
theorem ctx_lev (K : Dev nD × SemLoc sig → ℕ) : ctx m K ⊢ levAts L lv := by
  unfold ctx; iintro ⟨-, -, #H⟩; iexact H

/-- Holding `P`, a device runs the steps `l` and then holds `Q`. -/
def Tr (K : Dev nD × SemLoc sig → ℕ) (c : Dev nD) (P : sProp 𝕄) (l : List (PT F)) (Q : sProp 𝕄) : Prop :=
  ∀ (t : PT F) (Φ : PUnit → sProp 𝕄),
    iprop(ctx m K ∗ P ∗ (Q -∗ wp frame (wpE (defs₀ (F := F)) 𝒱₀ (c : Thread nD τ) none) Set.univ t Φ))
      ⊢ wp frame (wpE (defs₀ (F := F)) 𝒱₀ (c : Thread nD τ) none) Set.univ (runsK l t) Φ

end

section
variable {m : (ℓ : Loc nD τ sig) → Buf (Elt F) ℓ} {K : Dev nD × SemLoc sig → ℕ} {c : Dev nD} {P P' Q Q' R : sProp (MT nD τ sig Unit (Elt F) ℕ UU ℕ)} {l l' : List (PT F)}

/-- Steps that take less and leave more. -/
theorem Tr.conseq (h : Tr m K c P l Q) (hp : P' ⊢ P) (hq : Q ⊢ Q') : Tr m K c P' l Q' := fun t Φ => by
  iintro ⟨Hc, HP, Hk⟩
  iapply (h t Φ)
  isplitl [Hc]; · iexact Hc
  isplitl [HP]; · iapply hp; iexact HP
  iintro HQ
  iapply Hk
  iapply hq; iexact HQ

/-- What the steps do not touch is kept. -/
theorem Tr.frame (h : Tr m K c P l Q) (R : sProp (MT nD τ sig Unit (Elt F) ℕ UU ℕ)) : Tr m K c iprop(P ∗ R) l iprop(Q ∗ R) := fun t Φ => by
  iintro ⟨Hc, ⟨HP, HR⟩, Hk⟩
  iapply (h t Φ)
  isplitl [Hc]; · iexact Hc
  isplitl [HP]; · iexact HP
  iintro HQ
  iapply Hk
  isplitl [HQ] <;> iassumption

/-- Steps one after the other. -/
theorem Tr.append (h : Tr m K c P l Q) (h' : Tr m K c Q l' R) : Tr m K c P (l ++ l') R := fun t Φ => by
  rw [runsK_append]
  iintro ⟨#Hc, HP, Hk⟩
  iapply (h _ Φ)
  isplitr; · iexact Hc
  isplitl [HP]; · iexact HP
  iintro HQ
  iapply (h' t Φ)
  isplitr; · iexact Hc
  isplitl [HQ] <;> iassumption

theorem Tr.cons {e : PT F} (h : Tr m K c P [e] Q) (h' : Tr m K c Q l R) : Tr m K c P (e :: l) R := h.append h'

theorem Tr.nil (h : P ⊢ Q) : Tr m K c P [] Q := fun t Φ => by
  iintro ⟨-, HP, Hk⟩
  iapply Hk
  iapply h; iexact HP
end

variable (m : (ℓ : Loc nD τ sig) → Buf (Elt F) ℓ)

/-- What device `c` still owes from the transfer with place `n` on. -/
def ow (n : Nat) (c : Dev nD) : sProp 𝕄 := iprop(∃ W, owes (c : Thread nD τ) (Ow n c) W)
/-- A semaphore not yet used, whose duty the device itself pays. -/
def tok1 (c : Dev nD) (q : DmaSem sig) : sProp 𝕄 := iprop(atPos ER (dcell c q) 0 ∅ 0 ∗ dutyTok ER (dcell c q) 0 0)
/-- The right to raise a partner's semaphore. -/
def tok2 (c : Dev nD) (q : DmaSem sig) : sProp 𝕄 := dutyTok ER (dcell c q) 0 0
/-- A semaphore to wait on. -/
def pend (c : Dev nD) (q : DmaSem sig) : sProp 𝕄 := iprop(atPos ER (dcell c q) 0 ∅ 0 ∗ cred (tallyAt (dcell c q) () (amt q)))
/-- A semaphore that has done its work. -/
def zero (c : Dev nD) (q : DmaSem sig) : sProp 𝕄 := semVal (dcell c q) 0

variable (K : Dev nD × SemLoc sig → ℕ) (c : Dev nD)

/-- A wait for a semaphore's whole round: it hands over the payload. -/
theorem tr_wait (q : DmaSem sig) (n : Nat) {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma q) (amt q) K')
    (hl : lvk (dec q) ≤ n + 1) :
    Tr m K c iprop(pend c q ∗ ow n c) [.op w .ret] iprop(pay m c (dec q) ∗ zero c q ∗ ow n c) := fun t Φ => by
  show _ ⊢ wp _ _ _ (.op w fun _ => t) Φ
  unfold pend ow zero
  iintro ⟨#Hc, ⟨⟨Hat, Hcr⟩, %W, HO⟩, Hk⟩
  iapply (Rounds.wp_wait_rest_token 𝒱₀ ER (Rd m) (c : Thread nD τ) none (κ := K (c, .dma q)) hw (Set.mem_univ _) () (O := Ow n c) (W := W)
    (R := 0) (m := 0) (T := ∅) (by rw [Nat.zero_add]; exact (expect_d m c q).symm)) $$ [Hcr HO Hat]
  · isplitr; · iapply (ctx_inv m K (c, .dma q)); iexact Hc
    isplitl [Hcr]; · iexact Hcr
    isplitl [HO]; · iexact HO
    isplitr; · iapply (mayWait (F := F) c (.dma q) n hl); iapply (ctx_lev m K); iexact Hc
    iexact Hat
  iintro ⟨HO, Hat, -, Hpay⟩
  ihave Hp := (Entails.of_eq (rest_d m c q)) $$ Hpay
  imod (Rounds.cell_close ER (Rd m) (Set.mem_univ (K (c, .dma q))) (fun h => h) (R := 0 + 1) (duties_later m (dcell c q))) $$ [Hat] with Hz
  · isplitr; · iapply (ctx_inv m K (c, .dma q)); iexact Hc
    iexact Hat
  iapply Hk
  isplitl [Hp]; · iexact Hp
  isplitl [Hz]; · iexact Hz
  iexists _; iexact HO

theorem amt_in (b h) : amt (inS b h) = credit (isz b) := by unfold amt; rw [dec_in]; rfl
theorem amt_out (b o) : amt (outS b o) = credit (osz b o) := by unfold amt; rw [dec_out]; rfl
theorem amt_sr (b r) : amt (srS b r) = credit (rsz b r) := by unfold amt; rw [dec_sr]; rfl
theorem amt_sg (b a) : amt (sgS b a) = credit (gsz b) := by unfold amt; rw [dec_sg]; rfl
theorem amt_rr (b r) : amt (rrS b r) = credit (rsz b r) := by unfold amt; rw [dec_rr]; rfl
theorem amt_rg (b a) : amt (rgS b a) = credit (gsz b) := by unfold amt; rw [dec_rg]; rfl

/-- The wait for a half band to be copied in. -/
theorem tr_inWait (b : Fin 3) (h : Fin 2) (n : Nat) :
    Tr m K c iprop(pend c (inS b h) ∗ ow n c) [evInWait b h] iprop(pay m c (.inn b h) ∗ zero c (inS b h) ∗ ow n c) := by
  have := tr_wait m K c (inS b h) n (w := .waitDma2 (inS b h) (sl xM (isz b) ![ilo b h, 0] (good (ilo_le b h))) (sl vM (isz b) ![ilo b h, 0] (good (ilo_le b h)))
    (sl_exact _ (Memref.isWhole_whole _) rfl _ (isz_pos b)) (sl_exact _ (Memref.isWhole_whole _) rfl _ (isz_pos b)))
    (by rw [amt_in]; exact fun K' => wpE_waitDma2_eq 𝒱₀ (c : Thread nD τ) none Set.univ K') (by rw [dec_in]; exact Nat.zero_le _)
  rw [dec_in] at this; exact this

/-- The wait for a block to be copied out. -/
theorem tr_outWait (b : Fin 3) (o : Fin 5) (n : Nat) :
    Tr m K c iprop(pend c (outS b o) ∗ ow n c) [evOutWait c b o] iprop(pay m c (.out b o) ∗ zero c (outS b o) ∗ ow n c) := by
  have := tr_wait m K c (outS b o) n (w := .waitDma2 (outS b o) (sl gM (osz b o) ![olo b o c, 0] (good (olo_le b o c))) (sl oM (osz b o) ![olo b o c, 0] (good (olo_le b o c)))
    (sl_exact _ (Memref.isWhole_whole _) rfl _ (osz_pos b o)) (sl_exact _ (Memref.isWhole_whole _) rfl _ (osz_pos b o)))
    (by rw [amt_out]; exact fun K' => wpE_waitDma2_eq 𝒱₀ (c : Thread nD τ) none Set.univ K') (by rw [dec_out]; exact Nat.zero_le _)
  rw [dec_out] at this; exact this

/-- The wait for a piece of the partner's partial sums, while only later transfers are owed. -/
theorem tr_recv (b : Fin 3) (r : Fin 6) (n : Nat) (hn : rpos b r < n) :
    Tr m K c iprop(pend c (rrS b r) ∗ ow n c) [evRecv c b r] iprop(pay m c (.rr b r) ∗ zero c (rrS b r) ∗ ow n c) := by
  have := tr_wait m K c (rrS b r) n (w := .waitDma2 (rrS b r) (sl gM (rsz b r) ![slo b r c, 0] (good (slo_le b r c))) (sl cM (rsz b r) ![clo b r c, 0] (good (clo_le b r c)))
    (sl_exact _ (Memref.isWhole_whole _) rfl _ (rsz_pos b r)) (sl_exact _ (Memref.isWhole_whole _) rfl _ (rsz_pos b r)))
    (by rw [amt_rr]; exact fun K' => wpE_waitDma2_eq 𝒱₀ (c : Thread nD τ) none Set.univ K') (by rw [dec_rr]; show rpos b r + 2 ≤ n + 1; omega)
  rw [dec_rr] at this; exact this

/-- The wait for a sent piece to have left. -/
theorem tr_sent (b : Fin 3) (r : Fin 6) (n : Nat) :
    Tr m K c iprop(pend c (srS b r) ∗ ow n c) [evSent c b r] iprop(pay m c (.rs b r) ∗ zero c (srS b r) ∗ ow n c) := by
  have := tr_wait m K c (srS b r) n (w := .waitDma2 (srS b r) (sl cM (rsz b r) ![clo b r c, 0] (good (clo_le b r c))) (sl gM (rsz b r) ![slo b r c, 0] (good (slo_le b r c)))
    (sl_exact _ (Memref.isWhole_whole _) rfl _ (rsz_pos b r)) (sl_exact _ (Memref.isWhole_whole _) rfl _ (rsz_pos b r)))
    (by rw [amt_sr]; exact fun K' => wpE_waitDma2_eq 𝒱₀ (c : Thread nD τ) none Set.univ K') (by rw [dec_sr]; exact Nat.zero_le _)
  rw [dec_sr] at this; exact this

/-- The wait for a finished block from a partner, while only later transfers are owed. -/
theorem tr_pull (b : Fin 3) (a : Fin 7) (n : Nat) (hn : gpos b a < n) :
    Tr m K c iprop(pend c (rgS b a) ∗ ow n c) [evPull c b a] iprop(pay m c (.rg b a) ∗ zero c (rgS b a) ∗ ow n c) := by
  have := tr_wait m K c (rgS b a) n (w := .waitDma2 (rgS b a) (sl gM (gsz b) ![glo b a c, 0] (good (glo_le b a c))) (sl gM (gsz b) ![glo b a c, 0] (good (glo_le b a c)))
    (sl_exact _ (Memref.isWhole_whole _) rfl _ (gsz_pos b)) (sl_exact _ (Memref.isWhole_whole _) rfl _ (gsz_pos b)))
    (by rw [amt_rg]; exact fun K' => wpE_waitDma2_eq 𝒱₀ (c : Thread nD τ) none Set.univ K') (by rw [dec_rg]; show gpos b a + 2 ≤ n + 1; omega)
  rw [dec_rg] at this; exact this

/-- The wait for a pushed block to have left. -/
theorem tr_pushed (b : Fin 3) (a : Fin 7) (n : Nat) :
    Tr m K c iprop(pend c (sgS b a) ∗ ow n c) [evPushed c b a] iprop(pay m c (.gs b a) ∗ zero c (sgS b a) ∗ ow n c) := by
  have := tr_wait m K c (sgS b a) n (w := .waitDma2 (sgS b a) (sl gM (gsz b) ![glo b a c, 0] (good (glo_le b a c))) (sl gM (gsz b) ![glo b a c, 0] (good (glo_le b a c)))
    (sl_exact _ (Memref.isWhole_whole _) rfl _ (gsz_pos b)) (sl_exact _ (Memref.isWhole_whole _) rfl _ (gsz_pos b)))
    (by rw [amt_sg]; exact fun K' => wpE_waitDma2_eq 𝒱₀ (c : Thread nD τ) none Set.univ K') (by rw [dec_sg]; exact Nat.zero_le _)
  rw [dec_sg] at this; exact this

/-! ### Copies on the device -/

/-- A block of rows as a slice. -/
theorem as_sl {sp : Space} {R : Nat} (M : Memref sig .tc sp (Sn R) .bf16) (c : Dev nD) {a n : Nat} (h : Good R n ![a, 0]) (q : PosShare TreeShare)
    (f : M.view.ty.Contents (Elt F)) :
    (pt M c a n q f : sProp 𝕄) ⊢ ((sl M n ![a, 0] h).view.loc (c : Thread nD τ) ↦[(sl M n ![a, 0] h).view.set]{q} f) :=
  Entails.of_eq (pt_sl h).symm

/-- Rows written with what another array holds there hold that array. -/
theorem pt_written {sp : Space} {R : Nat} (M : Memref sig .tc sp (Sn R) .bf16) {c : Dev nD} {n : Nat} {q : PosShare TreeShare}
    (g : M.view.ty.Contents (Elt F)) {o : Fin 2 → Nat} (h : Good R n o) (f : M.view.ty.Contents (Elt F)) (w : (Sn n).Idx → Elt F .bf16)
    (hw : w = (sl M n o h).view.read (Elt F) g) :
    pt M c (o 0) n q ((sl M n o h).view.write (Elt F) f w Finset.univ) = (pt M c (o 0) n q g : sProp 𝕄) :=
  pt_write_read h w hw

theorem pay_in (b : Fin 3) (h : Fin 2) (fd : V F) :
    iprop(((sl vM (isz b) ![ilo b h, 0] (good (ilo_le b h))).view.loc (c : Thread nD τ) ↦[(sl vM (isz b) ![ilo b h, 0] (good (ilo_le b h))).view.set]{fullShare}
        ((sl vM (isz b) ![ilo b h, 0] (good (ilo_le b h))).view.write (Elt F) fd ((sl xM (isz b) ![ilo b h, 0] (good (ilo_le b h))).view.read (Elt F) (X m c)) Finset.univ))
      ∗ ((sl xM (isz b) ![ilo b h, 0] (good (ilo_le b h))).view.loc (c : Thread nD τ) ↦[(sl xM (isz b) ![ilo b h, 0] (good (ilo_le b h))).view.set]{fullShare} (X m c)))
      ⊢ ((Rd m).payload (dcell c (inS b h)) 0 0 : sProp 𝕄) := by
  show _ ⊢ pay m c (dec (inS b h))
  rw [dec_in, pt_sl, pt_sl, pt_written vM (X m c) (good (ilo_le b h)) fd ((sl xM (isz b) ![ilo b h, 0] (good (ilo_le b h))).view.read (Elt F) (X m c)) rfl]
  unfold pay
  iintro ⟨H1, H2⟩
  isplitl [H2]; · iexact H2
  iexact H1

/-- The start of the copy of a half band in. -/
theorem tr_in (b : Fin 3) (h : Fin 2) :
    Tr m K c iprop(pt xM c (ilo b h) (isz b) fullShare (X m c) ∗ ex vM c (ilo b h) (isz b) ∗ tok1 c (inS b h)) [evIn b h] (pend c (inS b h)) := fun t Φ => by
  unfold pend tok1 ex
  rw [amt_in]
  iintro ⟨#Hc, ⟨Hx, ⟨%fd, Hv⟩, Hat, Htok⟩, Hk⟩
  ihave Hx := (as_sl xM c (good (ilo_le b h)) _ _) $$ Hx
  ihave Hv := (as_sl vM c (good (ilo_le b h)) _ _) $$ Hv
  iapply (Rounds.wp_copy_pointsTo 𝒱₀ ER (Rd m) (c : Thread nD τ) none (κ := K (c, .dma (inS b h))) (r := 0) (d := 0)
    (mem_d m c (inS b h)) () (credit (isz b)) rfl (amt_in b h) (pay_in m c b h fd)) $$ [Hx Hv Htok]
  · isplitr; · iapply (ctx_inv m K (c, .dma (inS b h))); iexact Hc
    isplitl [Hx]; · iexact Hx
    isplitl [Hv]; · iexact Hv
    isplitl [Htok]; · iexact Htok
    iapply (ctx_reached m K (c, .dma (inS b h))); iexact Hc
  iintro Hcr
  iapply Hk
  isplitl [Hat] <;> iassumption

theorem pay_out (b : Fin 3) (o : Fin 5) (fd : V F) :
    iprop(((sl oM (osz b o) ![olo b o c, 0] (good (olo_le b o c))).view.loc (c : Thread nD τ) ↦[(sl oM (osz b o) ![olo b o c, 0] (good (olo_le b o c))).view.set]{fullShare}
        ((sl oM (osz b o) ![olo b o c, 0] (good (olo_le b o c))).view.write (Elt F) fd ((sl gM (osz b o) ![olo b o c, 0] (good (olo_le b o c))).view.read (Elt F) (Final m)) Finset.univ))
      ∗ ((sl gM (osz b o) ![olo b o c, 0] (good (olo_le b o c))).view.loc (c : Thread nD τ) ↦[(sl gM (osz b o) ![olo b o c, 0] (good (olo_le b o c))).view.set]{oq o} (Final m)))
      ⊢ ((Rd m).payload (dcell c (outS b o)) 0 0 : sProp 𝕄) := by
  show _ ⊢ pay m c (dec (outS b o))
  rw [dec_out, pt_sl, pt_sl, pt_written oM (Final m) (good (olo_le b o c)) fd ((sl gM (osz b o) ![olo b o c, 0] (good (olo_le b o c))).view.read (Elt F) (Final m)) rfl]
  unfold pay
  iintro ⟨H1, H2⟩
  isplitl [H2]; · iexact H2
  iexact H1

/-- The start of the copy of a finished block out. -/
theorem tr_out (b : Fin 3) (o : Fin 5) :
    Tr m K c iprop(pt gM c (olo b o c) (osz b o) (oq o) (Final m) ∗ ex oM c (olo b o c) (osz b o) ∗ tok1 c (outS b o)) [evOut c b o] (pend c (outS b o)) := fun t Φ => by
  unfold pend tok1 ex
  rw [amt_out]
  iintro ⟨#Hc, ⟨Hx, ⟨%fd, Hv⟩, Hat, Htok⟩, Hk⟩
  ihave Hx := (as_sl gM c (good (olo_le b o c)) _ _) $$ Hx
  ihave Hv := (as_sl oM c (good (olo_le b o c)) _ _) $$ Hv
  iapply (Rounds.wp_copy_pointsTo 𝒱₀ ER (Rd m) (c : Thread nD τ) none (κ := K (c, .dma (outS b o))) (r := 0) (d := 0)
    (mem_d m c (outS b o)) () (credit (osz b o)) rfl (amt_out b o) (pay_out m c b o fd)) $$ [Hx Hv Htok]
  · isplitr; · iapply (ctx_inv m K (c, .dma (outS b o))); iexact Hc
    isplitl [Hx]; · iexact Hx
    isplitl [Hv]; · iexact Hv
    isplitl [Htok]; · iexact Htok
    iapply (ctx_reached m K (c, .dma (outS b o))); iexact Hc
  iintro Hcr
  iapply Hk
  isplitl [Hat] <;> iassumption

end Cert.Butterfly
-- ==== Proof.Moves.lean ====
module

public import proofs.«01_k».proof.Proof.Steps
public import Idealize.ShloMosaic.Lib.Pointwise.Reshape

/-!
The remaining rules: sends to a partner, vector steps on rows, and the opening barrier.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ### Sends -/

/-- Both partners use the same landing rows. -/
theorem clo_peer : ∀ b r c, clo b r (peer (dir b (stg r)) c) = clo b r c := by decide +kernel
/-- What a device adds to is what its partner sends. -/
theorem klo_peer : ∀ b r c, klo b r (peer (dir b (stg r)) c) = slo b r c := by decide +kernel

/-- Rows written over a communication buffer's. -/
def over (n a a' : Nat) (h : Good 3584 n ![a, 0]) (h' : Good 4096 n ![a', 0]) (g : Vec F (Sn 3584) .bf16) (f : V F) : Vec F (Sn 3584) .bf16 :=
  (sl cM n ![a, 0] h).view.write (Elt F) g ((sl gM n ![a', 0] h').view.read (Elt F) f) Finset.univ

theorem over_eq {n a b a' b' : Nat} {h : Good 3584 n ![a, 0]} {k : Good 3584 n ![b, 0]} {h' : Good 4096 n ![a', 0]} {k' : Good 4096 n ![b', 0]}
    (g : Vec F (Sn 3584) .bf16) {f f' : V F} (e : a = b) (e' : a' = b') (ef : f = f') : over n a a' h h' g f = over n b b' k k' g f' := by
  subst e e' ef; rfl

/-- What a send lands at the partner is what the partner expects. -/
theorem landed_peer (b : Fin 3) (r : Fin 6) (fd : Vec F (Sn 3584) .bf16) :
    (pt cM (peer (dir b (stg r)) c) (clo b r c) (rsz b r) fullShare
      (over (rsz b r) (clo b r c) (slo b r c) (good (clo_le b r c)) (good (slo_le b r c)) fd (A m b (stg r).val c)) : sProp 𝕄)
      = pt cM (peer (dir b (stg r)) c) (clo b r (peer (dir b (stg r)) c)) (rsz b r) fullShare (landed m b r (peer (dir b (stg r)) c)) := by
  rw [show landed m b r (peer (dir b (stg r)) c) = over (rsz b r) (clo b r c) (slo b r c) (good (clo_le b r c)) (good (slo_le b r c))
      (m ((peer (dir b (stg r)) c : Thread nD τ).loc cc0_scratch2)) (A m b (stg r).val c)
    from over_eq _ (clo_peer b r c) (klo_peer b r c) (by rw [peer_peer]), clo_peer]
  exact pt_write_indep (M := cM) (good (clo_le b r c)) _

/-- A sent piece is what the partner's semaphore hands over. -/
theorem pay_send (b : Fin 3) (r : Fin 6) (fd : Vec F (Sn 3584) .bf16) :
    iprop(((sl cM (rsz b r) ![clo b r c, 0] (good (clo_le b r c))).view.loc (peer (dir b (stg r)) c : Thread nD τ) ↦[(sl cM (rsz b r) ![clo b r c, 0] (good (clo_le b r c))).view.set]{fullShare}
        ((sl cM (rsz b r) ![clo b r c, 0] (good (clo_le b r c))).view.write (Elt F) fd ((sl gM (rsz b r) ![slo b r c, 0] (good (slo_le b r c))).view.read (Elt F) (A m b (stg r).val c)) Finset.univ))
      ∗ ((sl gM (rsz b r) ![slo b r c, 0] (good (slo_le b r c))).view.loc (c : Thread nD τ) ↦[(sl gM (rsz b r) ![slo b r c, 0] (good (slo_le b r c))).view.set]{fullShare} (A m b (stg r).val c)))
      ⊢ ((Rd m).payload (dcell (peer (dir b (stg r)) c) (rrS b r)) 0 0 : sProp 𝕄) := by
  show _ ⊢ pay m (peer (dir b (stg r)) c) (dec (rrS b r))
  rw [dec_rr, pt_sl, pt_sl]
  dsimp only [pay]
  rw [← landed_peer m c b r fd, klo_peer, peer_peer]
  unfold over
  exact sep_mono_right pt_ex

theorem Ow_rs (b : Fin 3) (r : Fin 6) (c : Dev nD) :
    Ow (rpos b r) c = Ow (rpos b r + 1) c + tallyAt (dcell (peer (dir b (stg r)) c) (rrS b r)) () (credit (rsz b r)) :=
  (Ow_peel (.inl (b, r)) c).trans (by rw [← amt_rr]; rfl)
theorem Ow_ag (b : Fin 3) (a : Fin 7) (c : Dev nD) :
    Ow (gpos b a) c = Ow (gpos b a + 1) c + tallyAt (dcell (peer (gdir b a) c) (rgS b a)) () (credit (gsz b)) :=
  (Ow_peel (.inr (b, a)) c).trans (by rw [← amt_rg b a]; rfl)

/-- Sending piece `r`: the rows go to the partner, which also gets them to write finished rows into. -/
theorem tr_send (b : Fin 3) (r : Fin 6) :
    Tr m K c iprop(pt gM c (slo b r c) (rsz b r) fullShare (A m b (stg r).val c) ∗ comP c b r ∗ tok1 c (srS b r)
        ∗ tok2 (peer (dir b (stg r)) c) (rrS b r) ∗ ow (rpos b r) c)
      [evSend c b r] iprop(pend c (srS b r) ∗ ow (rpos b r + 1) c) := fun t Φ => by
  unfold pend tok1 tok2 comP ex ow
  rw [amt_sr]
  iintro ⟨#Hc, ⟨Hx, ⟨%fd, Hv⟩, ⟨Hat, Htok⟩, Htok', %W, HO⟩, Hk⟩
  ihave Hx := (as_sl gM c (good (slo_le b r c)) _ _) $$ Hx
  ihave Hv := (as_sl cM (peer (dir b (stg r)) c) (good (clo_le b r c)) _ _) $$ Hv
  iapply (Rounds.wp_send_landing_pointsTo 𝒱₀ ER (Rd m) (c : Thread nD τ) none (κ₁ := K (c, .dma (srS b r))) (κ₂ := K (peer (dir b (stg r)) c, .dma (rrS b r)))
    (r₁ := 0) (r₂ := 0) (d₁ := 0) (d₂ := 0) (mem_d m c (srS b r)) (mem_d m (peer (dir b (stg r)) c) (rrS b r)) () () (credit (rsz b r)) rfl
    (amt_sr b r) (amt_rr b r) (Ow (rpos b r + 1) c) (Ow_rs b r c) (W := W)
    (by show _ ⊢ pay m c (dec (srS b r)); rw [dec_sr]; exact Entails.of_eq rfl) (pay_send m c b r fd)) $$ [Hx Hv Htok Htok' HO]
  · isplitr; · iapply (ctx_inv m K (c, .dma (srS b r))); iexact Hc
    isplitr; · iapply (ctx_inv m K (peer (dir b (stg r)) c, .dma (rrS b r))); iexact Hc
    isplitl [Hx]; · iexact Hx
    isplitl [Hv]; · iexact Hv
    isplitl [HO]; · iexact HO
    isplitl [Htok]; · iexact Htok
    isplitr; · iapply (ctx_reached m K (c, .dma (srS b r))); iexact Hc
    isplitl [Htok']; · iexact Htok'
    iapply (ctx_reached m K (peer (dir b (stg r)) c, .dma (rrS b r))); iexact Hc
  iintro ⟨Hcr, HO⟩
  iapply Hk
  isplitl [Hat Hcr]
  · isplitl [Hat] <;> iassumption
  iexists _; iexact HO

/-- A pushed block is what the partner's semaphore hands over. -/
theorem pay_push (b : Fin 3) (a : Fin 7) (fd : V F) :
    iprop(((sl gM (gsz b) ![glo b a c, 0] (good (glo_le b a c))).view.loc (peer (gdir b a) c : Thread nD τ) ↦[(sl gM (gsz b) ![glo b a c, 0] (good (glo_le b a c))).view.set]{fullShare}
        ((sl gM (gsz b) ![glo b a c, 0] (good (glo_le b a c))).view.write (Elt F) fd ((sl gM (gsz b) ![glo b a c, 0] (good (glo_le b a c))).view.read (Elt F) (Final m)) Finset.univ)))
      ⊢ ((Rd m).payload (dcell (peer (gdir b a) c) (rgS b a)) 0 0 : sProp 𝕄) := by
  show _ ⊢ pay m (peer (gdir b a) c) (dec (rgS b a))
  rw [dec_rg, pt_sl, pt_written gM (Final m) (good (glo_le b a c)) fd _ rfl]
  dsimp only [pay]
  rw [peer_peer]
  exact Entails.of_eq rfl

theorem pay_pushed (b : Fin 3) (a : Fin 7) :
    ((sl gM (gsz b) ![glo b a c, 0] (good (glo_le b a c))).view.loc (c : Thread nD τ) ↦[(sl gM (gsz b) ![glo b a c, 0] (good (glo_le b a c))).view.set]{gq a} (Final m))
      ⊢ ((Rd m).payload (dcell c (sgS b a)) 0 0 : sProp 𝕄) := by
  show _ ⊢ pay m c (dec (sgS b a))
  rw [dec_sg, pt_sl]
  exact Entails.of_eq rfl

/-- Pushing finished rows to a partner. -/
theorem tr_push (b : Fin 3) (a : Fin 7) :
    Tr m K c iprop(pt gM c (glo b a c) (gsz b) (gq a) (Final m) ∗ ex gM (peer (gdir b a) c) (glo b a c) (gsz b) ∗ tok1 c (sgS b a)
        ∗ tok2 (peer (gdir b a) c) (rgS b a) ∗ ow (gpos b a) c)
      [evPush c b a] iprop(pend c (sgS b a) ∗ ow (gpos b a + 1) c) := fun t Φ => by
  unfold pend tok1 tok2 ex ow
  rw [amt_sg]
  iintro ⟨#Hc, ⟨Hx, ⟨%fd, Hv⟩, ⟨Hat, Htok⟩, Htok', %W, HO⟩, Hk⟩
  ihave Hx := (as_sl gM c (good (glo_le b a c)) _ _) $$ Hx
  ihave Hv := (as_sl gM (peer (gdir b a) c) (good (glo_le b a c)) _ _) $$ Hv
  iapply (Rounds.wp_send_pointsTo 𝒱₀ ER (Rd m) (c : Thread nD τ) none (κ₁ := K (c, .dma (sgS b a))) (κ₂ := K (peer (gdir b a) c, .dma (rgS b a)))
    (r₁ := 0) (r₂ := 0) (d₁ := 0) (d₂ := 0) (mem_d m c (sgS b a)) (mem_d m (peer (gdir b a) c) (rgS b a)) () () (credit (gsz b)) rfl
    (amt_sg b a) (amt_rg b a) (Ow (gpos b a + 1) c) (Ow_ag b a c) (W := W)
    (pay_pushed m c b a) (pay_push m c b a fd)) $$ [Hx Hv Htok Htok' HO]
  · isplitr; · iapply (ctx_inv m K (c, .dma (sgS b a))); iexact Hc
    isplitr; · iapply (ctx_inv m K (peer (gdir b a) c, .dma (rgS b a))); iexact Hc
    isplitl [Hx]; · iexact Hx
    isplitl [Hv]; · iexact Hv
    isplitl [HO]; · iexact HO
    isplitl [Htok]; · iexact Htok
    isplitr; · iapply (ctx_reached m K (c, .dma (sgS b a))); iexact Hc
    isplitl [Htok']; · iexact Htok'
    iapply (ctx_reached m K (peer (gdir b a) c, .dma (rgS b a))); iexact Hc
  iintro ⟨Hcr, HO⟩
  iapply Hk
  isplitl [Hat Hcr]
  · isplitl [Hat] <;> iassumption
  iexists _; iexact HO

/-! ### Vector steps -/

theorem acc_sub {sp : Space} {R : Nat} (M : Memref sig .tc sp (Sn R) .bf16) {n a b k : Nat} (h : Good R n ![a, 0]) (hs : b ≤ a ∧ a + n ≤ b + k) :
    (M.access (rc R n ![a, 0] h)).set ⊆ (rows R b k).map M.view.emb := by
  rw [show (M.access (rc R n ![a, 0] h)).set = (rows R a n).map M.view.emb from sl_set h]
  exact Finset.map_subset_map.mpr (rows_sub hs)

/-- A load of owned rows. -/
theorem ld {R : Nat} (M : Memref sig .tc .vmem (Sn R) .bf16) {n a b k : Nat} {h : Good R n ![a, 0]} (hs : b ≤ a ∧ a + n ≤ b + k)
    {q : PosShare TreeShare} {f : M.view.ty.Contents (Elt F)} {hl : M.view.LoadsAt (rc R n ![a, 0] h).toLoadRect}
    {kk : Vec F (Sn n) .bf16 → PT F} {Φ : PUnit → sProp 𝕄} :
    pt M c b k q f ⊢ iprop((pt M c b k q f -∗ wp frame (wpE (defs₀ (F := F)) 𝒱₀ (c : Thread nD τ) none) Set.univ (kk ((sl M n ![a, 0] h).view.read (Elt F) f)) Φ)
      -∗ wp frame (wpE (defs₀ (F := F)) 𝒱₀ (c : Thread nD τ) none) Set.univ (.op (.load M (rc R n ![a, 0] h).toLoadRect hl) kk) Φ) :=
  wp_load_rect 𝒱₀ (c : Thread nD τ) none Set.univ (m := M) (r := rc R n ![a, 0] h) (acc_sub M h hs)

/-- A store to owned rows. -/
theorem store (n : Nat) (hn : 0 < n ∧ 2 ∣ n) {a : Nat} (h : Good 4096 n ![a, 0]) {f : V F} (g : V F) (v : FVec F (Sn n) .bf16)
    (hv : v = (sl gM n ![a, 0] h).view.read (Elt F) g) {kk : PUnit → PT F} {Φ : PUnit → sProp 𝕄} :
    pt gM c a n fullShare f ⊢ iprop((pt gM c a n fullShare g -∗ wp frame (wpE (defs₀ (F := F)) 𝒱₀ (c : Thread nD τ) none) Set.univ (kk ⟨⟩) Φ)
      -∗ wp frame (wpE (defs₀ (F := F)) 𝒱₀ (c : Thread nD τ) none) Set.univ (stG n hn ![a, 0] h v kk) Φ) := by
  rw [show (pt gM c a n fullShare g : sProp 𝕄) = _ from (pt_written gM (c := c) (q := fullShare) g h f v hv).symm]
  exact wp_store 𝒱₀ (c : Thread nD τ) none Set.univ (m := gM) (r := rc 4096 n ![a, 0] h) (Mk := Finset.univ) (acc_sub gM h ⟨Nat.le_refl _, Nat.le_refl _⟩)

/-- Copying rows of the loaded argument into the gather buffer. -/
theorem tr_copy (n : Nat) (hn : 0 < n ∧ 2 ∣ n) (a a₀ n₀ : Nat) (h : Good 4096 n ![a, 0]) (hs : a₀ ≤ a ∧ a + n ≤ a₀ + n₀) (f : V F) :
    Tr m K c iprop(pt vM c a₀ n₀ fullShare f ∗ ex gM c a n) [gCopy n hn ![a, 0] h]
      iprop(pt vM c a₀ n₀ fullShare f ∗ pt gM c a n fullShare f) := fun t Φ => by
  show _ ⊢ wp _ _ _ (ldV n hn ![a, 0] h fun v => ldG n hn ![a, 0] h fun _ => stG n hn ![a, 0] h (payCopy v) fun _ => t) Φ
  unfold ex
  iintro ⟨-, ⟨Hv, %g, Hg⟩, Hk⟩
  unfold ldV ldG
  iapply (ld c vM hs) $$ Hv; iintro Hv
  iapply (ld c gM ⟨Nat.le_refl _, Nat.le_refl _⟩) $$ Hg; iintro Hg
  iapply (store c n hn h f _ (by unfold payCopy; rw [shapeCast_id]; rfl)) $$ Hg; iintro Hg
  iapply Hk
  isplitl [Hv] <;> iassumption

/-- A partial sum and the landed one make the next partial sum. -/
theorem add_eq (b : Fin 3) (r : Fin 6) :
    payAdd ((sl gM (rsz b r) ![klo b r c, 0] (good (klo_le b r c))).view.read (Elt F) (A m b (stg r).val c))
        ((sl cM (rsz b r) ![clo b r c, 0] (good (clo_le b r c))).view.read (Elt F) (landed m b r c))
      = (sl gM (rsz b r) ![klo b r c, 0] (good (klo_le b r c))).view.read (Elt F) (A m b ((stg r).val + 1) c) := by
  unfold payAdd landed
  rw [shapeCast_id, View.read_write_univ,
    A, show st (stg r).val = stg r from Fin.ext (Nat.mod_eq_of_lt (stg r).isLt)]
  rfl

/-- Adding a landed piece to the own rows. -/
theorem tr_add (b : Fin 3) (r : Fin 6) :
    Tr m K c iprop(pt gM c (klo b r c) (rsz b r) fullShare (A m b (stg r).val c) ∗ pt cM c (clo b r c) (rsz b r) fullShare (landed m b r c)) [evAdd c b r]
      iprop(pt gM c (klo b r c) (rsz b r) fullShare (A m b ((stg r).val + 1) c) ∗ ex cM c (clo b r c) (rsz b r)) := fun t Φ => by
  show _ ⊢ wp _ _ _ (ldG (rsz b r) (rsz_pos b r) ![klo b r c, 0] (good (klo_le b r c)) fun v => ldC (rsz b r) (rsz_pos b r) ![clo b r c, 0] (good (clo_le b r c)) fun w =>
    ldG (rsz b r) (rsz_pos b r) ![klo b r c, 0] (good (klo_le b r c)) fun _ => stG (rsz b r) (rsz_pos b r) ![klo b r c, 0] (good (klo_le b r c)) (payAdd v w) fun _ => t) Φ
  iintro ⟨-, ⟨Hg, Hc⟩, Hk⟩
  unfold ldG ldC
  iapply (ld c gM ⟨Nat.le_refl _, Nat.le_refl _⟩) $$ Hg; iintro Hg
  iapply (ld c cM ⟨Nat.le_refl _, Nat.le_refl _⟩) $$ Hc; iintro Hc
  iapply (ld c gM ⟨Nat.le_refl _, Nat.le_refl _⟩) $$ Hg; iintro Hg
  iapply (store c (rsz b r) (rsz_pos b r) (good (klo_le b r c)) (A m b ((stg r).val + 1) c) _ (add_eq m c b r)) $$ Hg; iintro Hg
  iapply Hk
  isplitl [Hg]; · iexact Hg
  iapply pt_ex; iexact Hc

/-! ### The opening barrier -/

/-- What device `c` still owes before its signal number `j`. -/
def Sg : Nat → Dev nD → CellTallies nD τ sig Unit
  | 0, c => Ow 0 c
  | 1, c => Ow 0 c + tallyAt (bcell (peer 2 c)) () 1
  | 2, c => Ow 0 c + tallyAt (bcell (peer 2 c)) () 1 + tallyAt (bcell (peer 1 c)) () 1
  | _, c => Ow 0 c + tallyAt (bcell (peer 2 c)) () 1 + tallyAt (bcell (peer 1 c)) () 1 + tallyAt (bcell (peer 0 c)) () 1

theorem Sg_peel (j : Fin 3) (c : Dev nD) : Sg (3 - j.val) c = Sg (2 - j.val) c + tallyAt (bcell (peer j c)) () 1 := by
  fin_cases j <;> rfl

def sg (n : Nat) (c : Dev nD) : sProp 𝕄 := iprop(∃ W, owes (c : Thread nD τ) (Sg n c) W)

/-- The right to a device's barrier unit. -/
def btok (c : Dev nD) (d : Fin 3) : sProp 𝕄 := dutyTok ER (bcell c) 0 d
def bpend (c : Dev nD) : sProp 𝕄 := iprop(atPos ER (bcell c) 0 ∅ 0 ∗ cred (tallyAt (bcell c) () 3))

/-- A signal gives a partner the places for what it will send here. -/
theorem tr_sig (j : Fin 3) :
    Tr m K c iprop(barPay (peer j c) j ∗ btok (peer j c) j ∗ sg (3 - j.val) c) [evSig c j] (sg (2 - j.val) c) := fun t Φ => by
  show _ ⊢ wp _ _ _ (evSig c j >>= fun _ => t) Φ
  unfold sg btok
  simp only [evSig, semSignalWord, Prog.lift, Prog.bind_op, Prog.bind_ret, Prog.pure_eq_ret]
  iintro ⟨#Hc, ⟨Hp, Htok, %W, HO⟩, Hk⟩
  iapply (Rounds.wp_signal 𝒱₀ ER (Rd m) (c : Thread nD τ) none (dst := (peer j c : Thread nD τ)) (κ := K (peer j c, .reg barS)) (d := j)
    (mem_b m (peer j c) j) rfl () (Sg (2 - j.val) c) (Sg_peel j c)) $$ [HO Htok Hp]
  · isplitr; · iapply (ctx_inv m K (peer j c, .reg barS)); iexact Hc
    isplitl [HO]; · iexact HO
    isplitl [Htok]; · iexact Htok
    isplitl [Hp]; · iapply (Entails.of_eq (show barPay (peer j c) j = (Rd m).payload (bcell (peer j c)) 0 j from rfl)); iexact Hp
    iapply (ctx_reached m K (peer j c, .reg barS)); iexact Hc
  iintro HO
  iapply Hk
  iexists _; iexact HO

/-- The wait hands over the places at all partners. -/
theorem tr_bar :
    Tr m K c iprop(bpend c ∗ ow 0 c) [evBar] iprop((barPay c 0 ∗ barPay c 1 ∗ barPay c 2) ∗ semVal (bcell c) 0 ∗ ow 0 c) := fun t Φ => by
  show _ ⊢ wp _ _ _ (evBar >>= fun _ => t) Φ
  unfold bpend ow
  simp only [evBar, semWaitWord, Prog.lift, Prog.bind_op, Prog.bind_ret, Prog.pure_eq_ret]
  iintro ⟨#Hc, ⟨⟨Hat, Hcr⟩, %W, HO⟩, Hk⟩
  iapply (Rounds.wp_wait_rest_token 𝒱₀ ER (Rd m) (c : Thread nD τ) none (κ := K (c, .reg barS)) (wpE_semWait_eq 𝒱₀ (c : Thread nD τ) none Set.univ)
    (Set.mem_univ _) () (O := Ow 0 c) (W := W) (R := 0) (m := 0) (T := ∅) (by rw [Nat.zero_add]; exact (expect_b m c).symm)) $$ [Hcr HO Hat]
  · isplitr; · iapply (ctx_inv m K (c, .reg barS)); iexact Hc
    isplitl [Hcr]; · iexact Hcr
    isplitl [HO]; · iexact HO
    isplitr; · iapply (mayWait (F := F) c (.reg barS) 0 (Nat.le_refl 1)); iapply (ctx_lev m K); iexact Hc
    iexact Hat
  iintro ⟨HO, Hat, -, Hpay⟩
  ihave Hp := (Entails.of_eq (rest_b m c)) $$ Hpay
  imod (Rounds.cell_close ER (Rd m) (Set.mem_univ (K (c, .reg barS))) (fun h => h) (R := 0 + 1) (duties_later m (bcell c))) $$ [Hat] with Hz
  · isplitr; · iapply (ctx_inv m K (c, .reg barS)); iexact Hc
    iexact Hat
  iapply Hk
  isplitl [Hp]; · iexact Hp
  isplitl [Hz]; · iexact Hz
  iexists _; iexact HO

end Cert.Butterfly
-- ==== Proof.Phases.lean ====
module

public import proofs.«01_k».proof.Proof.Moves

/-!
The phases of one butterfly, each as one rule over the rows that it takes and leaves.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {m : (ℓ : Loc nD τ sig) → Buf (Elt F) ℓ} {K : Dev nD × SemLoc sig → ℕ} {c : Dev nD}

/-- Running the first steps of a list by their rule. -/
theorem Tr.step {P Q : sProp (MT nD τ sig Unit (Elt F) ℕ UU ℕ)} {l : List (PT F)} (h : Tr m K c P l Q) {l' : List (PT F)} {t : PT F} {Φ : PUnit → sProp (MT nD τ sig Unit (Elt F) ℕ UU ℕ)} :
    iprop(ctx m K ∗ P) ⊢ iprop((Q -∗ wp Idealize.ShloMosaic.frame (wpE (defs₀ (F := F)) 𝒱₀ (c : Thread nD τ) none) Set.univ (runsK l' t) Φ)
      -∗ wp Idealize.ShloMosaic.frame (wpE (defs₀ (F := F)) 𝒱₀ (c : Thread nD τ) none) Set.univ (runsK (l ++ l') t) Φ) := by
  rw [runsK_append]
  iintro ⟨Hc, HP⟩ Hk
  iapply (h _ Φ)
  isplitl [Hc]; · iexact Hc
  isplitl [HP] <;> iassumption

theorem Tr.head {P Q : sProp (MT nD τ sig Unit (Elt F) ℕ UU ℕ)} {e : PT F} (h : Tr m K c P [e] Q) {l' : List (PT F)} {t : PT F} {Φ : PUnit → sProp (MT nD τ sig Unit (Elt F) ℕ UU ℕ)} :
    iprop(ctx m K ∗ P) ⊢ iprop((Q -∗ wp Idealize.ShloMosaic.frame (wpE (defs₀ (F := F)) 𝒱₀ (c : Thread nD τ) none) Set.univ (runsK l' t) Φ)
      -∗ wp Idealize.ShloMosaic.frame (wpE (defs₀ (F := F)) 𝒱₀ (c : Thread nD τ) none) Set.univ (runsK (e :: l') t) Φ) := h.step
end

variable (m : (ℓ : Loc nD τ sig) → Buf (Elt F) ℓ) (K : Dev nD × SemLoc sig → ℕ) (c : Dev nD)

/-! ### What a device holds -/

/-- A piece of the argument. -/
def xP (b : Fin 3) (h : Fin 2) : sProp 𝕄 := pt xM c (ilo b h) (isz b) fullShare (X m c)
/-- A piece of the load buffer. -/
def vE (b : Fin 3) (h : Fin 2) : sProp 𝕄 := ex (F := F) vM c (ilo b h) (isz b)
/-- A loaded band. -/
def vB (b : Fin 3) : sProp 𝕄 := pt vM c (base b) (tot b) fullShare (X m c)
/-- A piece of the result, before and after its copy. -/
def oE (b : Fin 3) (o : Fin 5) : sProp 𝕄 := ex (F := F) oM c (olo b o c) (osz b o)
def oF (b : Fin 3) (o : Fin 5) : sProp 𝕄 := pt oM c (olo b o c) (osz b o) fullShare (Final m)
/-- A landing place that was read. -/
def comE (b : Fin 3) (r : Fin 6) : sProp 𝕄 := ex (F := F) cM c (clo b r c) (rsz b r)
/-- The rows to send, of the gather buffer, before they are filled. -/
def gE (b : Fin 3) (r : Fin 6) : sProp 𝕄 := ex (F := F) gM c (slo b r c) (rsz b r)
/-- The rows a partner let go of with its piece `r`. -/
def perm (b : Fin 3) (r : Fin 6) : sProp 𝕄 := ex (F := F) gM (peer (dir b (stg r)) c) (klo b r c) (rsz b r)
/-- The rows that piece `r` is added to, after `s` stages. -/
def kp (b : Fin 3) (r : Fin 6) (s : Nat) : sProp 𝕄 := pt gM c (klo b r c) (rsz b r) fullShare (A m b s c)
/-- The tokens of a piece's transfer and of a push. -/
def tS (b : Fin 3) (r : Fin 6) : sProp 𝕄 := iprop(tok1 c (srS b r) ∗ tok2 (F := F) (peer (dir b (stg r)) c) (rrS b r))
def tG (b : Fin 3) (a : Fin 7) : sProp 𝕄 := iprop(tok1 c (sgS b a) ∗ tok2 (F := F) (peer (gdir b a) c) (rgS b a))
/-- Finished rows at a share. -/
def fin (a n : Nat) (q : PosShare TreeShare) : sProp 𝕄 := pt gM c a n q (Final m)

/-! ### Arithmetic of the rows, decided over the devices -/

theorem in_halves : ∀ b, Halves (base b) (ilo b 0) (ilo b 1) (isz b) ∧ tot b = isz b + isz b := by decide +kernel
theorem prep_sub : ∀ b r c, stg r = 0 → base b ≤ slo b r c ∧ slo b r c + rsz b r ≤ base b + tot b := by decide +kernel
theorem keep_sub : ∀ b c, base b ≤ keep b 0 c ∧ keep b 0 c + isz b ≤ base b + tot b := by decide +kernel
theorem keep_halves : ∀ b c, Halves (keep b 0 c) (klo b 0 c) (klo b 1 c) (rsz b 0) ∧ isz b = rsz b 0 + rsz b 0 := by decide +kernel
theorem a0_halves : ∀ b c, Halves (klo b 0 c) (slo b 2 c) (slo b 3 c) (rsz b 2) ∧ rsz b 0 = rsz b 2 + rsz b 2 := by decide +kernel
theorem a1_halves : ∀ b c, Halves (klo b 1 c) (klo b 2 c) (klo b 3 c) (rsz b 2) ∧ rsz b 1 = rsz b 2 + rsz b 2 := by decide +kernel
theorem b0_halves : ∀ b c, Halves (klo b 2 c) (slo b 4 c) (slo b 5 c) (rsz b 4) ∧ rsz b 2 = rsz b 4 + rsz b 4 := by decide +kernel
theorem b1_halves : ∀ b c, Halves (klo b 3 c) (klo b 4 c) (klo b 5 c) (rsz b 4) ∧ rsz b 3 = rsz b 4 + rsz b 4 := by decide +kernel
theorem c_halves : ∀ b c, Halves (keep b 2 c) (klo b 4 c) (klo b 5 c) (rsz b 4) ∧ gsz b = rsz b 4 + rsz b 4 := by decide +kernel

/-! ### Rules at given numbers -/

theorem send_at (b : Fin 3) (r : Fin 6) (s n n' : Nat) (hs : (stg r).val = s) (hn : rpos b r = n) (hn' : n' = n + 1) :
    Tr m K c iprop(pt gM c (slo b r c) (rsz b r) fullShare (A m b s c) ∗ comP c b r ∗ tS c b r ∗ ow n c)
      [evSend c b r] iprop(pend c (srS b r) ∗ ow n' c) := by
  subst hs hn hn'
  refine (tr_send m K c b r).conseq ?_ (Entails.of_eq rfl)
  unfold tS
  iintro ⟨H1, H2, ⟨H3, H4⟩, H5⟩
  isplitl [H1]; · iexact H1
  isplitl [H2]; · iexact H2
  isplitl [H3]; · iexact H3
  isplitl [H4] <;> iassumption

theorem push_at (b : Fin 3) (a : Fin 7) (x n n' : Nat) (q : PosShare TreeShare) (p : Dev nD) (hx : glo b a c = x) (hq : gq a = q) (hp : peer (gdir b a) c = p)
    (hn : gpos b a = n) (hn' : n' = n + 1) :
    Tr m K c iprop(fin m c x (gsz b) q ∗ ex gM p x (gsz b) ∗ tG c b a ∗ ow n c)
      [evPush c b a] iprop(pend c (sgS b a) ∗ ow n' c) := by
  subst hx hq hp hn hn'
  refine (tr_push m K c b a).conseq ?_ (Entails.of_eq rfl)
  unfold tG fin
  iintro ⟨H1, H2, ⟨H3, H4⟩, H5⟩
  isplitl [H1]; · iexact H1
  isplitl [H2]; · iexact H2
  isplitl [H3]; · iexact H3
  isplitl [H4] <;> iassumption

theorem out_at (b : Fin 3) (o : Fin 5) (x k : Nat) (q : PosShare TreeShare) (hx : olo b o c = x) (hk : osz b o = k) (hq : oq o = q) :
    Tr m K c iprop(fin m c x k q ∗ oE c b o ∗ tok1 c (outS b o)) [evOut c b o] (pend c (outS b o)) := by
  subst hx hk hq
  exact tr_out m K c b o

theorem pull_at (b : Fin 3) (a : Fin 7) (x n : Nat) (hx : glo b a (peer (gdir b a) c) = x) (hn : gpos b a < n) :
    Tr m K c iprop(pend c (rgS b a) ∗ ow n c) [evPull c b a] iprop(fin m c x (gsz b) fullShare ∗ zero c (rgS b a) ∗ ow n c) := by
  subst hx
  exact tr_pull m K c b a n hn

/-- A partner's piece arrives and is added. -/
theorem take (b : Fin 3) (r : Fin 6) (s n : Nat) (hs : (stg r).val = s) (hn : rpos b r < n) :
    Tr m K c iprop(pend c (rrS b r) ∗ kp m c b r s ∗ ow n c) [evRecv c b r, evAdd c b r]
      iprop(kp m c b r (s + 1) ∗ comE c b r ∗ perm c b r ∗ zero c (rrS b r) ∗ ow n c) := fun t Φ => by
  subst hs
  unfold kp
  iintro ⟨#Hc, ⟨H1, H2, H3⟩, Hk⟩
  iapply (Tr.head (tr_recv m K c b r n hn)) $$ [$Hc $H1 $H3]
  iintro ⟨Hp, Hz, HO⟩
  ihave Hp := (show pay m c (.rr b r) ⊢ iprop(pt cM c (clo b r c) (rsz b r) fullShare (landed m b r c) ∗ perm c b r) from Entails.of_eq rfl) $$ Hp
  icases Hp with ⟨Hp1, Hp2⟩
  iapply (Tr.head (tr_add m K c b r)) $$ [$Hc $H2 $Hp1]
  iintro ⟨Hg, He⟩
  iapply Hk
  unfold comE
  iframe Hg He Hp2 Hz HO

/-! ### The phases -/

/-- A band is copied in. -/
theorem ph_in (b : Fin 3) :
    Tr m K c iprop(xP m c b 0 ∗ xP m c b 1 ∗ vE c b 0 ∗ vE c b 1 ∗ tok1 c (inS b 0) ∗ tok1 c (inS b 1)) (phIn b)
      iprop(pend c (inS b 0) ∗ pend c (inS b 1)) := fun t Φ => by
  unfold xP vE phIn
  iintro ⟨#Hc, ⟨Hx0, Hx1, Hv0, Hv1, Ht0, Ht1⟩, Hk⟩
  iapply (Tr.head (tr_in m K c b 0)) $$ [$Hc $Hx0 $Hv0 $Ht0]
  iintro H0
  iapply (Tr.head (tr_in m K c b 1)) $$ [$Hc $Hx1 $Hv1 $Ht1]
  iintro H1
  iapply Hk
  iframe H0 H1

theorem prep_one (b : Fin 3) (r : Fin 6) (n n' : Nat) (hs : stg r = 0) (hn : rpos b r = n) (hn' : n' = n + 1) :
    Tr m K c iprop(vB m c b ∗ gE c b r ∗ comP c b r ∗ tS c b r ∗ ow n c) [evPrep c b r, evSend c b r]
      iprop(vB m c b ∗ pend c (srS b r) ∗ ow n' c) := fun t Φ => by
  unfold vB gE
  iintro ⟨#Hc, ⟨Hv, Hg, Hp, Ht, HO⟩, Hk⟩
  iapply (Tr.head (tr_copy m K c (rsz b r) (rsz_pos b r) (slo b r c) (base b) (tot b) (good (slo_le b r c)) (prep_sub b r c hs) (X m c))) $$ [$Hc $Hv $Hg]
  iintro ⟨Hv, Hg⟩
  ihave Hg := (show (pt gM c (slo b r c) (rsz b r) fullShare (X m c) : sProp 𝕄) ⊢ pt gM c (slo b r c) (rsz b r) fullShare (A m b 0 c) from Entails.of_eq rfl) $$ Hg
  iapply (Tr.head (send_at m K c b r 0 n n' (by rw [hs]; rfl) hn hn')) $$ [$Hc $Hg $Hp $Ht $HO]
  iintro ⟨H0, HO⟩
  iapply Hk
  iframe Hv H0 HO

/-- The first pieces are cast and sent. -/
theorem ph_prep (b : Fin 3) :
    Tr m K c iprop((pend c (inS b 0) ∗ pend c (inS b 1) ∗ gE c b 0 ∗ gE c b 1 ∗ comP c b 0 ∗ comP c b 1 ∗ tS c b 0 ∗ tS c b 1) ∗ ow (2 * b.val) c) (phPrep c b)
      iprop((vB m c b ∗ xP m c b 0 ∗ xP m c b 1 ∗ zero c (inS b 0) ∗ zero c (inS b 1) ∗ pend c (srS b 0) ∗ pend c (srS b 1)) ∗ ow (2 * (b.val + 1)) c) := fun t Φ => by
  unfold phPrep
  iintro ⟨#Hc, ⟨⟨Hi0, Hi1, Hg0, Hg1, Hp0, Hp1, Ht0, Ht1⟩, HO⟩, Hk⟩
  iapply (Tr.head (tr_inWait m K c b 0 (2 * b.val))) $$ [$Hc $Hi0 $HO]
  unfold pay
  iintro ⟨⟨Hx0, Hv0⟩, Hz0, HO⟩
  iapply (Tr.head (tr_inWait m K c b 1 (2 * b.val))) $$ [$Hc $Hi1 $HO]
  unfold pay
  iintro ⟨⟨Hx1, Hv1⟩, Hz1, HO⟩
  ihave Hv : (vB m c b) $$ [Hv0 Hv1]
  · unfold vB
    iapply (Entails.of_eq (pt_halves (in_halves b).1 (in_halves b).2).symm)
    iframe Hv0 Hv1
  iapply (Tr.step (prep_one m K c b 0 (2 * b.val) (2 * b.val + 1) rfl rfl rfl) (l' := [evPrep c b 1, evSend c b 1])) $$ [$Hc $Hv $Hg0 $Hp0 $Ht0 $HO]
  iintro ⟨Hv, H0, HO⟩
  iapply (Tr.step (prep_one m K c b 1 (2 * b.val + 1) (2 * (b.val + 1)) rfl rfl rfl) (l' := [])) $$ [$Hc $Hv $Hg1 $Hp1 $Ht1 $HO]
  iintro ⟨Hv, H1, HO⟩
  iapply Hk
  unfold xP
  iframe Hv Hx0 Hx1 Hz0 Hz1 H0 H1 HO

/-- The kept half is cast. -/
theorem ph_keep (b : Fin 3) :
    Tr m K c iprop(vB m c b ∗ ex gM c (keep b 0 c) (isz b)) (phKeep c b) iprop(vB m c b ∗ kp m c b 0 0 ∗ kp m c b 1 0) := fun t Φ => by
  unfold phKeep vB
  iintro ⟨#Hc, ⟨Hv, Hg⟩, Hk⟩
  iapply (Tr.head (tr_copy m K c (isz b) (isz_pos b) (keep b 0 c) (base b) (tot b) (good (keep_le b c)) (keep_sub b c) (X m c))) $$ [$Hc $Hv $Hg]
  iintro ⟨Hv, Hg⟩
  iapply Hk
  iframe Hv
  iapply (show (pt gM c (keep b 0 c) (isz b) fullShare (X m c) : sProp 𝕄) ⊢ iprop(kp m c b 0 0 ∗ kp m c b 1 0)
    from Entails.of_eq (pt_halves (keep_halves b c).1 (keep_halves b c).2)) $$ Hg

/-- A phase that takes a piece and sends its two halves on. -/
theorem take_send (b : Fin 3) (r u v : Fin 6) (s n n₁ n₂ : Nat) (hs : (stg r).val = s) (hu : (stg u).val = s + 1) (hv : (stg v).val = s + 1)
    (hr : rpos b r < n) (nu : rpos b u = n) (h₁ : n₁ = n + 1) (nv : rpos b v = n₁) (h₂ : n₂ = n₁ + 1)
    (hh : Halves (klo b r c) (slo b u c) (slo b v c) (rsz b u)) (hk : rsz b r = rsz b u + rsz b u) (huv : rsz b v = rsz b u) :
    Tr m K c iprop((pend c (rrS b r) ∗ kp m c b r s ∗ comP c b u ∗ comP c b v ∗ tS c b u ∗ tS c b v) ∗ ow n c)
      [evRecv c b r, evAdd c b r, evSend c b u, evSend c b v]
      iprop((comE c b r ∗ perm c b r ∗ zero c (rrS b r) ∗ pend c (srS b u) ∗ pend c (srS b v)) ∗ ow n₂ c) := fun t Φ => by
  iintro ⟨#Hc, ⟨⟨Hr, Hg, Hp0, Hp1, Ht0, Ht1⟩, HO⟩, Hk⟩
  iapply (Tr.step (take m K c b r s n hs hr) (l' := [evSend c b u, evSend c b v])) $$ [$Hc $Hr $Hg $HO]
  iintro ⟨Hg, He, Hq, Hz, HO⟩
  ihave Hg := (show kp m c b r (s + 1) ⊢ iprop(pt gM c (slo b u c) (rsz b u) fullShare (A m b (s + 1) c) ∗ pt gM c (slo b v c) (rsz b v) fullShare (A m b (s + 1) c))
    from by rw [huv]; exact Entails.of_eq (pt_halves hh hk)) $$ Hg
  icases Hg with ⟨Hg0, Hg1⟩
  iapply (Tr.head (send_at m K c b u (s + 1) n n₁ hu nu h₁)) $$ [$Hc $Hg0 $Hp0 $Ht0 $HO]
  iintro ⟨H0, HO⟩
  iapply (Tr.head (send_at m K c b v (s + 1) n₁ n₂ hv nv h₂)) $$ [$Hc $Hg1 $Hp1 $Ht1 $HO]
  iintro ⟨H1, HO⟩
  iapply Hk
  iframe He Hq Hz H0 H1 HO

/-- A phase that takes a piece whose rows stay, and go on as two pieces. -/
theorem take_halves (b : Fin 3) (r u v : Fin 6) (s n : Nat) (hs : (stg r).val = s) (hr : rpos b r < n)
    (hh : Halves (klo b r c) (klo b u c) (klo b v c) (rsz b u)) (hk : rsz b r = rsz b u + rsz b u) (huv : rsz b v = rsz b u) :
    Tr m K c iprop((pend c (rrS b r) ∗ kp m c b r s) ∗ ow n c) [evRecv c b r, evAdd c b r]
      iprop((kp m c b u (s + 1) ∗ kp m c b v (s + 1) ∗ comE c b r ∗ perm c b r ∗ zero c (rrS b r)) ∗ ow n c) := fun t Φ => by
  iintro ⟨#Hc, ⟨⟨Hr, Hg⟩, HO⟩, Hk⟩
  iapply (Tr.step (take m K c b r s n hs hr) (l' := [])) $$ [$Hc $Hr $Hg $HO]
  iintro ⟨Hg, He, Hq, Hz, HO⟩
  ihave Hg := (show kp m c b r (s + 1) ⊢ iprop(kp m c b u (s + 1) ∗ kp m c b v (s + 1))
    from by unfold kp; rw [huv]; exact Entails.of_eq (pt_halves hh hk)) $$ Hg
  icases Hg with ⟨Hg0, Hg1⟩
  iapply Hk
  iframe Hg0 Hg1 He Hq Hz HO

/-- The first piece of stage 0 is received and added, and both pieces of stage 1 are sent. -/
theorem ph_a0 (b : Fin 3) :
    Tr m K c iprop((pend c (rrS b 0) ∗ kp m c b 0 0 ∗ comP c b 2 ∗ comP c b 3 ∗ tS c b 2 ∗ tS c b 3) ∗ ow (6 + 2 * b.val) c) (phA0 c b)
      iprop((comE c b 0 ∗ perm c b 0 ∗ zero c (rrS b 0) ∗ pend c (srS b 2) ∗ pend c (srS b 3)) ∗ ow (6 + 2 * (b.val + 1)) c) :=
  take_send m K c b 0 2 3 0 _ (6 + 2 * b.val + 1) _ rfl rfl rfl (by have := b.isLt; show 2 * b.val < _; omega) rfl rfl rfl rfl
    (a0_halves b c).1 (a0_halves b c).2 rfl

/-- The first piece of stage 1 is received and added, and both pieces of stage 2 are sent. -/
theorem ph_b0 (b : Fin 3) :
    Tr m K c iprop((pend c (rrS b 2) ∗ kp m c b 2 1 ∗ comP c b 4 ∗ comP c b 5 ∗ tS c b 4 ∗ tS c b 5) ∗ ow (12 + 2 * b.val) c) (phB0 c b)
      iprop((comE c b 2 ∗ perm c b 2 ∗ zero c (rrS b 2) ∗ pend c (srS b 4) ∗ pend c (srS b 5)) ∗ ow (12 + 2 * (b.val + 1)) c) :=
  take_send m K c b 2 4 5 1 _ (12 + 2 * b.val + 1) _ rfl rfl rfl (by have := b.isLt; show 6 + 2 * b.val < _; omega) rfl rfl rfl rfl
    (b0_halves b c).1 (b0_halves b c).2 rfl

/-- The second piece of stage 0 is received and added. -/
theorem ph_a1 (b : Fin 3) :
    Tr m K c iprop((pend c (rrS b 1) ∗ kp m c b 1 0) ∗ ow 12 c) (phA1 c b)
      iprop((kp m c b 2 1 ∗ kp m c b 3 1 ∗ comE c b 1 ∗ perm c b 1 ∗ zero c (rrS b 1)) ∗ ow 12 c) :=
  take_halves m K c b 1 2 3 0 12 rfl (by have := b.isLt; show 2 * b.val + 1 < _; omega) (a1_halves b c).1 (a1_halves b c).2 rfl

/-- The second piece of stage 1 is received and added. -/
theorem ph_b1 (b : Fin 3) :
    Tr m K c iprop((pend c (rrS b 3) ∗ kp m c b 3 1) ∗ ow 18 c) (phB1 c b)
      iprop((kp m c b 4 2 ∗ kp m c b 5 2 ∗ comE c b 3 ∗ perm c b 3 ∗ zero c (rrS b 3)) ∗ ow 18 c) :=
  take_halves m K c b 3 4 5 1 18 rfl (by have := b.isLt; show 6 + 2 * b.val + 1 < _; omega) (b1_halves b c).1 (b1_halves b c).2 rfl

/-- The first piece of stage 2 is received and added. -/
theorem ph_c0 (b : Fin 3) :
    Tr m K c iprop((pend c (rrS b 4) ∗ kp m c b 4 2) ∗ ow 18 c) (phC0 c b)
      iprop((kp m c b 4 3 ∗ comE c b 4 ∗ perm c b 4 ∗ zero c (rrS b 4)) ∗ ow 18 c) := by
  refine (take m K c b 4 2 18 rfl (by have := b.isLt; show 12 + 2 * b.val < _; omega)).conseq ?_ ?_
  · iintro ⟨⟨H1, H2⟩, H3⟩; iframe H1 H2 H3
  · iintro ⟨H1, H2, H3, H4, H5⟩; iframe H1 H2 H3 H4 H5

end Cert.Butterfly
-- ==== Proof.Gather.lean ====
module

public import proofs.«01_k».proof.Proof.Phases

/-!
The all-gather's phases and the closing waits, each as one rule.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ### Arithmetic of the rows, decided over the devices -/

theorem klo3_keep : ∀ b c, klo b 3 c = keep b 2 c := by decide +kernel
theorem klo2_give : ∀ b c, klo b 2 c = give b 2 c := by decide +kernel
theorem perm1_halves : ∀ b c, Halves (klo b 1 c) (keep b 2 c) (give b 2 c) (gsz b) ∧ rsz b 1 = gsz b + gsz b := by decide +kernel
theorem perm0_halves : ∀ b c, Halves (klo b 0 c) (keep b 2 (peer (dir b 1) c)) (give b 2 (peer (dir b 1) c)) (gsz b) ∧ rsz b 0 = gsz b + gsz b := by decide +kernel
theorem glo_peer0 : ∀ b c, glo b 0 (peer (gdir b 0) c) = give b 2 c := by decide +kernel
theorem own_halves : ∀ b c, Halves (keep b 1 c) (keep b 2 c) (give b 2 c) (gsz b) ∧ tot b / 4 = gsz b + gsz b := by decide +kernel
theorem next_halves : ∀ b c, Halves (give b 1 c) (keep b 2 (peer (dir b 1) c)) (give b 2 (peer (dir b 1) c)) (gsz b) := by decide +kernel
theorem far_halves : ∀ b c, Halves (give b 0 c) (keep b 1 (peer (dir b 0) c)) (give b 1 (peer (dir b 0) c)) (tot b / 4) ∧ isz b = tot b / 4 + tot b / 4 := by decide +kernel
theorem near_halves : ∀ b c, Halves (keep b 0 c) (keep b 1 c) (give b 1 c) (tot b / 4) := by decide +kernel
theorem band_halves : ∀ b c, Halves (base b) (keep b 0 c) (give b 0 c) (isz b) ∧ tot b = isz b + isz b := by decide +kernel

/-- A share of finished rows is two half shares. -/
theorem fin_share (a n : Nat) (q : PosShare TreeShare) : fin m c a n q ⊣⊢ iprop(fin m c a n q.left ∗ fin m c a n q.right) := by
  unfold fin; exact ⟨Entails.of_eq pt_share, Entails.of_eq pt_share.symm⟩

/-- A block of finished rows is its two halves. -/
theorem fin_halves {a a₁ a₂ k n : Nat} {q : PosShare TreeShare} (h : Halves a a₁ a₂ k) (hn : n = k + k) :
    fin m c a n q ⊣⊢ iprop(fin m c a₁ k q ∗ fin m c a₂ k q) := by
  unfold fin; exact ⟨Entails.of_eq (pt_halves h hn), Entails.of_eq (pt_halves h hn).symm⟩

/-- The rows a device finishes hold the finished array. -/
theorem finished (b : Fin 3) : iprop(kp m c b 4 3 ∗ kp m c b 5 3) ⊢ fin m c (keep b 2 c) (gsz b) fullShare := by
  unfold kp fin
  refine (Entails.of_eq (pt_halves (M := gM) (c_halves b c).1 (c_halves b c).2).symm).trans (Entails.of_eq ?_)
  exact pt_congr fun i hi => (final_eq m b c i hi).symm

/-- The four shares of the rows a device finishes. -/
theorem four (a n : Nat) : fin m c a n fullShare ⊣⊢ iprop(fin m c a n fullShare.left.left ∗ fin m c a n fullShare.left.right
    ∗ fin m c a n fullShare.right.left ∗ fin m c a n fullShare.right.right) := by
  constructor
  · iintro H
    ihave H := (fin_share m c a n fullShare).1 $$ H
    icases H with ⟨H, H'⟩
    ihave H := (fin_share m c a n fullShare.left).1 $$ H
    ihave H' := (fin_share m c a n fullShare.right).1 $$ H'
    icases H with ⟨H0, H1⟩
    icases H' with ⟨H2, H3⟩
    iframe H0 H1 H2 H3
  · iintro ⟨H0, H1, H2, H3⟩
    iapply (fin_share m c a n fullShare).2
    isplitl [H0 H1]
    · iapply (fin_share m c a n fullShare.left).2; iframe H0 H1
    · iapply (fin_share m c a n fullShare.right).2; iframe H2 H3

/-- Three shares. -/
theorem three (a n : Nat) : fin m c a n fullShare ⊣⊢ iprop(fin m c a n fullShare.left ∗ fin m c a n fullShare.right.left ∗ fin m c a n fullShare.right.right) := by
  constructor
  · iintro H
    ihave H := (fin_share m c a n fullShare).1 $$ H
    icases H with ⟨H, H'⟩
    ihave H' := (fin_share m c a n fullShare.right).1 $$ H'
    icases H' with ⟨H2, H3⟩
    iframe H H2 H3
  · iintro ⟨H0, H2, H3⟩
    iapply (fin_share m c a n fullShare).2
    isplitl [H0]; · iexact H0
    iapply (fin_share m c a n fullShare.right).2; iframe H2 H3

/-- Rows of the far partner that a device may overwrite. -/
def far (b : Fin 3) (a : Nat) : sProp 𝕄 := ex (F := F) gM (peer (dir b 0) c) a (gsz b)

/-- The second piece of stage 2 is received and added, and the finished block is pushed and copied out. -/
theorem ph_c1 (b : Fin 3) :
    Tr m K c iprop((pend c (rrS b 5) ∗ kp m c b 4 3 ∗ kp m c b 5 2 ∗ perm c b 1 ∗ perm c b 3 ∗ perm c b 4 ∗ tG c b 0 ∗ tG c b 1 ∗ tG c b 3
        ∗ oE c b 0 ∗ tok1 c (outS b 0)) ∗ ow (18 + 3 * b.val) c) (phC1 c b)
      iprop((comE c b 5 ∗ zero c (rrS b 5) ∗ far c b (give b 2 c) ∗ pend c (sgS b 0) ∗ pend c (sgS b 1) ∗ pend c (sgS b 3) ∗ pend c (outS b 0)) ∗ ow (18 + 3 * (b.val + 1)) c) := fun t Φ => by
  unfold phC1
  iintro ⟨#Hc, ⟨⟨Hr, Hk4, Hk5, Hp1, Hp3, Hp4, Ht0, Ht1, Ht3, Ho, Hto⟩, HO⟩, Hk⟩
  iapply (Tr.step (take m K c b 5 2 (18 + 3 * b.val) rfl (by have := b.isLt; show 12 + 2 * b.val + 1 < _; omega))
    (l' := [evPush c b 0, evPush c b 1, evPush c b 3, evOut c b 0])) $$ [$Hc $Hr $Hk5 $HO]
  iintro ⟨Hk5, He, Hp5, Hz, HO⟩
  ihave Hf := (finished m c b) $$ [$Hk4 $Hk5]
  ihave Hf := (four m c (keep b 2 c) (gsz b)).1 $$ Hf
  icases Hf with ⟨Hf0, Hf1, Hf2, Hf3⟩
  ihave Hd0 := (show iprop(perm c b 4 ∗ perm c b 5) ⊢ (ex gM (peer (dir b 2) c) (keep b 2 c) (gsz b) : sProp 𝕄)
    from Entails.of_eq (ex_halves (M := gM) (c_halves b c).1 (c_halves b c).2).symm) $$ [$Hp4 $Hp5]
  ihave Hd1 := (show perm c b 3 ⊢ (ex gM (peer (dir b 1) c) (keep b 2 c) (gsz b) : sProp 𝕄)
    from by unfold perm; rw [klo3_keep]; exact Entails.of_eq rfl) $$ Hp3
  ihave Hd := (show perm c b 1 ⊢ (iprop(ex gM (peer (dir b 0) c) (keep b 2 c) (gsz b) ∗ far c b (give b 2 c)) : sProp 𝕄)
    from Entails.of_eq (ex_halves (M := gM) (perm1_halves b c).1 (perm1_halves b c).2)) $$ Hp1
  icases Hd with ⟨Hd3, Hfar⟩
  iapply (Tr.head (push_at m K c b 0 (keep b 2 c) (18 + 3 * b.val) (18 + 3 * b.val + 1) fullShare.left.left (peer (dir b 2) c) rfl rfl rfl rfl rfl)) $$ [$Hc $Hf0 $Hd0 $Ht0 $HO]
  iintro ⟨H0, HO⟩
  iapply (Tr.head (push_at m K c b 1 (keep b 2 c) (18 + 3 * b.val + 1) (18 + 3 * b.val + 2) fullShare.left.right (peer (dir b 1) c) rfl rfl rfl rfl rfl)) $$ [$Hc $Hf1 $Hd1 $Ht1 $HO]
  iintro ⟨H1, HO⟩
  iapply (Tr.head (push_at m K c b 3 (keep b 2 c) (18 + 3 * b.val + 2) (18 + 3 * (b.val + 1)) fullShare.right.left (peer (dir b 0) c) rfl rfl rfl rfl rfl)) $$ [$Hc $Hf2 $Hd3 $Ht3 $HO]
  iintro ⟨H3, HO⟩
  iapply (Tr.head (out_at m K c b 0 (keep b 2 c) (gsz b) fullShare.right.right rfl rfl rfl)) $$ [$Hc $Hf3 $Ho $Hto]
  iintro Ho
  iapply Hk
  iframe He Hz Hfar H0 H1 H3 Ho HO

/-- The first gathered block is received, passed on and copied out. -/
theorem ph_g0 (b : Fin 3) :
    Tr m K c iprop((pend c (rgS b 0) ∗ perm c b 2 ∗ far c b (give b 2 c) ∗ tG c b 2 ∗ tG c b 4 ∗ oE c b 1 ∗ tok1 c (outS b 1)) ∗ ow (27 + 2 * b.val) c) (phG0 c b)
      iprop((zero c (rgS b 0) ∗ pend c (sgS b 2) ∗ pend c (sgS b 4) ∗ pend c (outS b 1)) ∗ ow (27 + 2 * (b.val + 1)) c) := fun t Φ => by
  unfold phG0
  iintro ⟨#Hc, ⟨⟨Hr, Hp2, Hfar, Ht2, Ht4, Ho, Hto⟩, HO⟩, Hk⟩
  iapply (Tr.head (pull_at m K c b 0 (give b 2 c) (27 + 2 * b.val) (glo_peer0 b c) (by have := b.isLt; show 18 + 3 * b.val < _; omega))) $$ [$Hc $Hr $HO]
  iintro ⟨Hf, Hz, HO⟩
  ihave Hf := (three m c (give b 2 c) (gsz b)).1 $$ Hf
  icases Hf with ⟨Hf0, Hf1, Hf2⟩
  ihave Hd := (show perm c b 2 ⊢ (ex gM (peer (dir b 1) c) (give b 2 c) (gsz b) : sProp 𝕄)
    from by unfold perm; rw [klo2_give]; exact Entails.of_eq rfl) $$ Hp2
  unfold far
  iapply (Tr.head (push_at m K c b 2 (give b 2 c) (27 + 2 * b.val) (27 + 2 * b.val + 1) fullShare.left (peer (dir b 1) c) rfl rfl rfl rfl rfl)) $$ [$Hc $Hf0 $Hd $Ht2 $HO]
  iintro ⟨H2, HO⟩
  iapply (Tr.head (push_at m K c b 4 (give b 2 c) (27 + 2 * b.val + 1) (27 + 2 * (b.val + 1)) fullShare.right.left (peer (dir b 0) c) rfl rfl rfl rfl rfl)) $$ [$Hc $Hf1 $Hfar $Ht4 $HO]
  iintro ⟨H4, HO⟩
  iapply (Tr.head (out_at m K c b 1 (give b 2 c) (gsz b) fullShare.right.right rfl rfl rfl)) $$ [$Hc $Hf2 $Ho $Hto]
  iintro Ho
  iapply Hk
  iframe Hz H2 H4 Ho HO

/-- A push's arrival is pushed on and copied out. -/
theorem pass_on (b : Fin 3) (a d : Fin 7) (o : Fin 5) (x n n' : Nat) (hx : glo b a (peer (gdir b a) c) = x) (hd : glo b d c = x) (hq : gq d = fullShare.left)
    (hp : gdir b d = dir b 0) (hn : gpos b a < n) (hd' : gpos b d = n) (hn' : n' = n + 1) (ho : olo b o c = x) (hk : osz b o = gsz b) (hq' : oq o = fullShare.right) :
    Tr m K c iprop((pend c (rgS b a) ∗ far c b x ∗ tG c b d ∗ oE c b o ∗ tok1 c (outS b o)) ∗ ow n c) [evPull c b a, evPush c b d, evOut c b o]
      iprop((zero c (rgS b a) ∗ pend c (sgS b d) ∗ pend c (outS b o)) ∗ ow n' c) := fun t Φ => by
  iintro ⟨#Hc, ⟨⟨Hr, Hfar, Ht, Ho, Hto⟩, HO⟩, Hk⟩
  iapply (Tr.head (pull_at m K c b a x n hx hn)) $$ [$Hc $Hr $HO]
  iintro ⟨Hf, Hz, HO⟩
  ihave Hf := (fin_share m c x (gsz b) fullShare).1 $$ Hf
  icases Hf with ⟨Hf0, Hf1⟩
  unfold far
  iapply (Tr.head (push_at m K c b d x n n' fullShare.left (peer (dir b 0) c) hd hq (by rw [hp]) hd' hn')) $$ [$Hc $Hf0 $Hfar $Ht $HO]
  iintro ⟨H2, HO⟩
  iapply (Tr.head (out_at m K c b o x (gsz b) fullShare.right ho hk hq')) $$ [$Hc $Hf1 $Ho $Hto]
  iintro Ho
  iapply Hk
  iframe Hz H2 Ho HO

/-- The second gathered block is received, passed on and copied out. -/
theorem ph_g1 (b : Fin 3) :
    Tr m K c iprop((pend c (rgS b 1) ∗ far c b (keep b 2 (peer (dir b 1) c)) ∗ tG c b 5 ∗ oE c b 2 ∗ tok1 c (outS b 2)) ∗ ow (33 + b.val) c) (phG1 c b)
      iprop((zero c (rgS b 1) ∗ pend c (sgS b 5) ∗ pend c (outS b 2)) ∗ ow (33 + (b.val + 1)) c) :=
  pass_on m K c b 1 5 2 _ _ _ rfl rfl rfl rfl (by have := b.isLt; show 18 + 3 * b.val + 1 < _; omega) rfl rfl rfl rfl rfl

/-- The third gathered block is received, passed on and copied out. -/
theorem ph_g2 (b : Fin 3) :
    Tr m K c iprop((pend c (rgS b 2) ∗ far c b (give b 2 (peer (dir b 1) c)) ∗ tG c b 6 ∗ oE c b 3 ∗ tok1 c (outS b 3)) ∗ ow (36 + b.val) c) (phG2 c b)
      iprop((zero c (rgS b 2) ∗ pend c (sgS b 6) ∗ pend c (outS b 3)) ∗ ow (36 + (b.val + 1)) c) :=
  pass_on m K c b 2 6 3 _ _ _ rfl rfl rfl rfl (by have := b.isLt; show 27 + 2 * b.val < _; omega) rfl rfl rfl rfl rfl

/-- The rows let go of with the first piece, in two. -/
theorem perm0_split (b : Fin 3) : perm c b 0 ⊢ (iprop(far c b (keep b 2 (peer (dir b 1) c)) ∗ far c b (give b 2 (peer (dir b 1) c))) : sProp 𝕄) :=
  Entails.of_eq (ex_halves (M := gM) (perm0_halves b c).1 (perm0_halves b c).2)

/-- The last four gathered blocks are received and copied out together. -/
theorem ph_g3 (b : Fin 3) :
    Tr m K c iprop((pend c (rgS b 3) ∗ pend c (rgS b 4) ∗ pend c (rgS b 5) ∗ pend c (rgS b 6) ∗ oE c b 4 ∗ tok1 c (outS b 4)) ∗ ow 39 c) (phG3 c b)
      iprop((zero c (rgS b 3) ∗ zero c (rgS b 4) ∗ zero c (rgS b 5) ∗ zero c (rgS b 6) ∗ pend c (outS b 4)) ∗ ow 39 c) := fun t Φ => by
  unfold phG3
  iintro ⟨#Hc, ⟨⟨Hr3, Hr4, Hr5, Hr6, Ho, Hto⟩, HO⟩, Hk⟩
  iapply (Tr.head (pull_at m K c b 3 (keep b 2 (peer (dir b 0) c)) 39 rfl (pos_lt (.inr (b, 3))))) $$ [$Hc $Hr3 $HO]
  iintro ⟨Hf3, Hz3, HO⟩
  iapply (Tr.head (pull_at m K c b 4 (give b 2 (peer (dir b 0) c)) 39 rfl (pos_lt (.inr (b, 4))))) $$ [$Hc $Hr4 $HO]
  iintro ⟨Hf4, Hz4, HO⟩
  iapply (Tr.head (pull_at m K c b 5 (keep b 2 (peer (dir b 1) (peer (dir b 0) c))) 39 rfl (pos_lt (.inr (b, 5))))) $$ [$Hc $Hr5 $HO]
  iintro ⟨Hf5, Hz5, HO⟩
  iapply (Tr.head (pull_at m K c b 6 (give b 2 (peer (dir b 1) (peer (dir b 0) c))) 39 rfl (pos_lt (.inr (b, 6))))) $$ [$Hc $Hr6 $HO]
  iintro ⟨Hf6, Hz6, HO⟩
  ihave Hn := (fin_halves m c (own_halves b (peer (dir b 0) c)).1 (own_halves b (peer (dir b 0) c)).2).2 $$ [$Hf3 $Hf4]
  ihave Hn' := (fin_halves m c (next_halves b (peer (dir b 0) c)) (own_halves b (peer (dir b 0) c)).2).2 $$ [$Hf5 $Hf6]
  ihave Hf := (fin_halves m c (far_halves b c).1 (far_halves b c).2).2 $$ [$Hn $Hn']
  iapply (Tr.head (out_at m K c b 4 (give b 0 c) (isz b) fullShare rfl rfl rfl)) $$ [$Hc $Hf $Ho $Hto]
  iintro Ho
  iapply Hk
  iframe Hz3 Hz4 Hz5 Hz6 Ho HO

/-! ### The closing waits -/

/-- The waits for two sent pieces. -/
theorem ph_sent (r₀ r₁ : Fin 6) (b : Fin 3) :
    Tr m K c iprop((pend c (srS b r₀) ∗ pend c (srS b r₁)) ∗ ow 39 c) (phS c r₀ r₁ b) iprop((zero c (srS b r₀) ∗ zero c (srS b r₁)) ∗ ow 39 c) := fun t Φ => by
  unfold phS
  iintro ⟨#Hc, ⟨⟨H0, H1⟩, HO⟩, Hk⟩
  iapply (Tr.head (tr_sent m K c b r₀ 39)) $$ [$Hc $H0 $HO]
  iintro ⟨-, H0, HO⟩
  iapply (Tr.head (tr_sent m K c b r₁ 39)) $$ [$Hc $H1 $HO]
  iintro ⟨-, H1, HO⟩
  iapply Hk
  iframe H0 H1 HO

/-- The share a push gives back, and a copy out's. -/
def gB (b : Fin 3) (a : Fin 7) : sProp 𝕄 := fin m c (glo b a c) (gsz b) (gq a)
def gO (b : Fin 3) (o : Fin 5) : sProp 𝕄 := fin m c (olo b o c) (osz b o) (oq o)

/-- The wait for one pushed block. -/
theorem pushed_one (b : Fin 3) (a : Fin 7) :
    Tr m K c iprop(pend c (sgS b a) ∗ ow 39 c) [evPushed c b a] iprop((gB m c b a ∗ zero c (sgS b a)) ∗ ow 39 c) := by
  refine (tr_pushed m K c b a 39).conseq (Entails.of_eq rfl) ?_
  iintro ⟨H1, H2, H3⟩
  ihave H1 := (show pay m c (.gs b a) ⊢ gB m c b a from Entails.of_eq rfl) $$ H1
  iframe H1 H2 H3

/-- The waits for the three pushes of the own block. -/
theorem ph_s0 (b : Fin 3) :
    Tr m K c iprop((pend c (sgS b 0) ∗ pend c (sgS b 1) ∗ pend c (sgS b 3)) ∗ ow 39 c) (phS0 c b)
      iprop((gB m c b 0 ∗ gB m c b 1 ∗ gB m c b 3 ∗ zero c (sgS b 0) ∗ zero c (sgS b 1) ∗ zero c (sgS b 3)) ∗ ow 39 c) := fun t Φ => by
  unfold phS0
  iintro ⟨#Hc, ⟨⟨H0, H1, H2⟩, HO⟩, Hk⟩
  iapply (Tr.head (pushed_one m K c b 0)) $$ [$Hc $H0 $HO]
  iintro ⟨⟨H0, Hz0⟩, HO⟩
  iapply (Tr.head (pushed_one m K c b 1)) $$ [$Hc $H1 $HO]
  iintro ⟨⟨H1, Hz1⟩, HO⟩
  iapply (Tr.head (pushed_one m K c b 3)) $$ [$Hc $H2 $HO]
  iintro ⟨⟨H2, Hz2⟩, HO⟩
  iapply Hk
  iframe H0 H1 H2 Hz0 Hz1 Hz2 HO

/-- The waits for the two pushes of the first gathered block. -/
theorem ph_s1 (b : Fin 3) :
    Tr m K c iprop((pend c (sgS b 2) ∗ pend c (sgS b 4)) ∗ ow 39 c) (phS1 c b)
      iprop((gB m c b 2 ∗ gB m c b 4 ∗ zero c (sgS b 2) ∗ zero c (sgS b 4)) ∗ ow 39 c) := fun t Φ => by
  unfold phS1
  iintro ⟨#Hc, ⟨⟨H0, H1⟩, HO⟩, Hk⟩
  iapply (Tr.head (pushed_one m K c b 2)) $$ [$Hc $H0 $HO]
  iintro ⟨⟨H0, Hz0⟩, HO⟩
  iapply (Tr.head (pushed_one m K c b 4)) $$ [$Hc $H1 $HO]
  iintro ⟨⟨H1, Hz1⟩, HO⟩
  iapply Hk
  iframe H0 H1 Hz0 Hz1 HO

/-- The wait for a block copied out. -/
theorem ph_o (o : Fin 5) (b : Fin 3) :
    Tr m K c iprop(pend c (outS b o) ∗ ow 39 c) (phO c o b) iprop((gO m c b o ∗ oF m c b o ∗ zero c (outS b o)) ∗ ow 39 c) := by
  refine (tr_outWait m K c b o 39).conseq (Entails.of_eq rfl) ?_
  iintro ⟨H1, H2, H3⟩
  ihave H1 := (show pay m c (.out b o) ⊢ iprop(gO m c b o ∗ oF m c b o) from Entails.of_eq rfl) $$ H1
  icases H1 with ⟨H0, H1⟩
  iframe H0 H1 H2 H3

/-- A band of the gather buffer comes back whole. -/
theorem band_back (b : Fin 3) :
    iprop((gB m c b 0 ∗ gB m c b 1 ∗ gB m c b 3 ∗ gO m c b 0) ∗ (gB m c b 2 ∗ gB m c b 4 ∗ gO m c b 1) ∗ (gB m c b 5 ∗ gO m c b 2) ∗ (gB m c b 6 ∗ gO m c b 3) ∗ gO m c b 4)
      ⊢ fin m c (base b) (tot b) fullShare := by
  iintro ⟨HA, HB, HC, HD, HE⟩
  ihave HA := (show iprop(gB m c b 0 ∗ gB m c b 1 ∗ gB m c b 3 ∗ gO m c b 0) ⊢ fin m c (keep b 2 c) (gsz b) fullShare from (four m c (keep b 2 c) (gsz b)).2) $$ HA
  ihave HB := (show iprop(gB m c b 2 ∗ gB m c b 4 ∗ gO m c b 1) ⊢ fin m c (give b 2 c) (gsz b) fullShare from (three m c (give b 2 c) (gsz b)).2) $$ HB
  ihave HC := (show iprop(gB m c b 5 ∗ gO m c b 2) ⊢ fin m c (keep b 2 (peer (dir b 1) c)) (gsz b) fullShare from (fin_share m c _ (gsz b) _).2) $$ HC
  ihave HD := (show iprop(gB m c b 6 ∗ gO m c b 3) ⊢ fin m c (give b 2 (peer (dir b 1) c)) (gsz b) fullShare from (fin_share m c _ (gsz b) _).2) $$ HD
  ihave HE := (show gO m c b 4 ⊢ fin m c (give b 0 c) (isz b) fullShare from Entails.of_eq rfl) $$ HE
  ihave HA := (fin_halves m c (own_halves b c).1 (own_halves b c).2).2 $$ [$HA $HB]
  ihave HC := (fin_halves m c (next_halves b c) (own_halves b c).2).2 $$ [$HC $HD]
  ihave HA := (fin_halves m c (near_halves b c) (far_halves b c).2).2 $$ [$HA $HC]
  iapply (fin_halves m c (band_halves b c).1 (band_halves b c).2).2
  iframe HA HE

/-- A band of the result. -/
def oB (b : Fin 3) : sProp 𝕄 := pt oM c (base b) (tot b) fullShare (Final m)

/-- The five blocks copied out are the band, finished. -/
theorem out_back (b : Fin 3) : iprop(oF m c b 0 ∗ oF m c b 1 ∗ oF m c b 2 ∗ oF m c b 3 ∗ oF m c b 4) ⊢ oB m c b := by
  iintro ⟨HA, HB, HC, HD, HE⟩
  unfold oB
  ihave HA := (show iprop(oF m c b 0 ∗ oF m c b 1) ⊢ pt oM c (keep b 1 c) (tot b / 4) fullShare (Final m) from Entails.of_eq (pt_halves (M := oM) (own_halves b c).1 (own_halves b c).2).symm) $$ [$HA $HB]
  ihave HC := (show iprop(oF m c b 2 ∗ oF m c b 3) ⊢ pt oM c (give b 1 c) (tot b / 4) fullShare (Final m) from Entails.of_eq (pt_halves (M := oM) (next_halves b c) (own_halves b c).2).symm) $$ [$HC $HD]
  ihave HE := (show oF m c b 4 ⊢ pt oM c (give b 0 c) (isz b) fullShare (Final m) from Entails.of_eq rfl) $$ HE
  ihave HA := (Entails.of_eq (pt_halves (M := oM) (near_halves b c) (far_halves b c).2).symm) $$ [$HA $HC]
  iapply (Entails.of_eq (pt_halves (M := oM) (band_halves b c).1 (band_halves b c).2).symm)
  iframe HA HE

/-- A band of the result, unwritten, as the places for its five copies. -/
theorem out_cut (b : Fin 3) : ex oM c (base b) (tot b) ⊢ (iprop(oE c b 0 ∗ oE c b 1 ∗ oE c b 2 ∗ oE c b 3 ∗ oE c b 4) : sProp 𝕄) := by
  iintro H
  ihave H := (Entails.of_eq (ex_halves (M := oM) (band_halves b c).1 (band_halves b c).2)) $$ H
  icases H with ⟨HA, HE⟩
  ihave HA := (Entails.of_eq (ex_halves (M := oM) (near_halves b c) (far_halves b c).2)) $$ HA
  icases HA with ⟨HA, HC⟩
  ihave HA := (show ex oM c (keep b 1 c) (tot b / 4) ⊢ (iprop(oE c b 0 ∗ oE c b 1) : sProp 𝕄) from Entails.of_eq (ex_halves (M := oM) (own_halves b c).1 (own_halves b c).2)) $$ HA
  ihave HC := (show ex oM c (give b 1 c) (tot b / 4) ⊢ (iprop(oE c b 2 ∗ oE c b 3) : sProp 𝕄) from Entails.of_eq (ex_halves (M := oM) (next_halves b c) (own_halves b c).2)) $$ HC
  ihave HE := (show ex oM c (give b 0 c) (isz b) ⊢ (oE c b 4 : sProp 𝕄) from Entails.of_eq rfl) $$ HE
  icases HA with ⟨H0, H1⟩
  icases HC with ⟨H2, H3⟩
  iframe H0 H1 H2 H3 HE

/-- A band of the gather buffer: the rows kept and the two pieces sent first. -/
theorem band_cut (b : Fin 3) : ex gM c (base b) (tot b) ⊢ (iprop(ex gM c (keep b 0 c) (isz b) ∗ gE c b 0 ∗ gE c b 1) : sProp 𝕄) := by
  iintro H
  ihave H := (Entails.of_eq (ex_halves (M := gM) (band_halves b c).1 (band_halves b c).2)) $$ H
  icases H with ⟨HA, HE⟩
  ihave HE := (show ex gM c (give b 0 c) (isz b) ⊢ (iprop(gE c b 0 ∗ gE c b 1) : sProp 𝕄)
    from Entails.of_eq (ex_halves (M := gM) (show Halves (give b 0 c) (slo b 0 c) (slo b 1 c) (rsz b 0) by revert b c; decide +kernel)
      (keep_halves b c).2)) $$ HE
  icases HE with ⟨H0, H1⟩
  iframe HA H0 H1

end Cert.Butterfly
-- ==== Proof.Body.lean ====
module

public import proofs.«01_k».proof.Proof.Gather

/-!
The whole body of the kernel as one rule: the buffers and tokens it takes, and what it leaves.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### The three butterflies together -/

/-- An assertion for each butterfly. -/
def tri (f : Fin 3 → sProp 𝕄) : sProp 𝕄 := bigSep Finset.univ f

theorem tri_eq (f : Fin 3 → sProp 𝕄) : tri f = iprop(f 0 ∗ f 1 ∗ f 2) :=
  bigSep_univ_eq_bigSepL [0, 1, 2] (by decide) (by decide) f

theorem tri_sep (f g : Fin 3 → sProp 𝕄) : tri (fun b => iprop(f b ∗ g b)) = iprop(tri f ∗ tri g) := bigSep_sep' _ _ _

theorem tri_mono {f g : Fin 3 → sProp 𝕄} (h : ∀ b, f b ⊢ g b) : tri f ⊢ tri g := bigSep_mono fun b _ => h b

/-- The phases of the three butterflies one after another. -/
theorem Tr.each {m : (ℓ : Loc nD τ sig) → Buf (Elt F) ℓ} {K : Dev nD × SemLoc sig → ℕ} {c : Dev nD} {f : Fin 3 → List (PT F)}
    {P Q : Fin 3 → sProp (MT nD τ sig Unit (Elt F) ℕ UU ℕ)} (n : Nat → Nat) (i j : Nat) (hi : n 0 = i) (hj : n 3 = j)
    (h : ∀ b : Fin 3, Tr m K c iprop(P b ∗ ow (n b.val) c) (f b) iprop(Q b ∗ ow (n (b.val + 1)) c)) :
    Tr m K c iprop(tri P ∗ ow i c) (Butterfly.each f) iprop(tri Q ∗ ow j c) := fun t Φ => by
  subst hi hj
  unfold Butterfly.each
  rw [List.append_assoc, tri_eq, tri_eq]
  iintro ⟨#Hc, ⟨⟨H0, H1, H2⟩, HO⟩, Hk⟩
  iapply (Tr.step (h 0)) $$ [H0 HO]
  · isplitr; · iexact Hc
    isplitl [H0]; · iexact H0
    iexact HO
  iintro ⟨H0, HO⟩
  iapply (Tr.step (h 1)) $$ [H1 HO]
  · isplitr; · iexact Hc
    isplitl [H1]; · iexact H1
    iexact HO
  iintro ⟨H1, HO⟩
  iapply (h 2 t Φ)
  isplitr; · iexact Hc
  isplitl [H2 HO]
  · isplitl [H2]; · iexact H2
    iexact HO
  iintro ⟨H2, HO⟩
  iapply Hk
  isplitr [HO]
  · isplitl [H0]; · iexact H0
    isplitl [H1]; · iexact H1
    iexact H2
  iexact HO

/-- Phases that make no remote transfer. -/
theorem Tr.each0 {m : (ℓ : Loc nD τ sig) → Buf (Elt F) ℓ} {K : Dev nD × SemLoc sig → ℕ} {c : Dev nD} {f : Fin 3 → List (PT F)}
    {P Q : Fin 3 → sProp (MT nD τ sig Unit (Elt F) ℕ UU ℕ)} (h : ∀ b : Fin 3, Tr m K c (P b) (f b) (Q b)) :
    Tr m K c (tri P) (Butterfly.each f) (tri Q) := fun t Φ => by
  unfold Butterfly.each
  rw [List.append_assoc, tri_eq, tri_eq]
  iintro ⟨#Hc, ⟨H0, H1, H2⟩, Hk⟩
  iapply (Tr.step (h 0)) $$ [$Hc $H0]
  iintro H0
  iapply (Tr.step (h 1)) $$ [$Hc $H1]
  iintro H1
  iapply (h 2 t Φ)
  isplitr; · iexact Hc
  isplitl [H2]; · iexact H2
  iintro H2
  iapply Hk
  iframe H0 H1 H2

variable (m : (ℓ : Loc nD τ sig) → Buf (Elt F) ℓ) (K : Dev nD × SemLoc sig → ℕ) (c : Dev nD)

/-! ### Whole buffers and their bands -/

theorem pt_three {N n i j k : Nat} {sp : Space} (M : Memref sig .tc sp (Sn N) .bf16) (q : PosShare TreeShare) (f : M.view.ty.Contents (Elt F)) (h : n = i + (j + k)) :
    (pt M c 0 n q f : sProp 𝕄) = iprop(pt M c 0 i q f ∗ pt M c (0 + i) j q f ∗ pt M c (0 + i + j) k q f) := by
  subst h; rw [pt_add, pt_add]

theorem ex_three {N n i j k : Nat} {sp : Space} (M : Memref sig .tc sp (Sn N) .bf16) (h : n = i + (j + k)) :
    (ex M c 0 n : sProp 𝕄) = iprop(ex M c 0 i ∗ ex M c (0 + i) j ∗ ex M c (0 + i + j) k) := by
  subst h; rw [ex_add, ex_add]

theorem pt_bands {sp : Space} (M : Memref sig .tc sp (Sn 4096) .bf16) (q : PosShare TreeShare) (f : M.view.ty.Contents (Elt F)) :
    (pt M c 0 4096 q f : sProp 𝕄) = tri fun b => pt M c (base b) (tot b) q f := by
  rw [tri_eq, pt_three c M q f (show 4096 = 1408 + (1408 + 1280) from rfl)]; rfl

theorem ex_bands {sp : Space} (M : Memref sig .tc sp (Sn 4096) .bf16) :
    (ex M c 0 4096 : sProp 𝕄) = tri fun b => ex M c (base b) (tot b) := by
  rw [tri_eq, ex_three c M (show 4096 = 1408 + (1408 + 1280) from rfl)]; rfl

/-- The argument is the half bands. -/
theorem x_bands : (pt xM c 0 4096 fullShare (X m c) : sProp 𝕄) = iprop(tri (fun b => xP m c b 0) ∗ tri fun b => xP m c b 1) := by
  rw [pt_bands, ← tri_sep]
  exact congrArg tri (funext fun b => pt_halves (in_halves b).1 (in_halves b).2)

/-- The staging buffer is the half bands. -/
theorem v_bands : (ex vM c 0 4096 : sProp 𝕄) = iprop(tri (fun b => vE c b 0) ∗ tri fun b => vE c b 1) := by
  rw [ex_bands, ← tri_sep]
  exact congrArg tri (funext fun b => ex_halves (in_halves b).1 (in_halves b).2)

/-- The half bands are the staging buffer again. -/
theorem v_back : tri (fun b => vB m c b) ⊢ (ex vM c 0 4096 : sProp 𝕄) := by
  rw [ex_bands]; exact tri_mono fun b => pt_ex

/-- The gather buffer is the pieces that the butterflies use. -/
theorem g_bands : (ex gM c 0 4096 : sProp 𝕄) ⊢ iprop(tri (fun b => ex gM c (keep b 0 c) (isz b)) ∗ tri (fun b => gE c b 0) ∗ tri fun b => gE c b 1) := by
  rw [ex_bands, ← tri_sep, ← tri_sep]; exact tri_mono fun b => band_cut c b

/-- The result is the blocks copied out. -/
theorem o_bands : (ex oM c 0 4096 : sProp 𝕄) ⊢ iprop(tri (fun b => oE c b 0) ∗ tri (fun b => oE c b 1) ∗ tri (fun b => oE c b 2) ∗ tri (fun b => oE c b 3) ∗ tri fun b => oE c b 4) := by
  rw [ex_bands, ← tri_sep, ← tri_sep, ← tri_sep, ← tri_sep]; exact tri_mono fun b => out_cut c b

/-- The blocks copied out are the finished result. -/
theorem o_back : iprop(tri (fun b => oF m c b 0) ∗ tri (fun b => oF m c b 1) ∗ tri (fun b => oF m c b 2) ∗ tri (fun b => oF m c b 3) ∗ tri fun b => oF m c b 4)
    ⊢ (pt oM c 0 4096 fullShare (Final m) : sProp 𝕄) := by
  rw [pt_bands, ← tri_sep, ← tri_sep, ← tri_sep, ← tri_sep]; exact tri_mono fun b => out_back m c b

/-- The pieces are the gather buffer again. -/
theorem g_back : iprop((tri (fun b => gB m c b 0) ∗ tri (fun b => gB m c b 1) ∗ tri (fun b => gB m c b 3) ∗ tri (fun b => gO m c b 0))
      ∗ (tri (fun b => gB m c b 2) ∗ tri (fun b => gB m c b 4) ∗ tri (fun b => gO m c b 1)) ∗ (tri (fun b => gB m c b 5) ∗ tri (fun b => gO m c b 2))
      ∗ (tri (fun b => gB m c b 6) ∗ tri (fun b => gO m c b 3)) ∗ tri fun b => gO m c b 4)
    ⊢ (ex gM c 0 4096 : sProp 𝕄) := by
  simp only [← tri_sep]
  rw [ex_bands]; exact tri_mono fun b => (band_back m c b).trans pt_ex

theorem land_halves : ∀ b c, (Halves (land b 0) (clo b 0 c) (clo b 1 c) (rsz b 0) ∧ tot b / 2 = rsz b 0 + rsz b 0)
    ∧ (Halves (land b 0 + tot b / 2) (clo b 2 c) (clo b 3 c) (rsz b 2) ∧ tot b / 4 = rsz b 2 + rsz b 2)
    ∧ (Halves (land b 0 + tot b / 2 + tot b / 4) (clo b 4 c) (clo b 5 c) (rsz b 4) ∧ tot b / 8 = rsz b 4 + rsz b 4) := by decide +kernel

theorem com_band (b : Fin 3) : (ex cM c (land b 0) (tot b / 2 + (tot b / 4 + tot b / 8)) : sProp 𝕄)
    = iprop((comE c b 0 ∗ comE c b 1) ∗ (comE c b 2 ∗ comE c b 3) ∗ comE c b 4 ∗ comE c b 5) := by
  rw [ex_add, ex_add, ex_halves (land_halves b c).1.1 (land_halves b c).1.2, ex_halves (land_halves b c).2.1.1 (land_halves b c).2.1.2,
    ex_halves (land_halves b c).2.2.1 (land_halves b c).2.2.2]
  rfl

/-- The communication buffer is its landing pieces. -/
theorem c_bands : (ex cM c 0 3584 : sProp 𝕄) = iprop((tri (fun b => comE c b 0) ∗ tri (fun b => comE c b 1)) ∗ (tri (fun b => comE c b 2) ∗ tri (fun b => comE c b 3))
    ∗ tri (fun b => comE c b 4) ∗ tri fun b => comE c b 5) := by
  simp only [← tri_sep, ← com_band]
  rw [tri_eq, ex_three c cM (show 3584 = 1232 + (1232 + 1120) from rfl)]; rfl

/-! ### The barrier -/

theorem comP_back (b : Fin 3) (r : Fin 6) : comE c b r = (comP (peer (dir b (stg r)) c) b r : sProp 𝕄) := by
  unfold comE comP; rw [peer_peer, clo_peer]

/-- The landing places, given to the partners; and those that the partners give. -/
theorem ph_bar :
    Tr m K c iprop((tri (fun b => comE c b 0) ∗ tri (fun b => comE c b 1) ∗ tri (fun b => comE c b 2) ∗ tri (fun b => comE c b 3) ∗ tri (fun b => comE c b 4) ∗ tri fun b => comE c b 5)
        ∗ (btok (peer 0 c) 0 ∗ btok (peer 1 c) 1 ∗ btok (peer 2 c) 2) ∗ sg 3 c ∗ bpend c) (phBar c)
      iprop((tri (fun b => comP c b 0) ∗ tri (fun b => comP c b 1) ∗ tri (fun b => comP c b 2) ∗ tri (fun b => comP c b 3) ∗ tri (fun b => comP c b 4) ∗ tri fun b => comP c b 5)
        ∗ semVal (bcell c) 0 ∗ ow 0 c) := fun t Φ => by
  unfold phBar
  simp only [tri_eq]
  iintro ⟨#Hc, ⟨⟨⟨A0, A1, A2⟩, ⟨B0, B1, B2⟩, ⟨C0, C1, C2⟩, ⟨D0, D1, D2⟩, ⟨E0, E1, E2⟩, ⟨F0, F1, F2⟩⟩, ⟨T0, T1, T2⟩, HO, Hb⟩, Hk⟩
  ihave P0 := (show iprop(comE c 0 0 ∗ comE c 0 1 ∗ comE c 1 4 ∗ comE c 1 5 ∗ comE c 2 2 ∗ comE c 2 3) ⊢ (barPay (peer 0 c) 0 : sProp 𝕄)
    from by simp only [comP_back]; exact Entails.of_eq rfl) $$ [$A0 $B0 $E1 $F1 $C2 $D2]
  ihave P1 := (show iprop(comE c 0 2 ∗ comE c 0 3 ∗ comE c 1 0 ∗ comE c 1 1 ∗ comE c 2 4 ∗ comE c 2 5) ⊢ (barPay (peer 1 c) 1 : sProp 𝕄)
    from by simp only [comP_back]; exact Entails.of_eq rfl) $$ [$C0 $D0 $A1 $B1 $E2 $F2]
  ihave P2 := (show iprop(comE c 0 4 ∗ comE c 0 5 ∗ comE c 1 2 ∗ comE c 1 3 ∗ comE c 2 0 ∗ comE c 2 1) ⊢ (barPay (peer 2 c) 2 : sProp 𝕄)
    from by simp only [comP_back]; exact Entails.of_eq rfl) $$ [$E0 $F0 $C1 $D1 $A2 $B2]
  iapply (Tr.head (show Tr m K c iprop(barPay (peer 0 c) 0 ∗ btok (peer 0 c) 0 ∗ sg 3 c) [evSig c 0] (sg 2 c) from tr_sig m K c 0)) $$ [$Hc $P0 $T0 $HO]
  iintro HO
  iapply (Tr.head (show Tr m K c iprop(barPay (peer 1 c) 1 ∗ btok (peer 1 c) 1 ∗ sg 2 c) [evSig c 1] (sg 1 c) from tr_sig m K c 1)) $$ [$Hc $P1 $T1 $HO]
  iintro HO
  iapply (Tr.head (show Tr m K c iprop(barPay (peer 2 c) 2 ∗ btok (peer 2 c) 2 ∗ sg 1 c) [evSig c 2] (ow 0 c) from tr_sig m K c 2)) $$ [$Hc $P2 $T2 $HO]
  iintro HO
  iapply (Tr.head (tr_bar m K c)) $$ [$Hc $Hb $HO]
  unfold barPay
  iintro ⟨⟨⟨A0, B0, E1, F1, C2, D2⟩, ⟨C0, D0, A1, B1, E2, F2⟩, ⟨E0, F0, C1, D1, A2, B2⟩⟩, Hz, HO⟩
  iapply Hk
  iframe A0 A1 A2 B0 B1 B2 C0 C1 C2 D0 D1 D2 E0 E1 E2 F0 F1 F2 Hz HO

end Cert.Butterfly
-- ==== Proof.Run.lean ====
module

public import proofs.«01_k».proof.Proof.Body

/-!
One device's run from its buffers and tokens to its finished buffers.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- The tokens of the transfers. -/
def toks : sProp 𝕄 := iprop(tri (fun b => tok1 c (inS b 0)) ∗
      tri (fun b => tok1 c (inS b 1)) ∗
      tri (fun b => tS c b 0) ∗
      tri (fun b => tS c b 1) ∗
      tri (fun b => tS c b 2) ∗
      tri (fun b => tS c b 3) ∗
      tri (fun b => tS c b 4) ∗
      tri (fun b => tS c b 5) ∗
      tri (fun b => pend c (rrS b 0)) ∗
      tri (fun b => pend c (rrS b 1)) ∗
      tri (fun b => pend c (rrS b 2)) ∗
      tri (fun b => pend c (rrS b 3)) ∗
      tri (fun b => pend c (rrS b 4)) ∗
      tri (fun b => pend c (rrS b 5)) ∗
      tri (fun b => tG c b 0) ∗
      tri (fun b => tG c b 1) ∗
      tri (fun b => tG c b 2) ∗
      tri (fun b => tG c b 3) ∗
      tri (fun b => tG c b 4) ∗
      tri (fun b => tG c b 5) ∗
      tri (fun b => tG c b 6) ∗
      tri (fun b => pend c (rgS b 0)) ∗
      tri (fun b => pend c (rgS b 1)) ∗
      tri (fun b => pend c (rgS b 2)) ∗
      tri (fun b => pend c (rgS b 3)) ∗
      tri (fun b => pend c (rgS b 4)) ∗
      tri (fun b => pend c (rgS b 5)) ∗
      tri (fun b => pend c (rgS b 6)) ∗
      tri (fun b => tok1 c (outS b 0)) ∗
      tri (fun b => tok1 c (outS b 1)) ∗
      tri (fun b => tok1 c (outS b 2)) ∗
      tri (fun b => tok1 c (outS b 3)) ∗
      tri (fun b => tok1 c (outS b 4)))

/-- Every transfer's semaphore at zero. -/
def zeros : sProp 𝕄 := iprop(tri (fun b => zero c (inS b 0)) ∗
      tri (fun b => zero c (inS b 1)) ∗
      tri (fun b => zero c (srS b 0)) ∗
      tri (fun b => zero c (srS b 1)) ∗
      tri (fun b => zero c (srS b 2)) ∗
      tri (fun b => zero c (srS b 3)) ∗
      tri (fun b => zero c (srS b 4)) ∗
      tri (fun b => zero c (srS b 5)) ∗
      tri (fun b => zero c (rrS b 0)) ∗
      tri (fun b => zero c (rrS b 1)) ∗
      tri (fun b => zero c (rrS b 2)) ∗
      tri (fun b => zero c (rrS b 3)) ∗
      tri (fun b => zero c (rrS b 4)) ∗
      tri (fun b => zero c (rrS b 5)) ∗
      tri (fun b => zero c (sgS b 0)) ∗
      tri (fun b => zero c (sgS b 1)) ∗
      tri (fun b => zero c (sgS b 2)) ∗
      tri (fun b => zero c (sgS b 3)) ∗
      tri (fun b => zero c (sgS b 4)) ∗
      tri (fun b => zero c (sgS b 5)) ∗
      tri (fun b => zero c (sgS b 6)) ∗
      tri (fun b => zero c (rgS b 0)) ∗
      tri (fun b => zero c (rgS b 1)) ∗
      tri (fun b => zero c (rgS b 2)) ∗
      tri (fun b => zero c (rgS b 3)) ∗
      tri (fun b => zero c (rgS b 4)) ∗
      tri (fun b => zero c (rgS b 5)) ∗
      tri (fun b => zero c (rgS b 6)) ∗
      tri (fun b => zero c (outS b 0)) ∗
      tri (fun b => zero c (outS b 1)) ∗
      tri (fun b => zero c (outS b 2)) ∗
      tri (fun b => zero c (outS b 3)) ∗
      tri (fun b => zero c (outS b 4)))

/-- The buffers before the run. -/
def bufs₀ : sProp 𝕄 := iprop(pt xM c 0 4096 fullShare (X m c) ∗ ex vM c 0 4096 ∗ ex gM c 0 4096 ∗ ex oM c 0 4096 ∗ ex cM c 0 3584)
/-- The buffers after the run. -/
def bufs₁ : sProp 𝕄 := iprop(pt xM c 0 4096 fullShare (X m c) ∗ ex vM c 0 4096 ∗ ex gM c 0 4096 ∗ pt oM c 0 4096 fullShare (Final m) ∗ ex cM c 0 3584)

/-- What the run takes. -/
def pre : sProp 𝕄 := iprop(bufs₀ m c ∗ toks c ∗ (btok (peer 0 c) 0 ∗ btok (peer 1 c) 1 ∗ btok (peer 2 c) 2) ∗ bpend c ∗ sg 3 c)
/-- What the run leaves. -/
def post : sProp 𝕄 := iprop(bufs₁ m c ∗ zeros c ∗ semVal (bcell c) 0 ∗ ow 39 c)

/-- A device's whole run: from the unknown buffers to the finished result, every semaphore back at zero and nothing owed. -/
theorem tr_all : Tr m K c (pre m c) (steps c) (post m c) := fun t Φ => by
  delta steps
  simp only [List.append_assoc]
  unfold pre bufs₀ toks
  iintro ⟨#Hc, ⟨⟨Hx, Hv, Hg, Ho, Hcm⟩, ⟨In0, In1, TS0, TS1, TS2, TS3, TS4, TS5, RR0, RR1, RR2, RR3, RR4, RR5, TG0, TG1, TG2, TG3, TG4, TG5, TG6, RG0, RG1, RG2, RG3, RG4, RG5, RG6, TO0, TO1, TO2, TO3, TO4⟩, Hbt, Hbp, HO⟩, Hk⟩
  ihave Hx := (Entails.of_eq (x_bands m c)) $$ Hx
  icases Hx with ⟨X0, X1⟩
  ihave Hv := (Entails.of_eq (v_bands c)) $$ Hv
  icases Hv with ⟨V0, V1⟩
  ihave Hg := (g_bands c) $$ Hg
  icases Hg with ⟨GK, GE0, GE1⟩
  ihave Ho := (o_bands c) $$ Ho
  icases Ho with ⟨OE0, OE1, OE2, OE3, OE4⟩
  ihave Hcm := (Entails.of_eq (c_bands c)) $$ Hcm
  icases Hcm with ⟨⟨C0, C1⟩, ⟨C2, C3⟩, C4, C5⟩
  have h := Tr.each0 (ph_in m K c)
  simp only [tri_sep] at h
  iapply (Tr.step h) $$ [$Hc $X0 $X1 $V0 $V1 $In0 $In1]
  clear h
  iintro ⟨PI0, PI1⟩
  have h := ph_bar m K c
  iapply (Tr.step h) $$ [$Hc $C0 $C1 $C2 $C3 $C4 $C5 $Hbt $Hbp $HO]
  clear h
  iintro ⟨⟨CP0, CP1, CP2, CP3, CP4, CP5⟩, HZB, HO⟩
  have h := Tr.each (fun k => 2 * k) 0 6 rfl rfl (ph_prep m K c)
  simp only [tri_sep] at h
  iapply (Tr.step h) $$ [$Hc $PI0 $PI1 $GE0 $GE1 $CP0 $CP1 $TS0 $TS1 $HO]
  clear h
  iintro ⟨⟨VB, X0, X1, ZI0, ZI1, PS0, PS1⟩, HO⟩
  have h := Tr.each0 (ph_keep m K c)
  simp only [tri_sep] at h
  iapply (Tr.step h) $$ [$Hc $VB $GK]
  clear h
  iintro ⟨VB, KP0, KP1⟩
  have h := Tr.each (fun k => 6 + 2 * k) 6 12 rfl rfl (ph_a0 m K c)
  simp only [tri_sep] at h
  iapply (Tr.step h) $$ [$Hc $RR0 $KP0 $CP2 $CP3 $TS2 $TS3 $HO]
  clear h
  iintro ⟨⟨C0, PM0, ZR0, PS2, PS3⟩, HO⟩
  have h := Tr.each (fun k => 12) 12 12 rfl rfl (ph_a1 m K c)
  simp only [tri_sep] at h
  iapply (Tr.step h) $$ [$Hc $RR1 $KP1 $HO]
  clear h
  iintro ⟨⟨KP2, KP3, C1, PM1, ZR1⟩, HO⟩
  have h := Tr.each (fun k => 12 + 2 * k) 12 18 rfl rfl (ph_b0 m K c)
  simp only [tri_sep] at h
  iapply (Tr.step h) $$ [$Hc $RR2 $KP2 $CP4 $CP5 $TS4 $TS5 $HO]
  clear h
  iintro ⟨⟨C2, PM2, ZR2, PS4, PS5⟩, HO⟩
  have h := Tr.each (fun k => 18) 18 18 rfl rfl (ph_b1 m K c)
  simp only [tri_sep] at h
  iapply (Tr.step h) $$ [$Hc $RR3 $KP3 $HO]
  clear h
  iintro ⟨⟨KP4, KP5, C3, PM3, ZR3⟩, HO⟩
  have h := Tr.each (fun k => 18) 18 18 rfl rfl (ph_c0 m K c)
  simp only [tri_sep] at h
  iapply (Tr.step h) $$ [$Hc $RR4 $KP4 $HO]
  clear h
  iintro ⟨⟨KP4, C4, PM4, ZR4⟩, HO⟩
  have h := Tr.each (fun k => 18 + 3 * k) 18 27 rfl rfl (ph_c1 m K c)
  simp only [tri_sep] at h
  iapply (Tr.step h) $$ [$Hc $RR5 $KP4 $KP5 $PM1 $PM3 $PM4 $TG0 $TG1 $TG3 $OE0 $TO0 $HO]
  clear h
  iintro ⟨⟨C5, ZR5, FAR, PG0, PG1, PG3, PO0⟩, HO⟩
  have h := Tr.each (fun k => 27 + 2 * k) 27 33 rfl rfl (ph_g0 m K c)
  simp only [tri_sep] at h
  iapply (Tr.step h) $$ [$Hc $RG0 $PM2 $FAR $TG2 $TG4 $OE1 $TO1 $HO]
  clear h
  iintro ⟨⟨ZH0, PG2, PG4, PO1⟩, HO⟩
  have h := tri_mono (perm0_split (F := F) c)
  simp only [tri_sep] at h
  ihave PM0 := h $$ PM0
  clear h
  icases PM0 with ⟨FK, FG⟩
  have h := Tr.each (fun k => 33 + k) 33 36 rfl rfl (ph_g1 m K c)
  simp only [tri_sep] at h
  iapply (Tr.step h) $$ [$Hc $RG1 $FK $TG5 $OE2 $TO2 $HO]
  clear h
  iintro ⟨⟨ZH1, PG5, PO2⟩, HO⟩
  have h := Tr.each (fun k => 36 + k) 36 39 rfl rfl (ph_g2 m K c)
  simp only [tri_sep] at h
  iapply (Tr.step h) $$ [$Hc $RG2 $FG $TG6 $OE3 $TO3 $HO]
  clear h
  iintro ⟨⟨ZH2, PG6, PO3⟩, HO⟩
  have h := Tr.each (fun k => 39) 39 39 rfl rfl (ph_g3 m K c)
  simp only [tri_sep] at h
  iapply (Tr.step h) $$ [$Hc $RG3 $RG4 $RG5 $RG6 $OE4 $TO4 $HO]
  clear h
  iintro ⟨⟨ZH3, ZH4, ZH5, ZH6, PO4⟩, HO⟩
  have h := Tr.each (fun k => 39) 39 39 rfl rfl (ph_sent m K c 0 1)
  simp only [tri_sep] at h
  iapply (Tr.step h) $$ [$Hc $PS0 $PS1 $HO]
  clear h
  iintro ⟨⟨ZS0, ZS1⟩, HO⟩
  have h := Tr.each (fun k => 39) 39 39 rfl rfl (ph_sent m K c 2 3)
  simp only [tri_sep] at h
  iapply (Tr.step h) $$ [$Hc $PS2 $PS3 $HO]
  clear h
  iintro ⟨⟨ZS2, ZS3⟩, HO⟩
  have h := Tr.each (fun k => 39) 39 39 rfl rfl (ph_sent m K c 4 5)
  simp only [tri_sep] at h
  iapply (Tr.step h) $$ [$Hc $PS4 $PS5 $HO]
  clear h
  iintro ⟨⟨ZS4, ZS5⟩, HO⟩
  have h := Tr.each (fun k => 39) 39 39 rfl rfl (ph_s0 m K c)
  simp only [tri_sep] at h
  iapply (Tr.step h) $$ [$Hc $PG0 $PG1 $PG3 $HO]
  clear h
  iintro ⟨⟨GB0, GB1, GB3, ZG0, ZG1, ZG3⟩, HO⟩
  have h := Tr.each (fun k => 39) 39 39 rfl rfl (ph_s1 m K c)
  simp only [tri_sep] at h
  iapply (Tr.step h) $$ [$Hc $PG2 $PG4 $HO]
  clear h
  iintro ⟨⟨GB2, GB4, ZG2, ZG4⟩, HO⟩
  have h := Tr.each (fun k => 39) 39 39 rfl rfl (fun b => pushed_one m K c b 5)
  simp only [tri_sep] at h
  iapply (Tr.step h) $$ [$Hc $PG5 $HO]
  clear h
  iintro ⟨⟨GB5, ZG5⟩, HO⟩
  have h := Tr.each (fun k => 39) 39 39 rfl rfl (fun b => pushed_one m K c b 6)
  simp only [tri_sep] at h
  iapply (Tr.step h) $$ [$Hc $PG6 $HO]
  clear h
  iintro ⟨⟨GB6, ZG6⟩, HO⟩
  have h := Tr.each (fun k => 39) 39 39 rfl rfl (ph_o m K c 0)
  simp only [tri_sep] at h
  iapply (Tr.step h) $$ [$Hc $PO0 $HO]
  clear h
  iintro ⟨⟨GO0, OF0, ZO0⟩, HO⟩
  have h := Tr.each (fun k => 39) 39 39 rfl rfl (ph_o m K c 1)
  simp only [tri_sep] at h
  iapply (Tr.step h) $$ [$Hc $PO1 $HO]
  clear h
  iintro ⟨⟨GO1, OF1, ZO1⟩, HO⟩
  have h := Tr.each (fun k => 39) 39 39 rfl rfl (ph_o m K c 2)
  simp only [tri_sep] at h
  iapply (Tr.step h) $$ [$Hc $PO2 $HO]
  clear h
  iintro ⟨⟨GO2, OF2, ZO2⟩, HO⟩
  have h := Tr.each (fun k => 39) 39 39 rfl rfl (ph_o m K c 3)
  simp only [tri_sep] at h
  iapply (Tr.step h) $$ [$Hc $PO3 $HO]
  clear h
  iintro ⟨⟨GO3, OF3, ZO3⟩, HO⟩
  have h := Tr.each (fun k => 39) 39 39 rfl rfl (ph_o m K c 4)
  simp only [tri_sep] at h
  iapply (h t Φ)
  clear h
  isplitr; · iexact Hc
  isplitl [PO4 HO]
  · iframe PO4 HO
  iintro ⟨⟨GO4, OF4, ZO4⟩, HO⟩
  ihave Hx := (Entails.of_eq (x_bands m c).symm) $$ [$X0 $X1]
  ihave Hv := (v_back m c) $$ VB
  ihave Hg := (g_back m c) $$ [$GB0 $GB1 $GB2 $GB3 $GB4 $GB5 $GB6 $GO0 $GO1 $GO2 $GO3 $GO4]
  ihave Ho := (o_back m c) $$ [$OF0 $OF1 $OF2 $OF3 $OF4]
  ihave Hcm := (Entails.of_eq (c_bands c).symm) $$ [$C0 $C1 $C2 $C3 $C4 $C5]
  iapply Hk
  unfold post bufs₁ zeros
  iframe Hx Hv Hg Ho Hcm ZI0 ZI1 ZS0 ZS1 ZS2 ZS3 ZS4 ZS5 ZR0 ZR1 ZR2 ZR3 ZR4 ZR5 ZG0 ZG1 ZG2 ZG3 ZG4 ZG5 ZG6 ZH0 ZH1 ZH2 ZH3 ZH4 ZH5 ZH6 ZO0 ZO1 ZO2 ZO3 ZO4 HZB HO

end Cert.Butterfly
-- ==== Proof.Deal.lean ====
module

public import proofs.«01_k».proof.Proof.Run
public import Idealize.ShloMosaic.Lib.Pipeline.Launch
public import Idealize.ShloMosaic.Lib.Pipeline.Kit

/-!
How the tokens made at the launch are dealt to the devices.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### The semaphores, listed -/

/-- A device's semaphores are the barrier and the transfers'. -/
theorem sem_split (f : SemLoc sig → sProp 𝕄) : bigSep Finset.univ f = iprop(f (.reg barS) ∗ bigSep Finset.univ fun q : DmaSem sig => f (.dma q)) := by
  rw [bigSep_univ_equiv (SemLoc.equivSum sig).symm f, bigSep_univ_sum, bigSep_univ_eq_bigSepL [barS] (by decide) (by decide), bigSepL_singleton]
  rfl

/-- The kinds of transfer, each with a semaphore per butterfly. -/
def fams : List (Fin 3 → DmaSem sig) :=
  [(inS · 0), (inS · 1), (srS · 0), (srS · 1), (srS · 2), (srS · 3), (srS · 4), (srS · 5), (rrS · 0), (rrS · 1), (rrS · 2), (rrS · 3), (rrS · 4), (rrS · 5), (sgS · 0), (sgS · 1), (sgS · 2), (sgS · 3), (sgS · 4), (sgS · 5), (sgS · 6), (rgS · 0), (rgS · 1), (rgS · 2), (rgS · 3), (rgS · 4), (rgS · 5), (rgS · 6), (outS · 0), (outS · 1), (outS · 2), (outS · 3), (outS · 4)]

def slot (p : Fin 33 × Fin 3) : DmaSem sig := (fams[p.1.val]'p.1.isLt) p.2

theorem slot_bij : Function.Bijective slot := by decide +kernel

/-- The transfers' semaphores, listed by kind. -/
theorem dma_split (f : DmaSem sig → sProp 𝕄) : bigSep Finset.univ f = iprop(tri (fun b => f (inS b 0)) ∗
      tri (fun b => f (inS b 1)) ∗
      tri (fun b => f (srS b 0)) ∗
      tri (fun b => f (srS b 1)) ∗
      tri (fun b => f (srS b 2)) ∗
      tri (fun b => f (srS b 3)) ∗
      tri (fun b => f (srS b 4)) ∗
      tri (fun b => f (srS b 5)) ∗
      tri (fun b => f (rrS b 0)) ∗
      tri (fun b => f (rrS b 1)) ∗
      tri (fun b => f (rrS b 2)) ∗
      tri (fun b => f (rrS b 3)) ∗
      tri (fun b => f (rrS b 4)) ∗
      tri (fun b => f (rrS b 5)) ∗
      tri (fun b => f (sgS b 0)) ∗
      tri (fun b => f (sgS b 1)) ∗
      tri (fun b => f (sgS b 2)) ∗
      tri (fun b => f (sgS b 3)) ∗
      tri (fun b => f (sgS b 4)) ∗
      tri (fun b => f (sgS b 5)) ∗
      tri (fun b => f (sgS b 6)) ∗
      tri (fun b => f (rgS b 0)) ∗
      tri (fun b => f (rgS b 1)) ∗
      tri (fun b => f (rgS b 2)) ∗
      tri (fun b => f (rgS b 3)) ∗
      tri (fun b => f (rgS b 4)) ∗
      tri (fun b => f (rgS b 5)) ∗
      tri (fun b => f (rgS b 6)) ∗
      tri (fun b => f (outS b 0)) ∗
      tri (fun b => f (outS b 1)) ∗
      tri (fun b => f (outS b 2)) ∗
      tri (fun b => f (outS b 3)) ∗
      tri (fun b => f (outS b 4))) := by
  rw [bigSep_univ_equiv (Equiv.ofBijective slot slot_bij) f, bigSep_univ_prod,
    bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  rfl

/-! ### Who raises a semaphore -/

/-- The partner that raises a semaphore, if another device does. -/
def turn (q : DmaSem sig) : Option (Fin 3) := match dec q with
  | .rr b r => some (dir b (stg r))
  | .rg b a => some (gdir b a)
  | _ => none

def holder (q : DmaSem sig) (c : Dev nD) : Dev nD := match turn q with
  | some d => peer d c
  | none => c

/-- Who raises a semaphore, twice, is the device itself. -/
theorem holder_holder (q : DmaSem sig) (c : Dev nD) : holder q (holder q c) = c := by
  unfold holder; cases turn q with
  | none => rfl
  | some d => exact peer_peer d c

theorem holder_in (b h c) : holder (inS b h) c = c := by unfold holder turn; rw [dec_in]
theorem holder_out (b o c) : holder (outS b o) c = c := by unfold holder turn; rw [dec_out]
theorem holder_sr (b r c) : holder (srS b r) c = c := by unfold holder turn; rw [dec_sr]
theorem holder_sg (b a c) : holder (sgS b a) c = c := by unfold holder turn; rw [dec_sg]
theorem holder_rr (b r c) : holder (rrS b r) c = peer (dir b (stg r)) c := by unfold holder turn; rw [dec_rr]
theorem holder_rg (b a c) : holder (rgS b a) c = peer (gdir b a) c := by unfold holder turn; rw [dec_rg]

def holders (q : DmaSem sig) : Dev nD ≃ Dev nD := ⟨holder q, holder q, holder_holder q, holder_holder q⟩
def peers (d : Fin 3) : Dev nD ≃ Dev nD := ⟨peer d, peer d, peer_peer d, peer_peer d⟩

/-- The tokens of a device's own semaphores. -/
def mint (c : Dev nD) : sProp 𝕄 := iprop((bigSep Finset.univ fun q => tok2 c q) ∗ bigSep Finset.univ fun d => btok c d)
/-- The tokens of the raises a device makes. -/
def hold (c : Dev nD) : sProp 𝕄 := iprop((bigSep Finset.univ fun q => tok2 (holder q c) q) ∗ bigSep Finset.univ fun d => btok (peer d c) d)

/-- All the semaphores' tokens, dealt to the devices that raise them. -/
theorem dealt : (bigSep Finset.univ fun c => (mint c : sProp 𝕄)) = bigSep Finset.univ fun c => hold c := by
  unfold mint hold
  rw [bigSep_sep', bigSep_sep', bigSep_univ_comm (fun c q => (tok2 c q : sProp 𝕄)), bigSep_univ_comm (fun c q => (tok2 (holder q c) q : sProp 𝕄)),
    bigSep_univ_comm (fun c d => (btok c d : sProp 𝕄)), bigSep_univ_comm (fun c d => (btok (peer d c) d : sProp 𝕄)),
    bigSep_congr (s := Finset.univ) fun q _ => bigSep_univ_equiv (holders q) (fun c => (tok2 c q : sProp 𝕄)),
    bigSep_congr (s := Finset.univ) fun d _ => bigSep_univ_equiv (peers d) (fun c => (btok c d : sProp 𝕄))]
  rfl

/-! ### The credit of the launch -/

theorem dcell_iff {a b : Dev nD} {q r : DmaSem sig} : dcell a q = dcell b r ↔ a = b ∧ q = r := by
  constructor
  · intro h
    exact ⟨congrArg (fun g : GSem nD τ sig => g.1.1) h, by have := congrArg Prod.snd h; injection this⟩
  · rintro ⟨rfl, rfl⟩; rfl
theorem bcell_iff {a b : Dev nD} : bcell a = bcell b ↔ a = b := ⟨fun h => congrArg (fun g : GSem nD τ sig => g.1.1) h, fun h => h ▸ rfl⟩
theorem bcell_ne (a b : Dev nD) (q : DmaSem sig) : bcell a ≠ dcell b q := fun h => by cases congrArg Prod.snd h

theorem sem_inj : ∀ p q : Tx, p.sem = q.sem → p = q := by decide +kernel

theorem peer_iff (d : Fin 3) (a b : Dev nD) : peer d a = b ↔ a = peer d b := ⟨fun h => by rw [← h, peer_peer], fun h => by rw [h, peer_peer]⟩

theorem sum_at {ι : Type} (S : Finset ι) (f : ι → CellTallies nD τ sig Unit) (g : GSem nD τ sig) : (∑ p ∈ S, f p) g () = ∑ p ∈ S, f p g () := by
  classical
  induction S using Finset.induction_on with
  | empty => rfl
  | insert a S ha ih => rw [Finset.sum_insert ha, Finset.sum_insert ha, Pi.add_apply, Finsupp.add_apply, ih]

/-- Who owes a transfer's arrival at the start. -/
theorem owed_tx (p : Tx) (d c : Dev nD) : O₀ d (dcell c p.sem) () = if d = peer p.dir c then amt p.sem else 0 := by
  unfold O₀
  rw [Pi.add_apply, Finsupp.add_apply, Pi.add_apply, Finsupp.add_apply, Pi.add_apply, Finsupp.add_apply, tallyAt_ne_cell (bcell_ne _ _ _).symm,
    tallyAt_ne_cell (bcell_ne _ _ _).symm, tallyAt_ne_cell (bcell_ne _ _ _).symm, Finsupp.zero_apply, Nat.add_zero, Nat.add_zero, Nat.add_zero]
  unfold Ow
  rw [sum_at, Finset.sum_eq_single p]
  · rw [tallyAt_apply]
    by_cases h : d = peer p.dir c
    · rw [if_pos h, if_pos ⟨by unfold Tx.cell; rw [h, peer_peer], rfl⟩]
    · rw [if_neg h, if_neg fun h' => h ((peer_iff _ _ _).mp (dcell_iff.mp h'.1).1.symm)]
  · intro q _ hq
    rw [tallyAt_apply, if_neg fun h' => hq (sem_inj _ _ (dcell_iff.mp h'.1).2.symm)]
  · intro h; exact (h (Finset.mem_filter.mpr ⟨Finset.mem_univ p, Nat.zero_le p.pos⟩)).elim

/-- Who owes the barrier's signals at the start. -/
theorem owed_bar (d c : Dev nD) : O₀ d (bcell c) () = (if d = peer 2 c then 1 else 0) + (if d = peer 1 c then 1 else 0) + (if d = peer 0 c then 1 else 0) := by
  have h0 : Ow 0 d (bcell c) () = 0 := by
    by_contra h
    obtain ⟨p, -, hp⟩ := Ow_pos (Nat.pos_of_ne_zero h)
    exact bcell_ne _ _ _ hp
  have hb (j : Fin 3) : (tallyAt (bcell (peer j d)) () 1 : CellTallies nD τ sig Unit) (bcell c) () = if d = peer j c then 1 else 0 := by
    rw [tallyAt_apply]
    by_cases h : d = peer j c
    · rw [if_pos h, if_pos ⟨by rw [h, peer_peer], rfl⟩]
    · rw [if_neg h, if_neg fun h' => h ((peer_iff _ _ _).mp (bcell_iff.mp h'.1).symm)]
  unfold O₀
  rw [Pi.add_apply, Finsupp.add_apply, Pi.add_apply, Finsupp.add_apply, Pi.add_apply, Finsupp.add_apply, h0, hb, hb, hb, Nat.zero_add]

/-- The credit that the launch gives for a transfer's arrival. -/
theorem launch_tx (p : Tx) (c : Dev nD) :
    tallyOn (dcell c p.sem) (launchCredit (Pipeline.owing O₀) 0 (dcell c p.sem)) = (tallyAt (dcell c p.sem) () (amt p.sem) : CellTallies nD τ sig Unit) := by
  unfold tallyAt; refine congrArg _ (Finsupp.ext fun u => ?_); cases u
  rw [Pipeline.launchCredit_owing, Finsupp.single_eq_same, Finset.sum_congr rfl fun d _ => owed_tx p d c, Finset.sum_ite_eq' Finset.univ (peer p.dir c) fun _ => amt p.sem,
    if_pos (Finset.mem_univ _)]

/-- The credit that the launch gives for the barrier. -/
theorem launch_bar (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

theorem launch_rr (b : Fin 3) (r : Fin 6) (c : Dev nD) :
    tallyOn (dcell c (rrS b r)) (launchCredit (Pipeline.owing O₀) 0 (dcell c (rrS b r))) = (tallyAt (dcell c (rrS b r)) () (amt (rrS b r)) : CellTallies nD τ sig Unit) :=
  launch_tx (.inl (b, r)) c
theorem launch_rg (b : Fin 3) (a : Fin 7) (c : Dev nD) :
    tallyOn (dcell c (rgS b a)) (launchCredit (Pipeline.owing O₀) 0 (dcell c (rgS b a))) = (tallyAt (dcell c (rgS b a)) () (amt (rgS b a)) : CellTallies nD τ sig Unit) :=
  launch_tx (.inr (b, a)) c

/-! ### What a device starts with -/

/-- A device's places on its own semaphores, and the tokens of its raises. -/
def linear (c : Dev nD) : sProp 𝕄 := iprop((bigSep Finset.univ fun sm => atPos ER (kcell (c, sm)) 0 ∅ 0) ∗ hold c)

/-- The places on the semaphores, listed. -/
theorem at_list (c : Dev nD) : (bigSep Finset.univ fun sm => (atPos ER (kcell (c, sm)) 0 ∅ 0 : sProp 𝕄)) = iprop(atPos ER (bcell c) 0 ∅ 0 ∗
      tri (fun b => atPos ER (dcell c (inS b 0)) 0 ∅ 0) ∗
      tri (fun b => atPos ER (dcell c (inS b 1)) 0 ∅ 0) ∗
      tri (fun b => atPos ER (dcell c (srS b 0)) 0 ∅ 0) ∗
      tri (fun b => atPos ER (dcell c (srS b 1)) 0 ∅ 0) ∗
      tri (fun b => atPos ER (dcell c (srS b 2)) 0 ∅ 0) ∗
      tri (fun b => atPos ER (dcell c (srS b 3)) 0 ∅ 0) ∗
      tri (fun b => atPos ER (dcell c (srS b 4)) 0 ∅ 0) ∗
      tri (fun b => atPos ER (dcell c (srS b 5)) 0 ∅ 0) ∗
      tri (fun b => atPos ER (dcell c (rrS b 0)) 0 ∅ 0) ∗
      tri (fun b => atPos ER (dcell c (rrS b 1)) 0 ∅ 0) ∗
      tri (fun b => atPos ER (dcell c (rrS b 2)) 0 ∅ 0) ∗
      tri (fun b => atPos ER (dcell c (rrS b 3)) 0 ∅ 0) ∗
      tri (fun b => atPos ER (dcell c (rrS b 4)) 0 ∅ 0) ∗
      tri (fun b => atPos ER (dcell c (rrS b 5)) 0 ∅ 0) ∗
      tri (fun b => atPos ER (dcell c (sgS b 0)) 0 ∅ 0) ∗
      tri (fun b => atPos ER (dcell c (sgS b 1)) 0 ∅ 0) ∗
      tri (fun b => atPos ER (dcell c (sgS b 2)) 0 ∅ 0) ∗
      tri (fun b => atPos ER (dcell c (sgS b 3)) 0 ∅ 0) ∗
      tri (fun b => atPos ER (dcell c (sgS b 4)) 0 ∅ 0) ∗
      tri (fun b => atPos ER (dcell c (sgS b 5)) 0 ∅ 0) ∗
      tri (fun b => atPos ER (dcell c (sgS b 6)) 0 ∅ 0) ∗
      tri (fun b => atPos ER (dcell c (rgS b 0)) 0 ∅ 0) ∗
      tri (fun b => atPos ER (dcell c (rgS b 1)) 0 ∅ 0) ∗
      tri (fun b => atPos ER (dcell c (rgS b 2)) 0 ∅ 0) ∗
      tri (fun b => atPos ER (dcell c (rgS b 3)) 0 ∅ 0) ∗
      tri (fun b => atPos ER (dcell c (rgS b 4)) 0 ∅ 0) ∗
      tri (fun b => atPos ER (dcell c (rgS b 5)) 0 ∅ 0) ∗
      tri (fun b => atPos ER (dcell c (rgS b 6)) 0 ∅ 0) ∗
      tri (fun b => atPos ER (dcell c (outS b 0)) 0 ∅ 0) ∗
      tri (fun b => atPos ER (dcell c (outS b 1)) 0 ∅ 0) ∗
      tri (fun b => atPos ER (dcell c (outS b 2)) 0 ∅ 0) ∗
      tri (fun b => atPos ER (dcell c (outS b 3)) 0 ∅ 0) ∗
      tri (fun b => atPos ER (dcell c (outS b 4)) 0 ∅ 0)) := by
  rw [sem_split, dma_split (fun q => (atPos ER (kcell (c, .dma q)) 0 ∅ 0 : sProp 𝕄))]

/-- The tokens held, listed. -/
theorem tok_list (c : Dev nD) : (bigSep Finset.univ fun q => (tok2 (holder q c) q : sProp 𝕄)) = iprop(tri (fun b => dutyTok ER (dcell c (inS b 0)) 0 0) ∗
      tri (fun b => dutyTok ER (dcell c (inS b 1)) 0 0) ∗
      tri (fun b => dutyTok ER (dcell c (srS b 0)) 0 0) ∗
      tri (fun b => dutyTok ER (dcell c (srS b 1)) 0 0) ∗
      tri (fun b => dutyTok ER (dcell c (srS b 2)) 0 0) ∗
      tri (fun b => dutyTok ER (dcell c (srS b 3)) 0 0) ∗
      tri (fun b => dutyTok ER (dcell c (srS b 4)) 0 0) ∗
      tri (fun b => dutyTok ER (dcell c (srS b 5)) 0 0) ∗
      tri (fun b => dutyTok ER (dcell (peer (dir b (stg 0)) c) (rrS b 0)) 0 0) ∗
      tri (fun b => dutyTok ER (dcell (peer (dir b (stg 1)) c) (rrS b 1)) 0 0) ∗
      tri (fun b => dutyTok ER (dcell (peer (dir b (stg 2)) c) (rrS b 2)) 0 0) ∗
      tri (fun b => dutyTok ER (dcell (peer (dir b (stg 3)) c) (rrS b 3)) 0 0) ∗
      tri (fun b => dutyTok ER (dcell (peer (dir b (stg 4)) c) (rrS b 4)) 0 0) ∗
      tri (fun b => dutyTok ER (dcell (peer (dir b (stg 5)) c) (rrS b 5)) 0 0) ∗
      tri (fun b => dutyTok ER (dcell c (sgS b 0)) 0 0) ∗
      tri (fun b => dutyTok ER (dcell c (sgS b 1)) 0 0) ∗
      tri (fun b => dutyTok ER (dcell c (sgS b 2)) 0 0) ∗
      tri (fun b => dutyTok ER (dcell c (sgS b 3)) 0 0) ∗
      tri (fun b => dutyTok ER (dcell c (sgS b 4)) 0 0) ∗
      tri (fun b => dutyTok ER (dcell c (sgS b 5)) 0 0) ∗
      tri (fun b => dutyTok ER (dcell c (sgS b 6)) 0 0) ∗
      tri (fun b => dutyTok ER (dcell (peer (gdir b 0) c) (rgS b 0)) 0 0) ∗
      tri (fun b => dutyTok ER (dcell (peer (gdir b 1) c) (rgS b 1)) 0 0) ∗
      tri (fun b => dutyTok ER (dcell (peer (gdir b 2) c) (rgS b 2)) 0 0) ∗
      tri (fun b => dutyTok ER (dcell (peer (gdir b 3) c) (rgS b 3)) 0 0) ∗
      tri (fun b => dutyTok ER (dcell (peer (gdir b 4) c) (rgS b 4)) 0 0) ∗
      tri (fun b => dutyTok ER (dcell (peer (gdir b 5) c) (rgS b 5)) 0 0) ∗
      tri (fun b => dutyTok ER (dcell (peer (gdir b 6) c) (rgS b 6)) 0 0) ∗
      tri (fun b => dutyTok ER (dcell c (outS b 0)) 0 0) ∗
      tri (fun b => dutyTok ER (dcell c (outS b 1)) 0 0) ∗
      tri (fun b => dutyTok ER (dcell c (outS b 2)) 0 0) ∗
      tri (fun b => dutyTok ER (dcell c (outS b 3)) 0 0) ∗
      tri (fun b => dutyTok ER (dcell c (outS b 4)) 0 0)) := by
  rw [dma_split]
  unfold tok2
  simp only [holder_in, holder_out, holder_sr, holder_sg, holder_rr, holder_rg]

/-- The launch's credit, listed. -/
theorem cred_list (c : Dev nD) : (Pipeline.launchCred O₀ c : sProp 𝕄) ⊢ iprop(cred (tallyAt (bcell c) () 3) ∗
      tri (fun b => cred (tallyAt (dcell c (rrS b 0)) () (amt (rrS b 0)))) ∗
      tri (fun b => cred (tallyAt (dcell c (rrS b 1)) () (amt (rrS b 1)))) ∗
      tri (fun b => cred (tallyAt (dcell c (rrS b 2)) () (amt (rrS b 2)))) ∗
      tri (fun b => cred (tallyAt (dcell c (rrS b 3)) () (amt (rrS b 3)))) ∗
      tri (fun b => cred (tallyAt (dcell c (rrS b 4)) () (amt (rrS b 4)))) ∗
      tri (fun b => cred (tallyAt (dcell c (rrS b 5)) () (amt (rrS b 5)))) ∗
      tri (fun b => cred (tallyAt (dcell c (rgS b 0)) () (amt (rgS b 0)))) ∗
      tri (fun b => cred (tallyAt (dcell c (rgS b 1)) () (amt (rgS b 1)))) ∗
      tri (fun b => cred (tallyAt (dcell c (rgS b 2)) () (amt (rgS b 2)))) ∗
      tri (fun b => cred (tallyAt (dcell c (rgS b 3)) () (amt (rgS b 3)))) ∗
      tri (fun b => cred (tallyAt (dcell c (rgS b 4)) () (amt (rgS b 4)))) ∗
      tri (fun b => cred (tallyAt (dcell c (rgS b 5)) () (amt (rgS b 5)))) ∗
      tri (fun b => cred (tallyAt (dcell c (rgS b 6)) () (amt (rgS b 6))))) := by
  unfold Pipeline.launchCred
  rw [sem_split, dma_split (fun q => (cred (tallyOn (dcell c q) (launchCredit (Pipeline.owing O₀) 0 (dcell c q))) : sProp 𝕄))]
  simp only [launch_rr, launch_rg, launch_bar]
  iintro ⟨HB, -, -, -, -, -, -, -, -, HrrS0, HrrS1, HrrS2, HrrS3, HrrS4, HrrS5, -, -, -, -, -, -, -, HrgS0, HrgS1, HrgS2, HrgS3, HrgS4, HrgS5, HrgS6, -, -, -, -, -⟩
  iframe HB HrrS0 HrrS1 HrrS2 HrrS3 HrrS4 HrrS5 HrgS0 HrgS1 HrgS2 HrgS3 HrgS4 HrgS5 HrgS6

/-- What a device starts with is what its run takes. -/
theorem deal (c : Dev nD) : iprop(linear c ∗ Pipeline.launchCred O₀ c)
    ⊢ (iprop(toks c ∗ (btok (peer 0 c) 0 ∗ btok (peer 1 c) 1 ∗ btok (peer 2 c) 2) ∗ bpend c) : sProp 𝕄) := by
  unfold linear hold
  iintro ⟨⟨Ha, Ht, Hb⟩, Hc⟩
  ihave Ha := (Entails.of_eq (at_list c)) $$ Ha
  icases Ha with ⟨AB, AinS0, AinS1, AsrS0, AsrS1, AsrS2, AsrS3, AsrS4, AsrS5, ArrS0, ArrS1, ArrS2, ArrS3, ArrS4, ArrS5, AsgS0, AsgS1, AsgS2, AsgS3, AsgS4, AsgS5, AsgS6, ArgS0, ArgS1, ArgS2, ArgS3, ArgS4, ArgS5, ArgS6, AoutS0, AoutS1, AoutS2, AoutS3, AoutS4⟩
  ihave Ht := (Entails.of_eq (tok_list c)) $$ Ht
  icases Ht with ⟨TinS0, TinS1, TsrS0, TsrS1, TsrS2, TsrS3, TsrS4, TsrS5, TrrS0, TrrS1, TrrS2, TrrS3, TrrS4, TrrS5, TsgS0, TsgS1, TsgS2, TsgS3, TsgS4, TsgS5, TsgS6, TrgS0, TrgS1, TrgS2, TrgS3, TrgS4, TrgS5, TrgS6, ToutS0, ToutS1, ToutS2, ToutS3, ToutS4⟩
  ihave Hc := (cred_list c) $$ Hc
  icases Hc with ⟨CB, CrrS0, CrrS1, CrrS2, CrrS3, CrrS4, CrrS5, CrgS0, CrgS1, CrgS2, CrgS3, CrgS4, CrgS5, CrgS6⟩
  ihave Hb := (Entails.of_eq (show (bigSep Finset.univ fun d => (btok (peer d c) d : sProp 𝕄)) = iprop(btok (peer 0 c) 0 ∗ btok (peer 1 c) 1 ∗ btok (peer 2 c) 2) from tri_eq _)) $$ Hb
  icases Hb with ⟨B0, B1, B2⟩
  unfold toks bpend
  simp only [tS, tG, pend, tok1, tok2, tri_sep]
  iframe AB CB B0 B1 B2 AinS0 AinS1 AsrS0 AsrS1 AsrS2 AsrS3 AsrS4 AsrS5 ArrS0 ArrS1 ArrS2 ArrS3 ArrS4 ArrS5 AsgS0 AsgS1 AsgS2 AsgS3 AsgS4 AsgS5 AsgS6 ArgS0 ArgS1 ArgS2 ArgS3 ArgS4 ArgS5 ArgS6 AoutS0 AoutS1 AoutS2 AoutS3 AoutS4 TinS0 TinS1 TsrS0 TsrS1 TsrS2 TsrS3 TsrS4 TsrS5 TrrS0 TrrS1 TrrS2 TrrS3 TrrS4 TrrS5 TsgS0 TsgS1 TsgS2 TsgS3 TsgS4 TsgS5 TsgS6 TrgS0 TrgS1 TrgS2 TrgS3 TrgS4 TrgS5 TrgS6 ToutS0 ToutS1 ToutS2 ToutS3 ToutS4 CrrS0 CrrS1 CrrS2 CrrS3 CrrS4 CrrS5 CrgS0 CrgS1 CrgS2 CrgS3 CrgS4 CrgS5 CrgS6

end Cert.Butterfly
-- ==== Proof.Raw.lean ====
module

public import proofs.«01_k».proof.Proof.Events

/-!
Each printed part of the body is a list of steps at the printed offsets.
-/

@[expose] public section

noncomputable section

namespace Cert.Butterfly

open Cert.KernelIdeal Cert.KernelIdeal.Gen
open Idealize.ShloMosaic Idealize.ShloMosaic.TcCoe
open Idealize.SL.Sem

theorem gd4096_85_160 : ∀ d0 : Dev nD, Good 4096 160 (k0_off85 d0) := by decide +kernel
theorem gd4096_86_704 : ∀ d0 : Dev nD, Good 4096 704 (k0_off86 d0) := by decide +kernel
theorem gd4096_87_704 : ∀ d0 : Dev nD, Good 4096 704 (k0_off87 d0) := by decide +kernel
theorem gd4096_88_640 : ∀ d0 : Dev nD, Good 4096 640 (k0_off88 d0) := by decide +kernel
theorem gd4096_3_352 : ∀ d0 : Dev nD, Good 4096 352 (k0_off3 d0) := by decide +kernel
theorem gd3584_2_0_2_352 : ∀ d0 : Dev nD, Good 3584 352 (k0_off2 d0 0#32 2#32) := by decide +kernel
theorem gd4096_6_352 : ∀ d0 : Dev nD, Good 4096 352 (k0_off6 d0) := by decide +kernel
theorem gd3584_5_0_2_352 : ∀ d0 : Dev nD, Good 3584 352 (k0_off5 d0 0#32 2#32) := by decide +kernel
theorem gd4096_8_352 : ∀ d0 : Dev nD, Good 4096 352 (k0_off8 d0) := by decide +kernel
theorem gd3584_2_1232_4_352 : ∀ d0 : Dev nD, Good 3584 352 (k0_off2 d0 1232#32 4#32) := by decide +kernel
theorem gd4096_10_352 : ∀ d0 : Dev nD, Good 4096 352 (k0_off10 d0) := by decide +kernel
theorem gd3584_5_1232_4_352 : ∀ d0 : Dev nD, Good 3584 352 (k0_off5 d0 1232#32 4#32) := by decide +kernel
theorem gd4096_13_320 : ∀ d0 : Dev nD, Good 4096 320 (k0_off13 d0) := by decide +kernel
theorem gd3584_12_320 : ∀ d0 : Dev nD, Good 3584 320 (k0_off12 d0) := by decide +kernel
theorem gd4096_16_320 : ∀ d0 : Dev nD, Good 4096 320 (k0_off16 d0) := by decide +kernel
theorem gd3584_15_320 : ∀ d0 : Dev nD, Good 3584 320 (k0_off15 d0) := by decide +kernel
theorem gd4096_23_176 : ∀ d0 : Dev nD, Good 4096 176 (k0_off23 d0) := by decide +kernel
theorem gd3584_22_176 : ∀ d0 : Dev nD, Good 3584 176 (k0_off22 d0) := by decide +kernel
theorem gd4096_25_176 : ∀ d0 : Dev nD, Good 4096 176 (k0_off25 d0) := by decide +kernel
theorem gd3584_24_176 : ∀ d0 : Dev nD, Good 3584 176 (k0_off24 d0) := by decide +kernel
theorem gd4096_28_176 : ∀ d0 : Dev nD, Good 4096 176 (k0_off28 d0) := by decide +kernel
theorem gd3584_27_176 : ∀ d0 : Dev nD, Good 3584 176 (k0_off27 d0) := by decide +kernel
theorem gd4096_30_176 : ∀ d0 : Dev nD, Good 4096 176 (k0_off30 d0) := by decide +kernel
theorem gd3584_29_176 : ∀ d0 : Dev nD, Good 3584 176 (k0_off29 d0) := by decide +kernel
theorem gd4096_34_160 : ∀ d0 : Dev nD, Good 4096 160 (k0_off34 d0) := by decide +kernel
theorem gd3584_33_160 : ∀ d0 : Dev nD, Good 3584 160 (k0_off33 d0) := by decide +kernel
theorem gd4096_36_160 : ∀ d0 : Dev nD, Good 4096 160 (k0_off36 d0) := by decide +kernel
theorem gd3584_35_160 : ∀ d0 : Dev nD, Good 3584 160 (k0_off35 d0) := by decide +kernel
theorem gd4096_45_88 : ∀ d0 : Dev nD, Good 4096 88 (k0_off45 d0) := by decide +kernel
theorem gd3584_44_1056_88 : Good 3584 88 (k0_off44 1056#32) := by decide +kernel
theorem gd4096_47_88 : ∀ d0 : Dev nD, Good 4096 88 (k0_off47 d0) := by decide +kernel
theorem gd3584_46_1056_88 : Good 3584 88 (k0_off46 1056#32) := by decide +kernel
theorem gd4096_50_88 : ∀ d0 : Dev nD, Good 4096 88 (k0_off50 d0) := by decide +kernel
theorem gd3584_44_2288_88 : Good 3584 88 (k0_off44 2288#32) := by decide +kernel
theorem gd4096_51_88 : ∀ d0 : Dev nD, Good 4096 88 (k0_off51 d0) := by decide +kernel
theorem gd3584_46_2288_88 : Good 3584 88 (k0_off46 2288#32) := by decide +kernel
theorem gd4096_55_80 : ∀ d0 : Dev nD, Good 4096 80 (k0_off55 d0) := by decide +kernel
theorem gd3584_54_80 : Good 3584 80 (k0_off54) := by decide +kernel
theorem gd4096_57_80 : ∀ d0 : Dev nD, Good 4096 80 (k0_off57 d0) := by decide +kernel
theorem gd3584_56_80 : Good 3584 80 (k0_off56) := by decide +kernel
theorem gd4096_71_176 : ∀ d0 : Dev nD, Good 4096 176 (k0_off71 d0) := by decide +kernel
theorem gd4096_73_176 : ∀ d0 : Dev nD, Good 4096 176 (k0_off73 d0) := by decide +kernel
theorem gd4096_76_160 : ∀ d0 : Dev nD, Good 4096 160 (k0_off76 d0) := by decide +kernel
theorem gd4096_77_176 : ∀ d0 : Dev nD, Good 4096 176 (k0_off77 d0) := by decide +kernel
theorem gd4096_78_176 : ∀ d0 : Dev nD, Good 4096 176 (k0_off78 d0) := by decide +kernel
theorem gd4096_79_160 : ∀ d0 : Dev nD, Good 4096 160 (k0_off79 d0) := by decide +kernel
theorem gd4096_80_176 : ∀ d0 : Dev nD, Good 4096 176 (k0_off80 d0) := by decide +kernel
theorem gd4096_81_176 : ∀ d0 : Dev nD, Good 4096 176 (k0_off81 d0) := by decide +kernel
theorem gd4096_82_160 : ∀ d0 : Dev nD, Good 4096 160 (k0_off82 d0) := by decide +kernel
theorem gd4096_83_176 : ∀ d0 : Dev nD, Good 4096 176 (k0_off83 d0) := by decide +kernel
theorem gd4096_84_176 : ∀ d0 : Dev nD, Good 4096 176 (k0_off84 d0) := by decide +kernel
theorem gd4096_1_352 : ∀ d0 : Dev nD, Good 4096 352 (k0_off1 d0) := by decide +kernel
theorem gd4096_4_352 : ∀ d0 : Dev nD, Good 4096 352 (k0_off4 d0) := by decide +kernel
theorem gd4096_7_352 : ∀ d0 : Dev nD, Good 4096 352 (k0_off7 d0) := by decide +kernel
theorem gd4096_11_320 : ∀ d0 : Dev nD, Good 4096 320 (k0_off11 d0) := by decide +kernel
theorem gd4096_14_320 : ∀ d0 : Dev nD, Good 4096 320 (k0_off14 d0) := by decide +kernel
theorem gd4096_17_704 : ∀ d0 : Dev nD, Good 4096 704 (k0_off17 d0) := by decide +kernel
theorem gd4096_18_704 : ∀ d0 : Dev nD, Good 4096 704 (k0_off18 d0) := by decide +kernel
theorem gd4096_19_640 : ∀ d0 : Dev nD, Good 4096 640 (k0_off19 d0) := by decide +kernel
theorem gd4096_20_352 : ∀ d0 : Dev nD, Good 4096 352 (k0_off20 d0) := by decide +kernel
theorem gd3584_21_0_2_352 : ∀ d0 : Dev nD, Good 3584 352 (k0_off21 d0 0#32 2#32) := by decide +kernel
theorem gd4096_26_352 : ∀ d0 : Dev nD, Good 4096 352 (k0_off26 d0) := by decide +kernel
theorem gd3584_21_1232_4_352 : ∀ d0 : Dev nD, Good 3584 352 (k0_off21 d0 1232#32 4#32) := by decide +kernel
theorem gd4096_31_320 : ∀ d0 : Dev nD, Good 4096 320 (k0_off31 d0) := by decide +kernel
theorem gd3584_32_320 : ∀ d0 : Dev nD, Good 3584 320 (k0_off32 d0) := by decide +kernel
theorem gd4096_37_352 : ∀ d0 : Dev nD, Good 4096 352 (k0_off37 d0) := by decide +kernel
theorem gd3584_38_0_2_352 : ∀ d0 : Dev nD, Good 3584 352 (k0_off38 d0 0#32 2#32) := by decide +kernel
theorem gd4096_40_320 : ∀ d0 : Dev nD, Good 4096 320 (k0_off40 d0) := by decide +kernel
theorem gd3584_41_320 : ∀ d0 : Dev nD, Good 3584 320 (k0_off41 d0) := by decide +kernel
theorem gd4096_42_176 : ∀ d0 : Dev nD, Good 4096 176 (k0_off42 d0) := by decide +kernel
theorem gd3584_43_176 : ∀ d0 : Dev nD, Good 3584 176 (k0_off43 d0) := by decide +kernel
theorem gd4096_48_176 : ∀ d0 : Dev nD, Good 4096 176 (k0_off48 d0) := by decide +kernel
theorem gd3584_49_176 : ∀ d0 : Dev nD, Good 3584 176 (k0_off49 d0) := by decide +kernel
theorem gd4096_52_160 : ∀ d0 : Dev nD, Good 4096 160 (k0_off52 d0) := by decide +kernel
theorem gd3584_53_160 : ∀ d0 : Dev nD, Good 3584 160 (k0_off53 d0) := by decide +kernel
theorem gd4096_60_176 : ∀ d0 : Dev nD, Good 4096 176 (k0_off60 d0) := by decide +kernel
theorem gd3584_61_176 : ∀ d0 : Dev nD, Good 3584 176 (k0_off61 d0) := by decide +kernel
theorem gd4096_62_160 : ∀ d0 : Dev nD, Good 4096 160 (k0_off62 d0) := by decide +kernel
theorem gd3584_63_160 : ∀ d0 : Dev nD, Good 3584 160 (k0_off63 d0) := by decide +kernel
theorem gd4096_64_88 : ∀ d0 : Dev nD, Good 4096 88 (k0_off64 d0) := by decide +kernel
theorem gd3584_65_1056_88 : Good 3584 88 (k0_off65 1056#32) := by decide +kernel
theorem gd4096_66_88 : ∀ d0 : Dev nD, Good 4096 88 (k0_off66 d0) := by decide +kernel
theorem gd3584_65_2288_88 : Good 3584 88 (k0_off65 2288#32) := by decide +kernel
theorem gd4096_67_80 : ∀ d0 : Dev nD, Good 4096 80 (k0_off67 d0) := by decide +kernel
theorem gd3584_68_80 : Good 3584 80 (k0_off68) := by decide +kernel
theorem gd4096_69_88 : ∀ d0 : Dev nD, Good 4096 88 (k0_off69 d0) := by decide +kernel
theorem gd3584_70_1056_88 : Good 3584 88 (k0_off70 1056#32) := by decide +kernel
theorem gd4096_72_88 : ∀ d0 : Dev nD, Good 4096 88 (k0_off72 d0) := by decide +kernel
theorem gd3584_70_2288_88 : Good 3584 88 (k0_off70 2288#32) := by decide +kernel
theorem gd4096_74_80 : ∀ d0 : Dev nD, Good 4096 80 (k0_off74 d0) := by decide +kernel
theorem gd3584_75_80 : Good 3584 80 (k0_off75) := by decide +kernel
theorem gd4096_9_352 : ∀ d0 : Dev nD, Good 4096 352 (k0_off9 d0) := by decide +kernel
theorem gd4096_39_352 : ∀ d0 : Dev nD, Good 4096 352 (k0_off39 d0) := by decide +kernel
theorem gd3584_38_1232_4_352 : ∀ d0 : Dev nD, Good 3584 352 (k0_off38 d0 1232#32 4#32) := by decide +kernel
theorem gd4096_58_176 : ∀ d0 : Dev nD, Good 4096 176 (k0_off58 d0) := by decide +kernel
theorem gd3584_59_176 : ∀ d0 : Dev nD, Good 3584 176 (k0_off59 d0) := by decide +kernel

variable {F : FTy → Type} [FloatOps F] {α : Type}

set_option maxRecDepth 100000

theorem part1_eq  :
    ∃ f_v2 : Dev nD → BitVec 32, ∃ f_v3 : Dev nD → BitVec 32, ∃ f_v21 : Dev nD → BitVec 32, ∃ f_v39 : Dev nD → BitVec 32, ∀ k : _ → Prog (TpuEff nD τ sig (Elt F) Λ₀ .tc) α, (k0_part1 (F := F) xM (Memref.isWhole_whole _) oM (Memref.isWhole_whole _) gM (Memref.isWhole_whole _) vM (Memref.isWhole_whole _) cM (Memref.isWhole_whole _) cc0_scratch3 cc0_scratch4 cc0_scratch5 cc0_scratch6 ) >>= k =
    .op .deviceId fun d0 => k ⟨d0, (f_v2 d0), (f_v3 d0), (f_v21 d0), (f_v39 d0)⟩ := ⟨_, _, _, _, fun _ => rfl⟩

theorem part2_eq (v3 : BitVec 32) (v21 : BitVec 32) (v39 : BitVec 32) :
    ∃ v41, ∃ v42, ∃ v43, ∀ k : _ → Prog (TpuEff nD τ sig (Elt F) Λ₀ .tc) α, (k0_part2 (F := F) xM (Memref.isWhole_whole _) oM (Memref.isWhole_whole _) gM (Memref.isWhole_whole _) vM (Memref.isWhole_whole _) cM (Memref.isWhole_whole _) cc0_scratch3 cc0_scratch4 cc0_scratch5 cc0_scratch6 v3 v21 v39) >>= k =
    runsK [gIn 704 (by decide) ![0, 0] (by decide) (inS 0 0),
      gIn 704 (by decide) ![704, 0] (by decide) (inS 0 1),
      gIn 704 (by decide) ![1408, 0] (by decide) (inS 1 0),
      gIn 704 (by decide) ![2112, 0] (by decide) (inS 1 1)]
    (k ⟨v41, v42, v43⟩) := ⟨_, _, _, fun _ => rfl⟩

theorem part3_eq (d0 : Dev nD) (v2 : BitVec 32) :
    ∀ k : _ → Prog (TpuEff nD τ sig (Elt F) Λ₀ .tc) α, (k0_part3 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2) >>= k =
    runsK [gIn 640 (by decide) ![2816, 0] (by decide) (inS 2 0),
      gIn 640 (by decide) ![3456, 0] (by decide) (inS 2 1),
      semSignalWord (⟨k0_dev1 d0, k0_dev1_lt d0⟩ : Dev nD) barS 1#32,
      semSignalWord (⟨k0_dev2 d0, k0_dev2_lt d0⟩ : Dev nD) barS 1#32,
      semSignalWord (⟨k0_dev3 d0, k0_dev3_lt d0⟩ : Dev nD) barS 1#32,
      semWaitWord barS 3#32,
      gInWait 704 (by decide) ![0, 0] (by decide) (inS 0 0)]
    (k ⟨⟩) := fun _ => rfl

theorem part4_eq (d0 : Dev nD) (v2 : BitVec 32) (v41 : BitVec 1) (v42 : BitVec 1) :
    ∃ v88, ∃ v91, ∃ v93, ∃ v104, ∀ k : _ → Prog (TpuEff nD τ sig (Elt F) Λ₀ .tc) α, (k0_part4 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v41 v42) >>= k =
    runsK [gInWait 704 (by decide) ![704, 0] (by decide) (inS 0 1),
      gCopy 352 (by decide) (k0_off1 d0) (gd4096_1_352 d0),
      gSend 352 (by decide) (k0_off3 d0) (gd4096_3_352 d0) (k0_off2 d0 0#32 2#32) (gd3584_2_0_2_352 d0) ⟨k0_dev4 d0, k0_dev4_lt d0⟩ (srS 0 0) (rrS 0 0)]
    (k ⟨v88, v91, v93, v104⟩) := ⟨_, _, _, _, fun _ => rfl⟩

theorem part5_eq (d0 : Dev nD) (v2 : BitVec 32) (v88 : BitVec 32) (v93 : BitVec 32) :
    ∃ v127, ∃ v148, ∃ c1408_i32_117, ∀ k : _ → Prog (TpuEff nD τ sig (Elt F) Λ₀ .tc) α, (k0_part5 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v88 v93) >>= k =
    runsK [gCopy 352 (by decide) (k0_off4 d0) (gd4096_4_352 d0),
      gSend 352 (by decide) (k0_off6 d0) (gd4096_6_352 d0) (k0_off5 d0 0#32 2#32) (gd3584_5_0_2_352 d0) ⟨k0_dev5 d0, k0_dev5_lt d0⟩ (srS 0 1) (rrS 0 1),
      gInWait 704 (by decide) ![1408, 0] (by decide) (inS 1 0),
      gInWait 704 (by decide) ![2112, 0] (by decide) (inS 1 1)]
    (k ⟨v127, v148, c1408_i32_117⟩) := ⟨_, _, _, fun _ => rfl⟩

theorem part6_eq (d0 : Dev nD) (v2 : BitVec 32) (v42 : BitVec 1) (v43 : BitVec 1) (v148 : BitVec 32) (c1408_i32_117 : BitVec 32) :
    ∃ v150, ∃ v153, ∃ v155, ∃ v166, ∀ k : _ → Prog (TpuEff nD τ sig (Elt F) Λ₀ .tc) α, (k0_part6 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v42 v43 v148 c1408_i32_117) >>= k =
    runsK [gCopy 352 (by decide) (k0_off7 d0) (gd4096_7_352 d0),
      gSend 352 (by decide) (k0_off8 d0) (gd4096_8_352 d0) (k0_off2 d0 1232#32 4#32) (gd3584_2_1232_4_352 d0) ⟨k0_dev6 d0, k0_dev6_lt d0⟩ (srS 1 0) (rrS 1 0)]
    (ldV 352 (by decide) (k0_off9 d0) (gd4096_9_352 d0) fun v182 => ldG 352 (by decide) (k0_off9 d0) (gd4096_9_352 d0) fun v186 => k ⟨v150, v153, v155, v166, v182, v186⟩) := ⟨_, _, _, _, fun _ => rfl⟩

theorem part7_eq (d0 : Dev nD) (v2 : BitVec 32) (v43 : BitVec 1) (v150 : BitVec 32) (v155 : BitVec 32) (v182 : Vec F S352x1024 .bf16) (v186 : Vec F S352x1024 .bf16) :
    ∃ v189, ∃ v212, ∃ v214, ∀ k : _ → Prog (TpuEff nD τ sig (Elt F) Λ₀ .tc) α, (k0_part7 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v43 v150 v155 v182 v186) >>= k =
    stG 352 (by decide) (k0_off9 d0) (gd4096_9_352 d0) (payCopy v182) fun _ => runsK [gSend 352 (by decide) (k0_off10 d0) (gd4096_10_352 d0) (k0_off5 d0 1232#32 4#32) (gd3584_5_1232_4_352 d0) ⟨k0_dev7 d0, k0_dev7_lt d0⟩ (srS 1 1) (rrS 1 1),
      gInWait 640 (by decide) ![2816, 0] (by decide) (inS 2 0),
      gInWait 640 (by decide) ![3456, 0] (by decide) (inS 2 1)]
    (k ⟨v189, v212, v214⟩) := ⟨_, _, _, fun _ => rfl⟩

theorem part8_eq (d0 : Dev nD) (v2 : BitVec 32) (v41 : BitVec 1) (v212 : BitVec 32) (v214 : BitVec 32) :
    ∃ v215, ∃ v217, ∃ v228, ∃ v251, ∀ k : _ → Prog (TpuEff nD τ sig (Elt F) Λ₀ .tc) α, (k0_part8 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v41 v212 v214) >>= k =
    runsK [gCopy 320 (by decide) (k0_off11 d0) (gd4096_11_320 d0),
      gSend 320 (by decide) (k0_off13 d0) (gd4096_13_320 d0) (k0_off12 d0) (gd3584_12_320 d0) ⟨k0_dev8 d0, k0_dev8_lt d0⟩ (srS 2 0) (rrS 2 0),
      gCopy 320 (by decide) (k0_off14 d0) (gd4096_14_320 d0)]
    (k ⟨v215, v217, v228, v251⟩) := ⟨_, _, _, _, fun _ => rfl⟩

theorem part9_eq (d0 : Dev nD) (v41 : BitVec 1) (v42 : BitVec 1) (v91 : BitVec 32) (v153 : BitVec 32) (v215 : BitVec 32) (v217 : BitVec 32) (v251 : BitVec 32) :
    ∃ v284, ∃ v285, ∃ v286, ∀ k : _ → Prog (TpuEff nD τ sig (Elt F) Λ₀ .tc) α, (k0_part9 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v41 v42 v91 v153 v215 v217 v251) >>= k =
    runsK [gSend 320 (by decide) (k0_off16 d0) (gd4096_16_320 d0) (k0_off15 d0) (gd3584_15_320 d0) ⟨k0_dev9 d0, k0_dev9_lt d0⟩ (srS 2 1) (rrS 2 1),
      gCopy 704 (by decide) (k0_off17 d0) (gd4096_17_704 d0),
      gCopy 704 (by decide) (k0_off18 d0) (gd4096_18_704 d0),
      gCopy 640 (by decide) (k0_off19 d0) (gd4096_19_640 d0)]
    (k ⟨v284, v285, v286⟩) := ⟨_, _, _, fun _ => rfl⟩

theorem part10_eq (d0 : Dev nD) (v2 : BitVec 32) (v42 : BitVec 1) (v43 : BitVec 1) (v104 : BitVec 32) (v284 : BitVec 32) (v285 : BitVec 32) :
    ∃ v309, ∃ v311, ∃ v312, ∀ k : _ → Prog (TpuEff nD τ sig (Elt F) Λ₀ .tc) α, (k0_part10 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v42 v43 v104 v284 v285) >>= k =
    runsK [gRecv 352 (by decide) (k0_off3 d0) (gd4096_3_352 d0) (k0_off2 d0 0#32 2#32) (gd3584_2_0_2_352 d0) (rrS 0 0),
      gAdd 352 (by decide) (k0_off20 d0) (gd4096_20_352 d0) (k0_off21 d0 0#32 2#32) (gd3584_21_0_2_352 d0)]
    (k ⟨v309, v311, v312⟩) := ⟨_, _, _, fun _ => rfl⟩

theorem part11_eq (d0 : Dev nD) (v2 : BitVec 32) (v42 : BitVec 1) (v43 : BitVec 1) (v166 : BitVec 32) (v309 : BitVec 32) (v311 : BitVec 32) :
    ∃ v325, ∃ v340, ∃ v342, ∃ v349, ∃ v350, ∀ k : _ → Prog (TpuEff nD τ sig (Elt F) Λ₀ .tc) α, (k0_part11 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v42 v43 v166 v309 v311) >>= k =
    runsK [gSend 176 (by decide) (k0_off23 d0) (gd4096_23_176 d0) (k0_off22 d0) (gd3584_22_176 d0) ⟨k0_dev10 d0, k0_dev10_lt d0⟩ (srS 0 2) (rrS 0 2),
      gSend 176 (by decide) (k0_off25 d0) (gd4096_25_176 d0) (k0_off24 d0) (gd3584_24_176 d0) ⟨k0_dev11 d0, k0_dev11_lt d0⟩ (srS 0 3) (rrS 0 3),
      gRecv 352 (by decide) (k0_off8 d0) (gd4096_8_352 d0) (k0_off2 d0 1232#32 4#32) (gd3584_2_1232_4_352 d0) (rrS 1 0)]
    (k ⟨v325, v340, v342, v349, v350⟩) := ⟨_, _, _, _, _, fun _ => rfl⟩

theorem part12_eq (d0 : Dev nD) (v2 : BitVec 32) (v41 : BitVec 1) (v43 : BitVec 1) (v340 : BitVec 32) (v349 : BitVec 32) (v350 : BitVec 32) :
    ∃ v368, ∃ v381, ∃ v386, ∀ k : _ → Prog (TpuEff nD τ sig (Elt F) Λ₀ .tc) α, (k0_part12 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v41 v43 v340 v349 v350) >>= k =
    runsK [gAdd 352 (by decide) (k0_off26 d0) (gd4096_26_352 d0) (k0_off21 d0 1232#32 4#32) (gd3584_21_1232_4_352 d0),
      gSend 176 (by decide) (k0_off28 d0) (gd4096_28_176 d0) (k0_off27 d0) (gd3584_27_176 d0) ⟨k0_dev12 d0, k0_dev12_lt d0⟩ (srS 1 2) (rrS 1 2)]
    (k ⟨v368, v381, v386⟩) := ⟨_, _, _, fun _ => rfl⟩

theorem part13_eq (d0 : Dev nD) (v41 : BitVec 1) (v43 : BitVec 1) (v228 : BitVec 32) (v386 : BitVec 32) :
    ∃ v396, ∃ v398, ∃ v421, ∀ k : _ → Prog (TpuEff nD τ sig (Elt F) Λ₀ .tc) α, (k0_part13 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v41 v43 v228 v386) >>= k =
    runsK [gSend 176 (by decide) (k0_off30 d0) (gd4096_30_176 d0) (k0_off29 d0) (gd3584_29_176 d0) ⟨k0_dev13 d0, k0_dev13_lt d0⟩ (srS 1 3) (rrS 1 3),
      gRecv 320 (by decide) (k0_off13 d0) (gd4096_13_320 d0) (k0_off12 d0) (gd3584_12_320 d0) (rrS 2 0),
      gAdd 320 (by decide) (k0_off31 d0) (gd4096_31_320 d0) (k0_off32 d0) (gd3584_32_320 d0)]
    (k ⟨v396, v398, v421⟩) := ⟨_, _, _, fun _ => rfl⟩

theorem part14_eq (d0 : Dev nD) (v2 : BitVec 32) (v42 : BitVec 1) (v127 : BitVec 32) (v421 : BitVec 32) :
    ∃ v424, ∃ v437, ∃ v450, ∃ c0_i32_322, ∀ k : _ → Prog (TpuEff nD τ sig (Elt F) Λ₀ .tc) α, (k0_part14 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v42 v127 v421) >>= k =
    runsK [gSend 160 (by decide) (k0_off34 d0) (gd4096_34_160 d0) (k0_off33 d0) (gd3584_33_160 d0) ⟨k0_dev14 d0, k0_dev14_lt d0⟩ (srS 2 2) (rrS 2 2),
      gSend 160 (by decide) (k0_off36 d0) (gd4096_36_160 d0) (k0_off35 d0) (gd3584_35_160 d0) ⟨k0_dev15 d0, k0_dev15_lt d0⟩ (srS 2 3) (rrS 2 3)]
    (k ⟨v424, v437, v450, c0_i32_322⟩) := ⟨_, _, _, _, fun _ => rfl⟩

theorem part15_eq (d0 : Dev nD) (v189 : BitVec 32) (v284 : BitVec 32) (v286 : BitVec 32) (v340 : BitVec 32) (v342 : BitVec 32) (v450 : BitVec 32) (c0_i32_322 : BitVec 32) :
    ∀ k : _ → Prog (TpuEff nD τ sig (Elt F) Λ₀ .tc) α, (k0_part15 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v189 v284 v286 v340 v342 v450 c0_i32_322) >>= k =
    runsK [gRecv 352 (by decide) (k0_off6 d0) (gd4096_6_352 d0) (k0_off5 d0 0#32 2#32) (gd3584_5_0_2_352 d0) (rrS 0 1),
      gAdd 352 (by decide) (k0_off37 d0) (gd4096_37_352 d0) (k0_off38 d0 0#32 2#32) (gd3584_38_0_2_352 d0),
      gRecv 352 (by decide) (k0_off10 d0) (gd4096_10_352 d0) (k0_off5 d0 1232#32 4#32) (gd3584_5_1232_4_352 d0) (rrS 1 1)]
    (ldG 352 (by decide) (k0_off39 d0) (gd4096_39_352 d0) fun v480 => ldC 352 (by decide) (k0_off38 d0 1232#32 4#32) (gd3584_38_1232_4_352 d0) fun v483 => ldG 352 (by decide) (k0_off39 d0) (gd4096_39_352 d0) fun v487 => k (payAdd v480 v483)) := fun _ => rfl

theorem part16_eq (d0 : Dev nD) (v42 : BitVec 1) (v43 : BitVec 1) (v251 : BitVec 32) (v284 : BitVec 32) (v312 : BitVec 32) (v396 : BitVec 32) (v398 : BitVec 32) (v489 : FVec F S352x1024 .bf16) :
    ∃ v512, ∃ v513, ∃ v514, ∃ v521, ∀ k : _ → Prog (TpuEff nD τ sig (Elt F) Λ₀ .tc) α, (k0_part16 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v42 v43 v251 v284 v312 v396 v398 v489) >>= k =
    stG 352 (by decide) (k0_off39 d0) (gd4096_39_352 d0) v489 fun _ => runsK [gRecv 320 (by decide) (k0_off16 d0) (gd4096_16_320 d0) (k0_off15 d0) (gd3584_15_320 d0) (rrS 2 1),
      gAdd 320 (by decide) (k0_off40 d0) (gd4096_40_320 d0) (k0_off41 d0) (gd3584_41_320 d0),
      gRecv 176 (by decide) (k0_off23 d0) (gd4096_23_176 d0) (k0_off22 d0) (gd3584_22_176 d0) (rrS 0 2)]
    (k ⟨v512, v513, v514, v521⟩) := ⟨_, _, _, _, fun _ => rfl⟩

theorem part17_eq (d0 : Dev nD) (v2 : BitVec 32) (v43 : BitVec 1) (v512 : BitVec 32) (v513 : BitVec 32) (v521 : BitVec 32) :
    ∃ v539, ∃ v552, ∀ k : _ → Prog (TpuEff nD τ sig (Elt F) Λ₀ .tc) α, (k0_part17 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v43 v512 v513 v521) >>= k =
    runsK [gAdd 176 (by decide) (k0_off42 d0) (gd4096_42_176 d0) (k0_off43 d0) (gd3584_43_176 d0),
      gSend 88 (by decide) (k0_off45 d0) (gd4096_45_88 d0) (k0_off44 1056#32) gd3584_44_1056_88 ⟨k0_dev16 d0, k0_dev16_lt d0⟩ (srS 0 4) (rrS 0 4)]
    (k ⟨v539, v552⟩) := ⟨_, _, fun _ => rfl⟩

theorem part18_eq (d0 : Dev nD) (v41 : BitVec 1) (v43 : BitVec 1) (v340 : BitVec 32) (v368 : BitVec 32) (v552 : BitVec 32) :
    ∃ v567, ∃ v569, ∃ v590, ∀ k : _ → Prog (TpuEff nD τ sig (Elt F) Λ₀ .tc) α, (k0_part18 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v41 v43 v340 v368 v552) >>= k =
    runsK [gSend 88 (by decide) (k0_off47 d0) (gd4096_47_88 d0) (k0_off46 1056#32) gd3584_46_1056_88 ⟨k0_dev17 d0, k0_dev17_lt d0⟩ (srS 0 5) (rrS 0 5),
      gRecv 176 (by decide) (k0_off28 d0) (gd4096_28_176 d0) (k0_off27 d0) (gd3584_27_176 d0) (rrS 1 2),
      gAdd 176 (by decide) (k0_off48 d0) (gd4096_48_176 d0) (k0_off49 d0) (gd3584_49_176 d0)]
    (k ⟨v567, v569, v590⟩) := ⟨_, _, _, fun _ => rfl⟩

theorem part19_eq (d0 : Dev nD) (v2 : BitVec 32) (v41 : BitVec 1) (v396 : BitVec 32) (v567 : BitVec 32) (v590 : BitVec 32) :
    ∃ v594, ∃ v607, ∃ v622, ∃ c160_i32_432, ∀ k : _ → Prog (TpuEff nD τ sig (Elt F) Λ₀ .tc) α, (k0_part19 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v41 v396 v567 v590) >>= k =
    runsK [gSend 88 (by decide) (k0_off50 d0) (gd4096_50_88 d0) (k0_off44 2288#32) gd3584_44_2288_88 ⟨k0_dev18 d0, k0_dev18_lt d0⟩ (srS 1 4) (rrS 1 4),
      gSend 88 (by decide) (k0_off51 d0) (gd4096_51_88 d0) (k0_off46 2288#32) gd3584_46_2288_88 ⟨k0_dev19 d0, k0_dev19_lt d0⟩ (srS 1 5) (rrS 1 5)]
    (k ⟨v594, v607, v622, c160_i32_432⟩) := ⟨_, _, _, _, fun _ => rfl⟩

theorem part20_eq (d0 : Dev nD) (v2 : BitVec 32) (v42 : BitVec 1) (v424 : BitVec 32) (v622 : BitVec 32) (c160_i32_432 : BitVec 32) :
    ∃ v624, ∃ v647, ∃ v648, ∃ v649, ∃ v654, ∀ k : _ → Prog (TpuEff nD τ sig (Elt F) Λ₀ .tc) α, (k0_part20 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v42 v424 v622 c160_i32_432) >>= k =
    runsK [gRecv 160 (by decide) (k0_off34 d0) (gd4096_34_160 d0) (k0_off33 d0) (gd3584_33_160 d0) (rrS 2 2),
      gAdd 160 (by decide) (k0_off52 d0) (gd4096_52_160 d0) (k0_off53 d0) (gd3584_53_160 d0)]
    (k ⟨v624, v647, v648, v649, v654⟩) := ⟨_, _, _, _, _, fun _ => rfl⟩

theorem part21_eq (d0 : Dev nD) (v2 : BitVec 32) (v325 : BitVec 32) (v512 : BitVec 32) (v514 : BitVec 32) (v647 : BitVec 32) (v648 : BitVec 32) (v654 : BitVec 32) :
    ∃ v662, ∃ v681, ∀ k : _ → Prog (TpuEff nD τ sig (Elt F) Λ₀ .tc) α, (k0_part21 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v325 v512 v514 v647 v648 v654) >>= k =
    runsK [gSend 80 (by decide) (k0_off55 d0) (gd4096_55_80 d0) k0_off54 gd3584_54_80 ⟨k0_dev20 d0, k0_dev20_lt d0⟩ (srS 2 4) (rrS 2 4),
      gSend 80 (by decide) (k0_off57 d0) (gd4096_57_80 d0) k0_off56 gd3584_56_80 ⟨k0_dev21 d0, k0_dev21_lt d0⟩ (srS 2 5) (rrS 2 5),
      gRecv 176 (by decide) (k0_off25 d0) (gd4096_25_176 d0) (k0_off24 d0) (gd3584_24_176 d0) (rrS 0 3)]
    (ldG 176 (by decide) (k0_off58 d0) (gd4096_58_176 d0) fun v685 => k ⟨v662, v681, v685⟩) := ⟨_, _, fun _ => rfl⟩

theorem part22_eq (d0 : Dev nD) (v381 : BitVec 32) (v437 : BitVec 32) (v567 : BitVec 32) (v569 : BitVec 32) (v622 : BitVec 32) (v624 : BitVec 32) (v681 : BitVec 32) (v685 : Vec F S176x1024 .bf16) :
    ∃ v721, ∃ c3104_i32_502, ∀ k : _ → Prog (TpuEff nD τ sig (Elt F) Λ₀ .tc) α, (k0_part22 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v381 v437 v567 v569 v622 v624 v681 v685) >>= k =
    ldC 176 (by decide) (k0_off59 d0) (gd3584_59_176 d0) fun v688 => ldG 176 (by decide) (k0_off58 d0) (gd4096_58_176 d0) fun v692 => stG 176 (by decide) (k0_off58 d0) (gd4096_58_176 d0) (payAdd v685 v688) fun _ => runsK [gRecv 176 (by decide) (k0_off30 d0) (gd4096_30_176 d0) (k0_off29 d0) (gd3584_29_176 d0) (rrS 1 3),
      gAdd 176 (by decide) (k0_off60 d0) (gd4096_60_176 d0) (k0_off61 d0) (gd3584_61_176 d0),
      gRecv 160 (by decide) (k0_off36 d0) (gd4096_36_160 d0) (k0_off35 d0) (gd3584_35_160 d0) (rrS 2 3)]
    (k ⟨v721, c3104_i32_502⟩) := ⟨_, _, fun _ => rfl⟩

theorem part23_eq (d0 : Dev nD) (v43 : BitVec 1) (v512 : BitVec 32) (v539 : BitVec 32) (v624 : BitVec 32) (v721 : BitVec 32) (c3104_i32_502 : BitVec 32) :
    ∃ v737, ∃ v738, ∀ k : _ → Prog (TpuEff nD τ sig (Elt F) Λ₀ .tc) α, (k0_part23 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v43 v512 v539 v624 v721 c3104_i32_502) >>= k =
    runsK [gAdd 160 (by decide) (k0_off62 d0) (gd4096_62_160 d0) (k0_off63 d0) (gd3584_63_160 d0),
      gRecv 88 (by decide) (k0_off45 d0) (gd4096_45_88 d0) (k0_off44 1056#32) gd3584_44_1056_88 (rrS 0 4),
      gAdd 88 (by decide) (k0_off64 d0) (gd4096_64_88 d0) (k0_off65 1056#32) gd3584_65_1056_88]
    (k ⟨v737, v738⟩) := ⟨_, _, fun _ => rfl⟩

theorem part24_eq (d0 : Dev nD) (v41 : BitVec 1) (v42 : BitVec 1) (v567 : BitVec 32) (v594 : BitVec 32) (v622 : BitVec 32) (v649 : BitVec 32) :
    ∃ v761, ∃ v762, ∃ v785, ∃ v786, ∀ k : _ → Prog (TpuEff nD τ sig (Elt F) Λ₀ .tc) α, (k0_part24 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v41 v42 v567 v594 v622 v649) >>= k =
    runsK [gRecv 88 (by decide) (k0_off50 d0) (gd4096_50_88 d0) (k0_off44 2288#32) gd3584_44_2288_88 (rrS 1 4),
      gAdd 88 (by decide) (k0_off66 d0) (gd4096_66_88 d0) (k0_off65 2288#32) gd3584_65_2288_88]
    (k ⟨v761, v762, v785, v786⟩) := ⟨_, _, _, _, fun _ => rfl⟩

theorem part25_eq (d0 : Dev nD) (v552 : BitVec 32) (v737 : BitVec 32) (v738 : BitVec 32) (v785 : BitVec 32) :
    ∀ k : _ → Prog (TpuEff nD τ sig (Elt F) Λ₀ .tc) α, (k0_part25 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v552 v737 v738 v785) >>= k =
    runsK [gRecv 80 (by decide) (k0_off55 d0) (gd4096_55_80 d0) k0_off54 gd3584_54_80 (rrS 2 4),
      gAdd 80 (by decide) (k0_off67 d0) (gd4096_67_80 d0) k0_off68 gd3584_68_80,
      gRecv 88 (by decide) (k0_off47 d0) (gd4096_47_88 d0) (k0_off46 1056#32) gd3584_46_1056_88 (rrS 0 5),
      gAdd 88 (by decide) (k0_off69 d0) (gd4096_69_88 d0) (k0_off70 1056#32) gd3584_70_1056_88]
    (k ⟨⟩) := fun _ => rfl

theorem part26_eq (d0 : Dev nD) (v2 : BitVec 32) (v41 : BitVec 1) (v42 : BitVec 1) (v43 : BitVec 1) (v737 : BitVec 32) :
    ∃ v827, ∃ v828, ∃ v829, ∃ v833, ∃ v843, ∃ v846, ∃ v850, ∀ k : _ → Prog (TpuEff nD τ sig (Elt F) Λ₀ .tc) α, (k0_part26 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v41 v42 v43 v737) >>= k =
    runsK [gPush 176 (by decide) (k0_off71 d0) (gd4096_71_176 d0) ⟨k0_dev22 d0, k0_dev22_lt d0⟩ (sgS 0 0) (rgS 0 0)]
    (k ⟨v827, v828, v829, v833, v843, v846, v850⟩) := ⟨_, _, _, _, _, _, _, fun _ => rfl⟩

theorem part27_eq (d0 : Dev nD) (v607 : BitVec 32) (v737 : BitVec 32) (v828 : BitVec 32) (v829 : BitVec 32) :
    ∀ k : _ → Prog (TpuEff nD τ sig (Elt F) Λ₀ .tc) α, (k0_part27 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v607 v737 v828 v829) >>= k =
    runsK [gPush 176 (by decide) (k0_off71 d0) (gd4096_71_176 d0) ⟨k0_dev23 d0, k0_dev23_lt d0⟩ (sgS 0 1) (rgS 0 1),
      gPush 176 (by decide) (k0_off71 d0) (gd4096_71_176 d0) ⟨k0_dev24 d0, k0_dev24_lt d0⟩ (sgS 0 3) (rgS 0 3),
      gOut 176 (by decide) (k0_off71 d0) (gd4096_71_176 d0) (outS 0 0),
      gRecv 88 (by decide) (k0_off51 d0) (gd4096_51_88 d0) (k0_off46 2288#32) gd3584_46_2288_88 (rrS 1 5)]
    (k ⟨⟩) := fun _ => rfl

theorem part28_eq (d0 : Dev nD) (v2 : BitVec 32) (v41 : BitVec 1) (v42 : BitVec 1) (v43 : BitVec 1) (v761 : BitVec 32) (v762 : BitVec 32) :
    ∃ v907, ∃ v908, ∃ v909, ∃ v913, ∃ v923, ∃ v926, ∃ v930, ∀ k : _ → Prog (TpuEff nD τ sig (Elt F) Λ₀ .tc) α, (k0_part28 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v41 v42 v43 v761 v762) >>= k =
    runsK [gAdd 88 (by decide) (k0_off72 d0) (gd4096_72_88 d0) (k0_off70 2288#32) gd3584_70_2288_88]
    (k ⟨v907, v908, v909, v913, v923, v926, v930⟩) := ⟨_, _, _, _, _, _, _, fun _ => rfl⟩

theorem part29_eq (d0 : Dev nD) (v761 : BitVec 32) (v907 : BitVec 32) (v908 : BitVec 32) (v909 : BitVec 32) :
    ∀ k : _ → Prog (TpuEff nD τ sig (Elt F) Λ₀ .tc) α, (k0_part29 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v761 v907 v908 v909) >>= k =
    runsK [gPush 176 (by decide) (k0_off73 d0) (gd4096_73_176 d0) ⟨k0_dev25 d0, k0_dev25_lt d0⟩ (sgS 1 0) (rgS 1 0),
      gPush 176 (by decide) (k0_off73 d0) (gd4096_73_176 d0) ⟨k0_dev26 d0, k0_dev26_lt d0⟩ (sgS 1 1) (rgS 1 1),
      gPush 176 (by decide) (k0_off73 d0) (gd4096_73_176 d0) ⟨k0_dev27 d0, k0_dev27_lt d0⟩ (sgS 1 3) (rgS 1 3)]
    (k ⟨⟩) := fun _ => rfl

theorem part30_eq (d0 : Dev nD) (v2 : BitVec 32) (v41 : BitVec 1) (v42 : BitVec 1) (v662 : BitVec 32) (v785 : BitVec 32) (v786 : BitVec 32) :
    ∃ v987, ∃ v988, ∃ v989, ∃ v993, ∃ v999, ∃ v1000, ∀ k : _ → Prog (TpuEff nD τ sig (Elt F) Λ₀ .tc) α, (k0_part30 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v2 v41 v42 v662 v785 v786) >>= k =
    runsK [gOut 176 (by decide) (k0_off73 d0) (gd4096_73_176 d0) (outS 1 0),
      gRecv 80 (by decide) (k0_off57 d0) (gd4096_57_80 d0) k0_off56 gd3584_56_80 (rrS 2 5),
      gAdd 80 (by decide) (k0_off74 d0) (gd4096_74_80 d0) k0_off75 gd3584_75_80]
    (k ⟨v987, v988, v989, v993, v999, v1000⟩) := ⟨_, _, _, _, _, _, fun _ => rfl⟩

theorem part31_eq (d0 : Dev nD) (v41 : BitVec 1) (v42 : BitVec 1) (v43 : BitVec 1) (v785 : BitVec 32) (v987 : BitVec 32) (v988 : BitVec 32) (v999 : BitVec 32) (v1000 : BitVec 32) :
    ∃ v1003, ∃ v1006, ∃ v1010, ∃ c1_i32_703, ∀ k : _ → Prog (TpuEff nD τ sig (Elt F) Λ₀ .tc) α, (k0_part31 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v41 v42 v43 v785 v987 v988 v999 v1000) >>= k =
    runsK [gPush 160 (by decide) (k0_off76 d0) (gd4096_76_160 d0) ⟨k0_dev28 d0, k0_dev28_lt d0⟩ (sgS 2 0) (rgS 2 0),
      gPush 160 (by decide) (k0_off76 d0) (gd4096_76_160 d0) ⟨k0_dev29 d0, k0_dev29_lt d0⟩ (sgS 2 1) (rgS 2 1)]
    (k ⟨v1003, v1006, v1010, c1_i32_703⟩) := ⟨_, _, _, _, fun _ => rfl⟩

theorem part32_eq (d0 : Dev nD) (v785 : BitVec 32) (v827 : BitVec 32) (v828 : BitVec 32) (v833 : BitVec 32) (v989 : BitVec 32) (c1_i32_703 : BitVec 32) :
    ∀ k : _ → Prog (TpuEff nD τ sig (Elt F) Λ₀ .tc) α, (k0_part32 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v785 v827 v828 v833 v989 c1_i32_703) >>= k =
    runsK [gPush 160 (by decide) (k0_off76 d0) (gd4096_76_160 d0) ⟨k0_dev30 d0, k0_dev30_lt d0⟩ (sgS 2 3) (rgS 2 3),
      gOut 160 (by decide) (k0_off76 d0) (gd4096_76_160 d0) (outS 2 0),
      gPull 176 (by decide) (k0_off71 d0) (gd4096_71_176 d0) (rgS 0 0),
      gPush 176 (by decide) (k0_off77 d0) (gd4096_77_176 d0) ⟨k0_dev31 d0, k0_dev31_lt d0⟩ (sgS 0 2) (rgS 0 2)]
    (k ⟨⟩) := fun _ => rfl

theorem part33_eq (d0 : Dev nD) (v829 : BitVec 32) (v833 : BitVec 32) (v907 : BitVec 32) (v908 : BitVec 32) (v913 : BitVec 32) :
    ∀ k : _ → Prog (TpuEff nD τ sig (Elt F) Λ₀ .tc) α, (k0_part33 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v829 v833 v907 v908 v913) >>= k =
    runsK [gPush 176 (by decide) (k0_off77 d0) (gd4096_77_176 d0) ⟨k0_dev32 d0, k0_dev32_lt d0⟩ (sgS 0 4) (rgS 0 4),
      gOut 176 (by decide) (k0_off77 d0) (gd4096_77_176 d0) (outS 0 1),
      gPull 176 (by decide) (k0_off73 d0) (gd4096_73_176 d0) (rgS 1 0)]
    (k ⟨⟩) := fun _ => rfl

theorem part34_eq (d0 : Dev nD) (v909 : BitVec 32) (v913 : BitVec 32) (v987 : BitVec 32) (v988 : BitVec 32) (v993 : BitVec 32) :
    ∀ k : _ → Prog (TpuEff nD τ sig (Elt F) Λ₀ .tc) α, (k0_part34 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v909 v913 v987 v988 v993) >>= k =
    runsK [gPush 176 (by decide) (k0_off78 d0) (gd4096_78_176 d0) ⟨k0_dev33 d0, k0_dev33_lt d0⟩ (sgS 1 2) (rgS 1 2),
      gPush 176 (by decide) (k0_off78 d0) (gd4096_78_176 d0) ⟨k0_dev34 d0, k0_dev34_lt d0⟩ (sgS 1 4) (rgS 1 4),
      gOut 176 (by decide) (k0_off78 d0) (gd4096_78_176 d0) (outS 1 1),
      gPull 160 (by decide) (k0_off76 d0) (gd4096_76_160 d0) (rgS 2 0)]
    (k ⟨⟩) := fun _ => rfl

theorem part35_eq (d0 : Dev nD) (v828 : BitVec 32) (v829 : BitVec 32) (v846 : BitVec 32) (v989 : BitVec 32) (v993 : BitVec 32) :
    ∀ k : _ → Prog (TpuEff nD τ sig (Elt F) Λ₀ .tc) α, (k0_part35 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v828 v829 v846 v989 v993) >>= k =
    runsK [gPush 160 (by decide) (k0_off79 d0) (gd4096_79_160 d0) ⟨k0_dev35 d0, k0_dev35_lt d0⟩ (sgS 2 2) (rgS 2 2),
      gPush 160 (by decide) (k0_off79 d0) (gd4096_79_160 d0) ⟨k0_dev36 d0, k0_dev36_lt d0⟩ (sgS 2 4) (rgS 2 4),
      gOut 160 (by decide) (k0_off79 d0) (gd4096_79_160 d0) (outS 2 1),
      gPull 176 (by decide) (k0_off71 d0) (gd4096_71_176 d0) (rgS 0 1)]
    (k ⟨⟩) := fun _ => rfl

theorem part36_eq (d0 : Dev nD) (v846 : BitVec 32) (v908 : BitVec 32) (v909 : BitVec 32) (v926 : BitVec 32) :
    ∀ k : _ → Prog (TpuEff nD τ sig (Elt F) Λ₀ .tc) α, (k0_part36 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v846 v908 v909 v926) >>= k =
    runsK [gPush 176 (by decide) (k0_off80 d0) (gd4096_80_176 d0) ⟨k0_dev37 d0, k0_dev37_lt d0⟩ (sgS 0 5) (rgS 0 5),
      gOut 176 (by decide) (k0_off80 d0) (gd4096_80_176 d0) (outS 0 2),
      gPull 176 (by decide) (k0_off73 d0) (gd4096_73_176 d0) (rgS 1 1),
      gPush 176 (by decide) (k0_off81 d0) (gd4096_81_176 d0) ⟨k0_dev38 d0, k0_dev38_lt d0⟩ (sgS 1 5) (rgS 1 5)]
    (k ⟨⟩) := fun _ => rfl

theorem part37_eq (d0 : Dev nD) (v828 : BitVec 32) (v988 : BitVec 32) (v989 : BitVec 32) (v1006 : BitVec 32) :
    ∀ k : _ → Prog (TpuEff nD τ sig (Elt F) Λ₀ .tc) α, (k0_part37 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v828 v988 v989 v1006) >>= k =
    runsK [gOut 176 (by decide) (k0_off81 d0) (gd4096_81_176 d0) (outS 1 2),
      gPull 160 (by decide) (k0_off76 d0) (gd4096_76_160 d0) (rgS 2 1),
      gPush 160 (by decide) (k0_off82 d0) (gd4096_82_160 d0) ⟨k0_dev39 d0, k0_dev39_lt d0⟩ (sgS 2 5) (rgS 2 5),
      gOut 160 (by decide) (k0_off82 d0) (gd4096_82_160 d0) (outS 2 2)]
    (k ⟨⟩) := fun _ => rfl

theorem part38_eq (d0 : Dev nD) (v829 : BitVec 32) (v850 : BitVec 32) (v908 : BitVec 32) (v909 : BitVec 32) (v930 : BitVec 32) :
    ∀ k : _ → Prog (TpuEff nD τ sig (Elt F) Λ₀ .tc) α, (k0_part38 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v829 v850 v908 v909 v930) >>= k =
    runsK [gPull 176 (by decide) (k0_off77 d0) (gd4096_77_176 d0) (rgS 0 2),
      gPush 176 (by decide) (k0_off83 d0) (gd4096_83_176 d0) ⟨k0_dev40 d0, k0_dev40_lt d0⟩ (sgS 0 6) (rgS 0 6),
      gOut 176 (by decide) (k0_off83 d0) (gd4096_83_176 d0) (outS 0 3),
      gPull 176 (by decide) (k0_off78 d0) (gd4096_78_176 d0) (rgS 1 2)]
    (k ⟨⟩) := fun _ => rfl

theorem part39_eq (d0 : Dev nD) (v930 : BitVec 32) (v988 : BitVec 32) (v989 : BitVec 32) (v1010 : BitVec 32) :
    ∀ k : _ → Prog (TpuEff nD τ sig (Elt F) Λ₀ .tc) α, (k0_part39 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v930 v988 v989 v1010) >>= k =
    runsK [gPush 176 (by decide) (k0_off84 d0) (gd4096_84_176 d0) ⟨k0_dev41 d0, k0_dev41_lt d0⟩ (sgS 1 6) (rgS 1 6),
      gOut 176 (by decide) (k0_off84 d0) (gd4096_84_176 d0) (outS 1 3),
      gPull 160 (by decide) (k0_off79 d0) (gd4096_79_160 d0) (rgS 2 2),
      gPush 160 (by decide) (k0_off85 d0) (gd4096_85_160 d0) ⟨k0_dev42 d0, k0_dev42_lt d0⟩ (sgS 2 6) (rgS 2 6)]
    (k ⟨⟩) := fun _ => rfl

theorem part40_eq (d0 : Dev nD) (v829 : BitVec 32) :
    ∀ k : _ → Prog (TpuEff nD τ sig (Elt F) Λ₀ .tc) α, (k0_part40 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v829) >>= k =
    runsK [gOut 160 (by decide) (k0_off85 d0) (gd4096_85_160 d0) (outS 2 3),
      gPull 176 (by decide) (k0_off71 d0) (gd4096_71_176 d0) (rgS 0 3),
      gPull 176 (by decide) (k0_off77 d0) (gd4096_77_176 d0) (rgS 0 4),
      gPull 176 (by decide) (k0_off80 d0) (gd4096_80_176 d0) (rgS 0 5)]
    (k ⟨⟩) := fun _ => rfl

theorem part41_eq (d0 : Dev nD) (v843 : BitVec 32) (v909 : BitVec 32) :
    ∀ k : _ → Prog (TpuEff nD τ sig (Elt F) Λ₀ .tc) α, (k0_part41 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v843 v909) >>= k =
    runsK [gPull 176 (by decide) (k0_off83 d0) (gd4096_83_176 d0) (rgS 0 6),
      gOut 704 (by decide) (k0_off86 d0) (gd4096_86_704 d0) (outS 0 4),
      gPull 176 (by decide) (k0_off73 d0) (gd4096_73_176 d0) (rgS 1 3),
      gPull 176 (by decide) (k0_off78 d0) (gd4096_78_176 d0) (rgS 1 4)]
    (k ⟨⟩) := fun _ => rfl

theorem part42_eq (d0 : Dev nD) (v909 : BitVec 32) (v923 : BitVec 32) (v989 : BitVec 32) :
    ∀ k : _ → Prog (TpuEff nD τ sig (Elt F) Λ₀ .tc) α, (k0_part42 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v909 v923 v989) >>= k =
    runsK [gPull 176 (by decide) (k0_off81 d0) (gd4096_81_176 d0) (rgS 1 5),
      gPull 176 (by decide) (k0_off84 d0) (gd4096_84_176 d0) (rgS 1 6),
      gOut 704 (by decide) (k0_off87 d0) (gd4096_87_704 d0) (outS 1 4),
      gPull 160 (by decide) (k0_off76 d0) (gd4096_76_160 d0) (rgS 2 3),
      gPull 160 (by decide) (k0_off79 d0) (gd4096_79_160 d0) (rgS 2 4)]
    (k ⟨⟩) := fun _ => rfl

theorem part43_eq (d0 : Dev nD) (v989 : BitVec 32) (v1003 : BitVec 32) :
    ∀ k : _ → Prog (TpuEff nD τ sig (Elt F) Λ₀ .tc) α, (k0_part43 (F := F) xM (Memref.isWhole_whole _) oM (Memref.isWhole_whole _) gM (Memref.isWhole_whole _) vM (Memref.isWhole_whole _) cM (Memref.isWhole_whole _) cc0_scratch3 cc0_scratch4 cc0_scratch5 cc0_scratch6 d0 v989 v1003) >>= k =
    runsK [gPull 160 (by decide) (k0_off82 d0) (gd4096_82_160 d0) (rgS 2 5),
      gPull 160 (by decide) (k0_off85 d0) (gd4096_85_160 d0) (rgS 2 6),
      gOut 640 (by decide) (k0_off88 d0) (gd4096_88_640 d0) (outS 2 4),
      gSent 352 (by decide) (k0_off3 d0) (gd4096_3_352 d0) (k0_off2 d0 0#32 2#32) (gd3584_2_0_2_352 d0) (srS 0 0)]
    (k ⟨⟩) := fun _ => rfl

theorem part44_eq (d0 : Dev nD) :
    ∀ k : _ → Prog (TpuEff nD τ sig (Elt F) Λ₀ .tc) α, (k0_part44 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gSent 352 (by decide) (k0_off6 d0) (gd4096_6_352 d0) (k0_off5 d0 0#32 2#32) (gd3584_5_0_2_352 d0) (srS 0 1),
      gSent 352 (by decide) (k0_off8 d0) (gd4096_8_352 d0) (k0_off2 d0 1232#32 4#32) (gd3584_2_1232_4_352 d0) (srS 1 0),
      gSent 352 (by decide) (k0_off10 d0) (gd4096_10_352 d0) (k0_off5 d0 1232#32 4#32) (gd3584_5_1232_4_352 d0) (srS 1 1),
      gSent 320 (by decide) (k0_off13 d0) (gd4096_13_320 d0) (k0_off12 d0) (gd3584_12_320 d0) (srS 2 0),
      gSent 320 (by decide) (k0_off16 d0) (gd4096_16_320 d0) (k0_off15 d0) (gd3584_15_320 d0) (srS 2 1)]
    (k ⟨⟩) := fun _ => rfl

theorem part45_eq (d0 : Dev nD) :
    ∀ k : _ → Prog (TpuEff nD τ sig (Elt F) Λ₀ .tc) α, (k0_part45 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gSent 176 (by decide) (k0_off23 d0) (gd4096_23_176 d0) (k0_off22 d0) (gd3584_22_176 d0) (srS 0 2),
      gSent 176 (by decide) (k0_off25 d0) (gd4096_25_176 d0) (k0_off24 d0) (gd3584_24_176 d0) (srS 0 3),
      gSent 176 (by decide) (k0_off28 d0) (gd4096_28_176 d0) (k0_off27 d0) (gd3584_27_176 d0) (srS 1 2),
      gSent 176 (by decide) (k0_off30 d0) (gd4096_30_176 d0) (k0_off29 d0) (gd3584_29_176 d0) (srS 1 3),
      gSent 160 (by decide) (k0_off34 d0) (gd4096_34_160 d0) (k0_off33 d0) (gd3584_33_160 d0) (srS 2 2)]
    (k ⟨⟩) := fun _ => rfl

theorem part46_eq (d0 : Dev nD) :
    ∀ k : _ → Prog (TpuEff nD τ sig (Elt F) Λ₀ .tc) α, (k0_part46 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gSent 160 (by decide) (k0_off36 d0) (gd4096_36_160 d0) (k0_off35 d0) (gd3584_35_160 d0) (srS 2 3),
      gSent 88 (by decide) (k0_off45 d0) (gd4096_45_88 d0) (k0_off44 1056#32) gd3584_44_1056_88 (srS 0 4),
      gSent 88 (by decide) (k0_off47 d0) (gd4096_47_88 d0) (k0_off46 1056#32) gd3584_46_1056_88 (srS 0 5),
      gSent 88 (by decide) (k0_off50 d0) (gd4096_50_88 d0) (k0_off44 2288#32) gd3584_44_2288_88 (srS 1 4),
      gSent 88 (by decide) (k0_off51 d0) (gd4096_51_88 d0) (k0_off46 2288#32) gd3584_46_2288_88 (srS 1 5)]
    (k ⟨⟩) := fun _ => rfl

theorem part47_eq (d0 : Dev nD) :
    ∀ k : _ → Prog (TpuEff nD τ sig (Elt F) Λ₀ .tc) α, (k0_part47 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gSent 80 (by decide) (k0_off55 d0) (gd4096_55_80 d0) k0_off54 gd3584_54_80 (srS 2 4),
      gSent 80 (by decide) (k0_off57 d0) (gd4096_57_80 d0) k0_off56 gd3584_56_80 (srS 2 5),
      gPull 176 (by decide) (k0_off71 d0) (gd4096_71_176 d0) (sgS 0 0),
      gPull 176 (by decide) (k0_off71 d0) (gd4096_71_176 d0) (sgS 0 1),
      gPull 176 (by decide) (k0_off71 d0) (gd4096_71_176 d0) (sgS 0 3)]
    (k ⟨⟩) := fun _ => rfl

theorem part48_eq (d0 : Dev nD) :
    ∀ k : _ → Prog (TpuEff nD τ sig (Elt F) Λ₀ .tc) α, (k0_part48 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gPull 176 (by decide) (k0_off73 d0) (gd4096_73_176 d0) (sgS 1 0),
      gPull 176 (by decide) (k0_off73 d0) (gd4096_73_176 d0) (sgS 1 1),
      gPull 176 (by decide) (k0_off73 d0) (gd4096_73_176 d0) (sgS 1 3),
      gPull 160 (by decide) (k0_off76 d0) (gd4096_76_160 d0) (sgS 2 0),
      gPull 160 (by decide) (k0_off76 d0) (gd4096_76_160 d0) (sgS 2 1)]
    (k ⟨⟩) := fun _ => rfl

theorem part49_eq (d0 : Dev nD) :
    ∀ k : _ → Prog (TpuEff nD τ sig (Elt F) Λ₀ .tc) α, (k0_part49 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gPull 160 (by decide) (k0_off76 d0) (gd4096_76_160 d0) (sgS 2 3),
      gPull 176 (by decide) (k0_off77 d0) (gd4096_77_176 d0) (sgS 0 2),
      gPull 176 (by decide) (k0_off77 d0) (gd4096_77_176 d0) (sgS 0 4),
      gPull 176 (by decide) (k0_off78 d0) (gd4096_78_176 d0) (sgS 1 2),
      gPull 176 (by decide) (k0_off78 d0) (gd4096_78_176 d0) (sgS 1 4)]
    (k ⟨⟩) := fun _ => rfl

theorem part50_eq (d0 : Dev nD) :
    ∀ k : _ → Prog (TpuEff nD τ sig (Elt F) Λ₀ .tc) α, (k0_part50 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gPull 160 (by decide) (k0_off79 d0) (gd4096_79_160 d0) (sgS 2 2),
      gPull 160 (by decide) (k0_off79 d0) (gd4096_79_160 d0) (sgS 2 4),
      gPull 176 (by decide) (k0_off80 d0) (gd4096_80_176 d0) (sgS 0 5),
      gPull 176 (by decide) (k0_off81 d0) (gd4096_81_176 d0) (sgS 1 5),
      gPull 160 (by decide) (k0_off82 d0) (gd4096_82_160 d0) (sgS 2 5)]
    (k ⟨⟩) := fun _ => rfl

theorem part51_eq (d0 : Dev nD) :
    ∀ k : _ → Prog (TpuEff nD τ sig (Elt F) Λ₀ .tc) α, (k0_part51 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gPull 176 (by decide) (k0_off83 d0) (gd4096_83_176 d0) (sgS 0 6),
      gPull 176 (by decide) (k0_off84 d0) (gd4096_84_176 d0) (sgS 1 6),
      gPull 160 (by decide) (k0_off85 d0) (gd4096_85_160 d0) (sgS 2 6),
      gOutWait 176 (by decide) (k0_off71 d0) (gd4096_71_176 d0) (outS 0 0),
      gOutWait 176 (by decide) (k0_off73 d0) (gd4096_73_176 d0) (outS 1 0),
      gOutWait 160 (by decide) (k0_off76 d0) (gd4096_76_160 d0) (outS 2 0)]
    (k ⟨⟩) := fun _ => rfl

theorem part52_eq (d0 : Dev nD) :
    ∀ k : _ → Prog (TpuEff nD τ sig (Elt F) Λ₀ .tc) α, (k0_part52 (F := F) xM (Memref.isWhole_whole _) oM (Memref.isWhole_whole _) gM (Memref.isWhole_whole _) vM (Memref.isWhole_whole _) cM (Memref.isWhole_whole _) cc0_scratch3 cc0_scratch4 cc0_scratch5 cc0_scratch6 d0) >>= k =
    runsK [gOutWait 176 (by decide) (k0_off77 d0) (gd4096_77_176 d0) (outS 0 1),
      gOutWait 176 (by decide) (k0_off78 d0) (gd4096_78_176 d0) (outS 1 1),
      gOutWait 160 (by decide) (k0_off79 d0) (gd4096_79_160 d0) (outS 2 1),
      gOutWait 176 (by decide) (k0_off80 d0) (gd4096_80_176 d0) (outS 0 2),
      gOutWait 176 (by decide) (k0_off81 d0) (gd4096_81_176 d0) (outS 1 2),
      gOutWait 160 (by decide) (k0_off82 d0) (gd4096_82_160 d0) (outS 2 2),
      gOutWait 176 (by decide) (k0_off83 d0) (gd4096_83_176 d0) (outS 0 3)]
    (k ⟨⟩) := fun _ => rfl

end Cert.Butterfly
-- ==== Proof.Whole.lean ====
module

public import proofs.«01_k».proof.Proof.Raw

/-!
The printed steps are the tables'.
-/

@[expose] public section

noncomputable section

namespace Cert.Butterfly

open Cert.KernelIdeal Cert.KernelIdeal.Gen
open Idealize.ShloMosaic Idealize.ShloMosaic.TcCoe
open Idealize.SL.Sem

variable {F : FTy → Type} [FloatOps F]

set_option maxRecDepth 100000

def rawSteps (d0 : Dev nD) : List (PT F) := [
  gIn 704 (by decide) ![0, 0] (by decide) (inS 0 0),
  gIn 704 (by decide) ![704, 0] (by decide) (inS 0 1),
  gIn 704 (by decide) ![1408, 0] (by decide) (inS 1 0),
  gIn 704 (by decide) ![2112, 0] (by decide) (inS 1 1),
  gIn 640 (by decide) ![2816, 0] (by decide) (inS 2 0),
  gIn 640 (by decide) ![3456, 0] (by decide) (inS 2 1),
  semSignalWord (⟨k0_dev1 d0, k0_dev1_lt d0⟩ : Dev nD) barS 1#32,
  semSignalWord (⟨k0_dev2 d0, k0_dev2_lt d0⟩ : Dev nD) barS 1#32,
  semSignalWord (⟨k0_dev3 d0, k0_dev3_lt d0⟩ : Dev nD) barS 1#32,
  semWaitWord barS 3#32,
  gInWait 704 (by decide) ![0, 0] (by decide) (inS 0 0),
  gInWait 704 (by decide) ![704, 0] (by decide) (inS 0 1),
  gCopy 352 (by decide) (k0_off1 d0) (gd4096_1_352 d0),
  gSend 352 (by decide) (k0_off3 d0) (gd4096_3_352 d0) (k0_off2 d0 0#32 2#32) (gd3584_2_0_2_352 d0) ⟨k0_dev4 d0, k0_dev4_lt d0⟩ (srS 0 0) (rrS 0 0),
  gCopy 352 (by decide) (k0_off4 d0) (gd4096_4_352 d0),
  gSend 352 (by decide) (k0_off6 d0) (gd4096_6_352 d0) (k0_off5 d0 0#32 2#32) (gd3584_5_0_2_352 d0) ⟨k0_dev5 d0, k0_dev5_lt d0⟩ (srS 0 1) (rrS 0 1),
  gInWait 704 (by decide) ![1408, 0] (by decide) (inS 1 0),
  gInWait 704 (by decide) ![2112, 0] (by decide) (inS 1 1),
  gCopy 352 (by decide) (k0_off7 d0) (gd4096_7_352 d0),
  gSend 352 (by decide) (k0_off8 d0) (gd4096_8_352 d0) (k0_off2 d0 1232#32 4#32) (gd3584_2_1232_4_352 d0) ⟨k0_dev6 d0, k0_dev6_lt d0⟩ (srS 1 0) (rrS 1 0),
  gCopy 352 (by decide) (k0_off9 d0) (gd4096_9_352 d0),
  gSend 352 (by decide) (k0_off10 d0) (gd4096_10_352 d0) (k0_off5 d0 1232#32 4#32) (gd3584_5_1232_4_352 d0) ⟨k0_dev7 d0, k0_dev7_lt d0⟩ (srS 1 1) (rrS 1 1),
  gInWait 640 (by decide) ![2816, 0] (by decide) (inS 2 0),
  gInWait 640 (by decide) ![3456, 0] (by decide) (inS 2 1),
  gCopy 320 (by decide) (k0_off11 d0) (gd4096_11_320 d0),
  gSend 320 (by decide) (k0_off13 d0) (gd4096_13_320 d0) (k0_off12 d0) (gd3584_12_320 d0) ⟨k0_dev8 d0, k0_dev8_lt d0⟩ (srS 2 0) (rrS 2 0),
  gCopy 320 (by decide) (k0_off14 d0) (gd4096_14_320 d0),
  gSend 320 (by decide) (k0_off16 d0) (gd4096_16_320 d0) (k0_off15 d0) (gd3584_15_320 d0) ⟨k0_dev9 d0, k0_dev9_lt d0⟩ (srS 2 1) (rrS 2 1),
  gCopy 704 (by decide) (k0_off17 d0) (gd4096_17_704 d0),
  gCopy 704 (by decide) (k0_off18 d0) (gd4096_18_704 d0),
  gCopy 640 (by decide) (k0_off19 d0) (gd4096_19_640 d0),
  gRecv 352 (by decide) (k0_off3 d0) (gd4096_3_352 d0) (k0_off2 d0 0#32 2#32) (gd3584_2_0_2_352 d0) (rrS 0 0),
  gAdd 352 (by decide) (k0_off20 d0) (gd4096_20_352 d0) (k0_off21 d0 0#32 2#32) (gd3584_21_0_2_352 d0),
  gSend 176 (by decide) (k0_off23 d0) (gd4096_23_176 d0) (k0_off22 d0) (gd3584_22_176 d0) ⟨k0_dev10 d0, k0_dev10_lt d0⟩ (srS 0 2) (rrS 0 2),
  gSend 176 (by decide) (k0_off25 d0) (gd4096_25_176 d0) (k0_off24 d0) (gd3584_24_176 d0) ⟨k0_dev11 d0, k0_dev11_lt d0⟩ (srS 0 3) (rrS 0 3),
  gRecv 352 (by decide) (k0_off8 d0) (gd4096_8_352 d0) (k0_off2 d0 1232#32 4#32) (gd3584_2_1232_4_352 d0) (rrS 1 0),
  gAdd 352 (by decide) (k0_off26 d0) (gd4096_26_352 d0) (k0_off21 d0 1232#32 4#32) (gd3584_21_1232_4_352 d0),
  gSend 176 (by decide) (k0_off28 d0) (gd4096_28_176 d0) (k0_off27 d0) (gd3584_27_176 d0) ⟨k0_dev12 d0, k0_dev12_lt d0⟩ (srS 1 2) (rrS 1 2),
  gSend 176 (by decide) (k0_off30 d0) (gd4096_30_176 d0) (k0_off29 d0) (gd3584_29_176 d0) ⟨k0_dev13 d0, k0_dev13_lt d0⟩ (srS 1 3) (rrS 1 3),
  gRecv 320 (by decide) (k0_off13 d0) (gd4096_13_320 d0) (k0_off12 d0) (gd3584_12_320 d0) (rrS 2 0),
  gAdd 320 (by decide) (k0_off31 d0) (gd4096_31_320 d0) (k0_off32 d0) (gd3584_32_320 d0),
  gSend 160 (by decide) (k0_off34 d0) (gd4096_34_160 d0) (k0_off33 d0) (gd3584_33_160 d0) ⟨k0_dev14 d0, k0_dev14_lt d0⟩ (srS 2 2) (rrS 2 2),
  gSend 160 (by decide) (k0_off36 d0) (gd4096_36_160 d0) (k0_off35 d0) (gd3584_35_160 d0) ⟨k0_dev15 d0, k0_dev15_lt d0⟩ (srS 2 3) (rrS 2 3),
  gRecv 352 (by decide) (k0_off6 d0) (gd4096_6_352 d0) (k0_off5 d0 0#32 2#32) (gd3584_5_0_2_352 d0) (rrS 0 1),
  gAdd 352 (by decide) (k0_off37 d0) (gd4096_37_352 d0) (k0_off38 d0 0#32 2#32) (gd3584_38_0_2_352 d0),
  gRecv 352 (by decide) (k0_off10 d0) (gd4096_10_352 d0) (k0_off5 d0 1232#32 4#32) (gd3584_5_1232_4_352 d0) (rrS 1 1),
  gAdd 352 (by decide) (k0_off39 d0) (gd4096_39_352 d0) (k0_off38 d0 1232#32 4#32) (gd3584_38_1232_4_352 d0),
  gRecv 320 (by decide) (k0_off16 d0) (gd4096_16_320 d0) (k0_off15 d0) (gd3584_15_320 d0) (rrS 2 1),
  gAdd 320 (by decide) (k0_off40 d0) (gd4096_40_320 d0) (k0_off41 d0) (gd3584_41_320 d0),
  gRecv 176 (by decide) (k0_off23 d0) (gd4096_23_176 d0) (k0_off22 d0) (gd3584_22_176 d0) (rrS 0 2),
  gAdd 176 (by decide) (k0_off42 d0) (gd4096_42_176 d0) (k0_off43 d0) (gd3584_43_176 d0),
  gSend 88 (by decide) (k0_off45 d0) (gd4096_45_88 d0) (k0_off44 1056#32) gd3584_44_1056_88 ⟨k0_dev16 d0, k0_dev16_lt d0⟩ (srS 0 4) (rrS 0 4),
  gSend 88 (by decide) (k0_off47 d0) (gd4096_47_88 d0) (k0_off46 1056#32) gd3584_46_1056_88 ⟨k0_dev17 d0, k0_dev17_lt d0⟩ (srS 0 5) (rrS 0 5),
  gRecv 176 (by decide) (k0_off28 d0) (gd4096_28_176 d0) (k0_off27 d0) (gd3584_27_176 d0) (rrS 1 2),
  gAdd 176 (by decide) (k0_off48 d0) (gd4096_48_176 d0) (k0_off49 d0) (gd3584_49_176 d0),
  gSend 88 (by decide) (k0_off50 d0) (gd4096_50_88 d0) (k0_off44 2288#32) gd3584_44_2288_88 ⟨k0_dev18 d0, k0_dev18_lt d0⟩ (srS 1 4) (rrS 1 4),
  gSend 88 (by decide) (k0_off51 d0) (gd4096_51_88 d0) (k0_off46 2288#32) gd3584_46_2288_88 ⟨k0_dev19 d0, k0_dev19_lt d0⟩ (srS 1 5) (rrS 1 5),
  gRecv 160 (by decide) (k0_off34 d0) (gd4096_34_160 d0) (k0_off33 d0) (gd3584_33_160 d0) (rrS 2 2),
  gAdd 160 (by decide) (k0_off52 d0) (gd4096_52_160 d0) (k0_off53 d0) (gd3584_53_160 d0),
  gSend 80 (by decide) (k0_off55 d0) (gd4096_55_80 d0) k0_off54 gd3584_54_80 ⟨k0_dev20 d0, k0_dev20_lt d0⟩ (srS 2 4) (rrS 2 4),
  gSend 80 (by decide) (k0_off57 d0) (gd4096_57_80 d0) k0_off56 gd3584_56_80 ⟨k0_dev21 d0, k0_dev21_lt d0⟩ (srS 2 5) (rrS 2 5),
  gRecv 176 (by decide) (k0_off25 d0) (gd4096_25_176 d0) (k0_off24 d0) (gd3584_24_176 d0) (rrS 0 3),
  gAdd 176 (by decide) (k0_off58 d0) (gd4096_58_176 d0) (k0_off59 d0) (gd3584_59_176 d0),
  gRecv 176 (by decide) (k0_off30 d0) (gd4096_30_176 d0) (k0_off29 d0) (gd3584_29_176 d0) (rrS 1 3),
  gAdd 176 (by decide) (k0_off60 d0) (gd4096_60_176 d0) (k0_off61 d0) (gd3584_61_176 d0),
  gRecv 160 (by decide) (k0_off36 d0) (gd4096_36_160 d0) (k0_off35 d0) (gd3584_35_160 d0) (rrS 2 3),
  gAdd 160 (by decide) (k0_off62 d0) (gd4096_62_160 d0) (k0_off63 d0) (gd3584_63_160 d0),
  gRecv 88 (by decide) (k0_off45 d0) (gd4096_45_88 d0) (k0_off44 1056#32) gd3584_44_1056_88 (rrS 0 4),
  gAdd 88 (by decide) (k0_off64 d0) (gd4096_64_88 d0) (k0_off65 1056#32) gd3584_65_1056_88,
  gRecv 88 (by decide) (k0_off50 d0) (gd4096_50_88 d0) (k0_off44 2288#32) gd3584_44_2288_88 (rrS 1 4),
  gAdd 88 (by decide) (k0_off66 d0) (gd4096_66_88 d0) (k0_off65 2288#32) gd3584_65_2288_88,
  gRecv 80 (by decide) (k0_off55 d0) (gd4096_55_80 d0) k0_off54 gd3584_54_80 (rrS 2 4),
  gAdd 80 (by decide) (k0_off67 d0) (gd4096_67_80 d0) k0_off68 gd3584_68_80,
  gRecv 88 (by decide) (k0_off47 d0) (gd4096_47_88 d0) (k0_off46 1056#32) gd3584_46_1056_88 (rrS 0 5),
  gAdd 88 (by decide) (k0_off69 d0) (gd4096_69_88 d0) (k0_off70 1056#32) gd3584_70_1056_88,
  gPush 176 (by decide) (k0_off71 d0) (gd4096_71_176 d0) ⟨k0_dev22 d0, k0_dev22_lt d0⟩ (sgS 0 0) (rgS 0 0),
  gPush 176 (by decide) (k0_off71 d0) (gd4096_71_176 d0) ⟨k0_dev23 d0, k0_dev23_lt d0⟩ (sgS 0 1) (rgS 0 1),
  gPush 176 (by decide) (k0_off71 d0) (gd4096_71_176 d0) ⟨k0_dev24 d0, k0_dev24_lt d0⟩ (sgS 0 3) (rgS 0 3),
  gOut 176 (by decide) (k0_off71 d0) (gd4096_71_176 d0) (outS 0 0),
  gRecv 88 (by decide) (k0_off51 d0) (gd4096_51_88 d0) (k0_off46 2288#32) gd3584_46_2288_88 (rrS 1 5),
  gAdd 88 (by decide) (k0_off72 d0) (gd4096_72_88 d0) (k0_off70 2288#32) gd3584_70_2288_88,
  gPush 176 (by decide) (k0_off73 d0) (gd4096_73_176 d0) ⟨k0_dev25 d0, k0_dev25_lt d0⟩ (sgS 1 0) (rgS 1 0),
  gPush 176 (by decide) (k0_off73 d0) (gd4096_73_176 d0) ⟨k0_dev26 d0, k0_dev26_lt d0⟩ (sgS 1 1) (rgS 1 1),
  gPush 176 (by decide) (k0_off73 d0) (gd4096_73_176 d0) ⟨k0_dev27 d0, k0_dev27_lt d0⟩ (sgS 1 3) (rgS 1 3),
  gOut 176 (by decide) (k0_off73 d0) (gd4096_73_176 d0) (outS 1 0),
  gRecv 80 (by decide) (k0_off57 d0) (gd4096_57_80 d0) k0_off56 gd3584_56_80 (rrS 2 5),
  gAdd 80 (by decide) (k0_off74 d0) (gd4096_74_80 d0) k0_off75 gd3584_75_80,
  gPush 160 (by decide) (k0_off76 d0) (gd4096_76_160 d0) ⟨k0_dev28 d0, k0_dev28_lt d0⟩ (sgS 2 0) (rgS 2 0),
  gPush 160 (by decide) (k0_off76 d0) (gd4096_76_160 d0) ⟨k0_dev29 d0, k0_dev29_lt d0⟩ (sgS 2 1) (rgS 2 1),
  gPush 160 (by decide) (k0_off76 d0) (gd4096_76_160 d0) ⟨k0_dev30 d0, k0_dev30_lt d0⟩ (sgS 2 3) (rgS 2 3),
  gOut 160 (by decide) (k0_off76 d0) (gd4096_76_160 d0) (outS 2 0),
  gPull 176 (by decide) (k0_off71 d0) (gd4096_71_176 d0) (rgS 0 0),
  gPush 176 (by decide) (k0_off77 d0) (gd4096_77_176 d0) ⟨k0_dev31 d0, k0_dev31_lt d0⟩ (sgS 0 2) (rgS 0 2),
  gPush 176 (by decide) (k0_off77 d0) (gd4096_77_176 d0) ⟨k0_dev32 d0, k0_dev32_lt d0⟩ (sgS 0 4) (rgS 0 4),
  gOut 176 (by decide) (k0_off77 d0) (gd4096_77_176 d0) (outS 0 1),
  gPull 176 (by decide) (k0_off73 d0) (gd4096_73_176 d0) (rgS 1 0),
  gPush 176 (by decide) (k0_off78 d0) (gd4096_78_176 d0) ⟨k0_dev33 d0, k0_dev33_lt d0⟩ (sgS 1 2) (rgS 1 2),
  gPush 176 (by decide) (k0_off78 d0) (gd4096_78_176 d0) ⟨k0_dev34 d0, k0_dev34_lt d0⟩ (sgS 1 4) (rgS 1 4),
  gOut 176 (by decide) (k0_off78 d0) (gd4096_78_176 d0) (outS 1 1),
  gPull 160 (by decide) (k0_off76 d0) (gd4096_76_160 d0) (rgS 2 0),
  gPush 160 (by decide) (k0_off79 d0) (gd4096_79_160 d0) ⟨k0_dev35 d0, k0_dev35_lt d0⟩ (sgS 2 2) (rgS 2 2),
  gPush 160 (by decide) (k0_off79 d0) (gd4096_79_160 d0) ⟨k0_dev36 d0, k0_dev36_lt d0⟩ (sgS 2 4) (rgS 2 4),
  gOut 160 (by decide) (k0_off79 d0) (gd4096_79_160 d0) (outS 2 1),
  gPull 176 (by decide) (k0_off71 d0) (gd4096_71_176 d0) (rgS 0 1),
  gPush 176 (by decide) (k0_off80 d0) (gd4096_80_176 d0) ⟨k0_dev37 d0, k0_dev37_lt d0⟩ (sgS 0 5) (rgS 0 5),
  gOut 176 (by decide) (k0_off80 d0) (gd4096_80_176 d0) (outS 0 2),
  gPull 176 (by decide) (k0_off73 d0) (gd4096_73_176 d0) (rgS 1 1),
  gPush 176 (by decide) (k0_off81 d0) (gd4096_81_176 d0) ⟨k0_dev38 d0, k0_dev38_lt d0⟩ (sgS 1 5) (rgS 1 5),
  gOut 176 (by decide) (k0_off81 d0) (gd4096_81_176 d0) (outS 1 2),
  gPull 160 (by decide) (k0_off76 d0) (gd4096_76_160 d0) (rgS 2 1),
  gPush 160 (by decide) (k0_off82 d0) (gd4096_82_160 d0) ⟨k0_dev39 d0, k0_dev39_lt d0⟩ (sgS 2 5) (rgS 2 5),
  gOut 160 (by decide) (k0_off82 d0) (gd4096_82_160 d0) (outS 2 2),
  gPull 176 (by decide) (k0_off77 d0) (gd4096_77_176 d0) (rgS 0 2),
  gPush 176 (by decide) (k0_off83 d0) (gd4096_83_176 d0) ⟨k0_dev40 d0, k0_dev40_lt d0⟩ (sgS 0 6) (rgS 0 6),
  gOut 176 (by decide) (k0_off83 d0) (gd4096_83_176 d0) (outS 0 3),
  gPull 176 (by decide) (k0_off78 d0) (gd4096_78_176 d0) (rgS 1 2),
  gPush 176 (by decide) (k0_off84 d0) (gd4096_84_176 d0) ⟨k0_dev41 d0, k0_dev41_lt d0⟩ (sgS 1 6) (rgS 1 6),
  gOut 176 (by decide) (k0_off84 d0) (gd4096_84_176 d0) (outS 1 3),
  gPull 160 (by decide) (k0_off79 d0) (gd4096_79_160 d0) (rgS 2 2),
  gPush 160 (by decide) (k0_off85 d0) (gd4096_85_160 d0) ⟨k0_dev42 d0, k0_dev42_lt d0⟩ (sgS 2 6) (rgS 2 6),
  gOut 160 (by decide) (k0_off85 d0) (gd4096_85_160 d0) (outS 2 3),
  gPull 176 (by decide) (k0_off71 d0) (gd4096_71_176 d0) (rgS 0 3),
  gPull 176 (by decide) (k0_off77 d0) (gd4096_77_176 d0) (rgS 0 4),
  gPull 176 (by decide) (k0_off80 d0) (gd4096_80_176 d0) (rgS 0 5),
  gPull 176 (by decide) (k0_off83 d0) (gd4096_83_176 d0) (rgS 0 6),
  gOut 704 (by decide) (k0_off86 d0) (gd4096_86_704 d0) (outS 0 4),
  gPull 176 (by decide) (k0_off73 d0) (gd4096_73_176 d0) (rgS 1 3),
  gPull 176 (by decide) (k0_off78 d0) (gd4096_78_176 d0) (rgS 1 4),
  gPull 176 (by decide) (k0_off81 d0) (gd4096_81_176 d0) (rgS 1 5),
  gPull 176 (by decide) (k0_off84 d0) (gd4096_84_176 d0) (rgS 1 6),
  gOut 704 (by decide) (k0_off87 d0) (gd4096_87_704 d0) (outS 1 4),
  gPull 160 (by decide) (k0_off76 d0) (gd4096_76_160 d0) (rgS 2 3),
  gPull 160 (by decide) (k0_off79 d0) (gd4096_79_160 d0) (rgS 2 4),
  gPull 160 (by decide) (k0_off82 d0) (gd4096_82_160 d0) (rgS 2 5),
  gPull 160 (by decide) (k0_off85 d0) (gd4096_85_160 d0) (rgS 2 6),
  gOut 640 (by decide) (k0_off88 d0) (gd4096_88_640 d0) (outS 2 4),
  gSent 352 (by decide) (k0_off3 d0) (gd4096_3_352 d0) (k0_off2 d0 0#32 2#32) (gd3584_2_0_2_352 d0) (srS 0 0),
  gSent 352 (by decide) (k0_off6 d0) (gd4096_6_352 d0) (k0_off5 d0 0#32 2#32) (gd3584_5_0_2_352 d0) (srS 0 1),
  gSent 352 (by decide) (k0_off8 d0) (gd4096_8_352 d0) (k0_off2 d0 1232#32 4#32) (gd3584_2_1232_4_352 d0) (srS 1 0),
  gSent 352 (by decide) (k0_off10 d0) (gd4096_10_352 d0) (k0_off5 d0 1232#32 4#32) (gd3584_5_1232_4_352 d0) (srS 1 1),
  gSent 320 (by decide) (k0_off13 d0) (gd4096_13_320 d0) (k0_off12 d0) (gd3584_12_320 d0) (srS 2 0),
  gSent 320 (by decide) (k0_off16 d0) (gd4096_16_320 d0) (k0_off15 d0) (gd3584_15_320 d0) (srS 2 1),
  gSent 176 (by decide) (k0_off23 d0) (gd4096_23_176 d0) (k0_off22 d0) (gd3584_22_176 d0) (srS 0 2),
  gSent 176 (by decide) (k0_off25 d0) (gd4096_25_176 d0) (k0_off24 d0) (gd3584_24_176 d0) (srS 0 3),
  gSent 176 (by decide) (k0_off28 d0) (gd4096_28_176 d0) (k0_off27 d0) (gd3584_27_176 d0) (srS 1 2),
  gSent 176 (by decide) (k0_off30 d0) (gd4096_30_176 d0) (k0_off29 d0) (gd3584_29_176 d0) (srS 1 3),
  gSent 160 (by decide) (k0_off34 d0) (gd4096_34_160 d0) (k0_off33 d0) (gd3584_33_160 d0) (srS 2 2),
  gSent 160 (by decide) (k0_off36 d0) (gd4096_36_160 d0) (k0_off35 d0) (gd3584_35_160 d0) (srS 2 3),
  gSent 88 (by decide) (k0_off45 d0) (gd4096_45_88 d0) (k0_off44 1056#32) gd3584_44_1056_88 (srS 0 4),
  gSent 88 (by decide) (k0_off47 d0) (gd4096_47_88 d0) (k0_off46 1056#32) gd3584_46_1056_88 (srS 0 5),
  gSent 88 (by decide) (k0_off50 d0) (gd4096_50_88 d0) (k0_off44 2288#32) gd3584_44_2288_88 (srS 1 4),
  gSent 88 (by decide) (k0_off51 d0) (gd4096_51_88 d0) (k0_off46 2288#32) gd3584_46_2288_88 (srS 1 5),
  gSent 80 (by decide) (k0_off55 d0) (gd4096_55_80 d0) k0_off54 gd3584_54_80 (srS 2 4),
  gSent 80 (by decide) (k0_off57 d0) (gd4096_57_80 d0) k0_off56 gd3584_56_80 (srS 2 5),
  gPull 176 (by decide) (k0_off71 d0) (gd4096_71_176 d0) (sgS 0 0),
  gPull 176 (by decide) (k0_off71 d0) (gd4096_71_176 d0) (sgS 0 1),
  gPull 176 (by decide) (k0_off71 d0) (gd4096_71_176 d0) (sgS 0 3),
  gPull 176 (by decide) (k0_off73 d0) (gd4096_73_176 d0) (sgS 1 0),
  gPull 176 (by decide) (k0_off73 d0) (gd4096_73_176 d0) (sgS 1 1),
  gPull 176 (by decide) (k0_off73 d0) (gd4096_73_176 d0) (sgS 1 3),
  gPull 160 (by decide) (k0_off76 d0) (gd4096_76_160 d0) (sgS 2 0),
  gPull 160 (by decide) (k0_off76 d0) (gd4096_76_160 d0) (sgS 2 1),
  gPull 160 (by decide) (k0_off76 d0) (gd4096_76_160 d0) (sgS 2 3),
  gPull 176 (by decide) (k0_off77 d0) (gd4096_77_176 d0) (sgS 0 2),
  gPull 176 (by decide) (k0_off77 d0) (gd4096_77_176 d0) (sgS 0 4),
  gPull 176 (by decide) (k0_off78 d0) (gd4096_78_176 d0) (sgS 1 2),
  gPull 176 (by decide) (k0_off78 d0) (gd4096_78_176 d0) (sgS 1 4),
  gPull 160 (by decide) (k0_off79 d0) (gd4096_79_160 d0) (sgS 2 2),
  gPull 160 (by decide) (k0_off79 d0) (gd4096_79_160 d0) (sgS 2 4),
  gPull 176 (by decide) (k0_off80 d0) (gd4096_80_176 d0) (sgS 0 5),
  gPull 176 (by decide) (k0_off81 d0) (gd4096_81_176 d0) (sgS 1 5),
  gPull 160 (by decide) (k0_off82 d0) (gd4096_82_160 d0) (sgS 2 5),
  gPull 176 (by decide) (k0_off83 d0) (gd4096_83_176 d0) (sgS 0 6),
  gPull 176 (by decide) (k0_off84 d0) (gd4096_84_176 d0) (sgS 1 6),
  gPull 160 (by decide) (k0_off85 d0) (gd4096_85_160 d0) (sgS 2 6),
  gOutWait 176 (by decide) (k0_off71 d0) (gd4096_71_176 d0) (outS 0 0),
  gOutWait 176 (by decide) (k0_off73 d0) (gd4096_73_176 d0) (outS 1 0),
  gOutWait 160 (by decide) (k0_off76 d0) (gd4096_76_160 d0) (outS 2 0),
  gOutWait 176 (by decide) (k0_off77 d0) (gd4096_77_176 d0) (outS 0 1),
  gOutWait 176 (by decide) (k0_off78 d0) (gd4096_78_176 d0) (outS 1 1),
  gOutWait 160 (by decide) (k0_off79 d0) (gd4096_79_160 d0) (outS 2 1),
  gOutWait 176 (by decide) (k0_off80 d0) (gd4096_80_176 d0) (outS 0 2),
  gOutWait 176 (by decide) (k0_off81 d0) (gd4096_81_176 d0) (outS 1 2),
  gOutWait 160 (by decide) (k0_off82 d0) (gd4096_82_160 d0) (outS 2 2),
  gOutWait 176 (by decide) (k0_off83 d0) (gd4096_83_176 d0) (outS 0 3),
  gOutWait 176 (by decide) (k0_off84 d0) (gd4096_84_176 d0) (outS 1 3)]

def rawLast (d0 : Dev nD) : List (PT F) := [
  gOutWait 160 (by decide) (k0_off85 d0) (gd4096_85_160 d0) (outS 2 3),
  gOutWait 704 (by decide) (k0_off86 d0) (gd4096_86_704 d0) (outS 0 4),
  gOutWait 704 (by decide) (k0_off87 d0) (gd4096_87_704 d0) (outS 1 4),
  gOutWait 640 (by decide) (k0_off88 d0) (gd4096_88_640 d0) (outS 2 4)]

/-- The printed steps are the tables'. -/
theorem rawSteps_eq (c : Dev nD) : rawSteps (F := F) c ++ rawLast c = steps c := by
  delta steps rawSteps rawLast
  simp only [each, phIn, phBar, phPrep, phKeep, phA0, phA1, phB0, phB1, phC0, phC1, phG0, phG1, phG2, phG3, phS, phS0, phS1, phO,
    List.cons_append, List.nil_append]
  refine congrArg₂ List.cons (gIn_eq rfl) ?_
  refine congrArg₂ List.cons (gIn_eq rfl) ?_
  refine congrArg₂ List.cons (gIn_eq rfl) ?_
  refine congrArg₂ List.cons (gIn_eq rfl) ?_
  refine congrArg₂ List.cons (gIn_eq rfl) ?_
  refine congrArg₂ List.cons (gIn_eq rfl) ?_
  refine congrArg₂ List.cons (sig_eq (dev_table c).1) ?_
  refine congrArg₂ List.cons (sig_eq (dev_table c).2.1) ?_
  refine congrArg₂ List.cons (sig_eq (dev_table c).2.2.1) ?_
  refine congrArg₂ List.cons (rfl) ?_
  refine congrArg₂ List.cons (gInWait_eq rfl) ?_
  refine congrArg₂ List.cons (gInWait_eq rfl) ?_
  refine congrArg₂ List.cons (gCopy_eq (off_send c).1) ?_
  refine congrArg₂ List.cons (gSend_eq (off_send c).2.1 (off_land c).1 (dev_table c).2.2.2.1) ?_
  refine congrArg₂ List.cons (gCopy_eq (off_send c).2.2.1) ?_
  refine congrArg₂ List.cons (gSend_eq (off_send c).2.2.2.1 (off_land c).2.2.1 (dev_table c).2.2.2.2.1) ?_
  refine congrArg₂ List.cons (gInWait_eq rfl) ?_
  refine congrArg₂ List.cons (gInWait_eq rfl) ?_
  refine congrArg₂ List.cons (gCopy_eq (off_send c).2.2.2.2.1) ?_
  refine congrArg₂ List.cons (gSend_eq (off_send c).2.2.2.2.2.1 (off_land c).2.1 (dev_table c).2.2.2.2.2.1) ?_
  refine congrArg₂ List.cons (gCopy_eq (off_send c).2.2.2.2.2.2.1) ?_
  refine congrArg₂ List.cons (gSend_eq (off_send c).2.2.2.2.2.2.2.1 (off_land c).2.2.2.1 (dev_table c).2.2.2.2.2.2.1) ?_
  refine congrArg₂ List.cons (gInWait_eq rfl) ?_
  refine congrArg₂ List.cons (gInWait_eq rfl) ?_
  refine congrArg₂ List.cons (gCopy_eq (off_send c).2.2.2.2.2.2.2.2.1) ?_
  refine congrArg₂ List.cons (gSend_eq (off_send c).2.2.2.2.2.2.2.2.2.1 (off_land c).2.2.2.2.1 (dev_table c).2.2.2.2.2.2.2.1) ?_
  refine congrArg₂ List.cons (gCopy_eq (off_send c).2.2.2.2.2.2.2.2.2.2.1) ?_
  refine congrArg₂ List.cons (gSend_eq (off_send c).2.2.2.2.2.2.2.2.2.2.2.1 (off_land c).2.2.2.2.2.1 (dev_table c).2.2.2.2.2.2.2.2.1) ?_
  refine congrArg₂ List.cons (gCopy_eq (off_kept c).1) ?_
  refine congrArg₂ List.cons (gCopy_eq (off_kept c).2.1) ?_
  refine congrArg₂ List.cons (gCopy_eq (off_kept c).2.2.1) ?_
  refine congrArg₂ List.cons (gRecv_eq (off_send c).2.1 (off_land c).1) ?_
  refine congrArg₂ List.cons (gAdd_eq (off_kept c).2.2.2.1 (off_land c).2.2.2.2.2.2.1) ?_
  refine congrArg₂ List.cons (gSend_eq (off_send c).2.2.2.2.2.2.2.2.2.2.2.2.1 (off_land c).2.2.2.2.2.2.2.2.2.1 (dev_table c).2.2.2.2.2.2.2.2.2.1) ?_
  refine congrArg₂ List.cons (gSend_eq (off_send c).2.2.2.2.2.2.2.2.2.2.2.2.2.1 (off_land c).2.2.2.2.2.2.2.2.2.2.1 (dev_table c).2.2.2.2.2.2.2.2.2.2.1) ?_
  refine congrArg₂ List.cons (gRecv_eq (off_send c).2.2.2.2.2.1 (off_land c).2.1) ?_
  refine congrArg₂ List.cons (gAdd_eq (off_kept c).2.2.2.2.1 (off_land c).2.2.2.2.2.2.2.1) ?_
  refine congrArg₂ List.cons (gSend_eq (off_send c).2.2.2.2.2.2.2.2.2.2.2.2.2.2.1 (off_land c).2.2.2.2.2.2.2.2.2.2.2.1 (dev_table c).2.2.2.2.2.2.2.2.2.2.2.1) ?_
  refine congrArg₂ List.cons (gSend_eq (off_send c).2.2.2.2.2.2.2.2.2.2.2.2.2.2.2.1 (off_land c).2.2.2.2.2.2.2.2.2.2.2.2.1 (dev_table c).2.2.2.2.2.2.2.2.2.2.2.2.1) ?_
  refine congrArg₂ List.cons (gRecv_eq (off_send c).2.2.2.2.2.2.2.2.2.1 (off_land c).2.2.2.2.1) ?_
  refine congrArg₂ List.cons (gAdd_eq (off_kept c).2.2.2.2.2.1 (off_land c).2.2.2.2.2.2.2.2.1) ?_
  refine congrArg₂ List.cons (gSend_eq (off_send c).2.2.2.2.2.2.2.2.2.2.2.2.2.2.2.2.1 (off_land c).2.2.2.2.2.2.2.2.2.2.2.2.2.1 (dev_table c).2.2.2.2.2.2.2.2.2.2.2.2.2.1) ?_
  refine congrArg₂ List.cons (gSend_eq (off_send c).2.2.2.2.2.2.2.2.2.2.2.2.2.2.2.2.2.1 (off_land c).2.2.2.2.2.2.2.2.2.2.2.2.2.2.1 (dev_table c).2.2.2.2.2.2.2.2.2.2.2.2.2.2.1) ?_
  refine congrArg₂ List.cons (gRecv_eq (off_send c).2.2.2.1 (off_land c).2.2.1) ?_
  refine congrArg₂ List.cons (gAdd_eq (off_kept c).2.2.2.2.2.2.1 (off_land c).2.2.2.2.2.2.2.2.2.2.2.2.2.2.2.1) ?_
  refine congrArg₂ List.cons (gRecv_eq (off_send c).2.2.2.2.2.2.2.1 (off_land c).2.2.2.1) ?_
  refine congrArg₂ List.cons (gAdd_eq (off_kept c).2.2.2.2.2.2.2.1 (off_land c).2.2.2.2.2.2.2.2.2.2.2.2.2.2.2.2.1) ?_
  refine congrArg₂ List.cons (gRecv_eq (off_send c).2.2.2.2.2.2.2.2.2.2.2.1 (off_land c).2.2.2.2.2.1) ?_
  refine congrArg₂ List.cons (gAdd_eq (off_kept c).2.2.2.2.2.2.2.2.1 (off_land c).2.2.2.2.2.2.2.2.2.2.2.2.2.2.2.2.2.1) ?_
  refine congrArg₂ List.cons (gRecv_eq (off_send c).2.2.2.2.2.2.2.2.2.2.2.2.1 (off_land c).2.2.2.2.2.2.2.2.2.1) ?_
  refine congrArg₂ List.cons (gAdd_eq (off_kept c).2.2.2.2.2.2.2.2.2.1 (off_land c).2.2.2.2.2.2.2.2.2.2.2.2.2.2.2.2.2.2.1) ?_
  refine congrArg₂ List.cons (gSend_eq (off_send c).2.2.2.2.2.2.2.2.2.2.2.2.2.2.2.2.2.2.1 off_land2.1 (dev_table c).2.2.2.2.2.2.2.2.2.2.2.2.2.2.2.1) ?_
  refine congrArg₂ List.cons (gSend_eq (off_send c).2.2.2.2.2.2.2.2.2.2.2.2.2.2.2.2.2.2.2.1 off_land2.2.2.2.1 (dev_table c).2.2.2.2.2.2.2.2.2.2.2.2.2.2.2.2.1) ?_
  refine congrArg₂ List.cons (gRecv_eq (off_send c).2.2.2.2.2.2.2.2.2.2.2.2.2.2.1 (off_land c).2.2.2.2.2.2.2.2.2.2.2.1) ?_
  refine congrArg₂ List.cons (gAdd_eq (off_kept c).2.2.2.2.2.2.2.2.2.2.1 (off_land c).2.2.2.2.2.2.2.2.2.2.2.2.2.2.2.2.2.2.2.1) ?_
  refine congrArg₂ List.cons (gSend_eq (off_send c).2.2.2.2.2.2.2.2.2.2.2.2.2.2.2.2.2.2.2.2.1 off_land2.2.1 (dev_table c).2.2.2.2.2.2.2.2.2.2.2.2.2.2.2.2.2.1) ?_
  refine congrArg₂ List.cons (gSend_eq (off_send c).2.2.2.2.2.2.2.2.2.2.2.2.2.2.2.2.2.2.2.2.2.1 off_land2.2.2.2.2.1 (dev_table c).2.2.2.2.2.2.2.2.2.2.2.2.2.2.2.2.2.2.1) ?_
  refine congrArg₂ List.cons (gRecv_eq (off_send c).2.2.2.2.2.2.2.2.2.2.2.2.2.2.2.2.1 (off_land c).2.2.2.2.2.2.2.2.2.2.2.2.2.1) ?_
  refine congrArg₂ List.cons (gAdd_eq (off_kept c).2.2.2.2.2.2.2.2.2.2.2.1 (off_land c).2.2.2.2.2.2.2.2.2.2.2.2.2.2.2.2.2.2.2.2.1) ?_
  refine congrArg₂ List.cons (gSend_eq (off_send c).2.2.2.2.2.2.2.2.2.2.2.2.2.2.2.2.2.2.2.2.2.2.1 off_land2.2.2.1 (dev_table c).2.2.2.2.2.2.2.2.2.2.2.2.2.2.2.2.2.2.2.1) ?_
  refine congrArg₂ List.cons (gSend_eq (off_send c).2.2.2.2.2.2.2.2.2.2.2.2.2.2.2.2.2.2.2.2.2.2.2 off_land2.2.2.2.2.2.1 (dev_table c).2.2.2.2.2.2.2.2.2.2.2.2.2.2.2.2.2.2.2.2.1) ?_
  refine congrArg₂ List.cons (gRecv_eq (off_send c).2.2.2.2.2.2.2.2.2.2.2.2.2.1 (off_land c).2.2.2.2.2.2.2.2.2.2.1) ?_
  refine congrArg₂ List.cons (gAdd_eq (off_kept c).2.2.2.2.2.2.2.2.2.2.2.2.1 (off_land c).2.2.2.2.2.2.2.2.2.2.2.2.2.2.2.2.2.2.2.2.2.1) ?_
  refine congrArg₂ List.cons (gRecv_eq (off_send c).2.2.2.2.2.2.2.2.2.2.2.2.2.2.2.1 (off_land c).2.2.2.2.2.2.2.2.2.2.2.2.1) ?_
  refine congrArg₂ List.cons (gAdd_eq (off_kept c).2.2.2.2.2.2.2.2.2.2.2.2.2.1 (off_land c).2.2.2.2.2.2.2.2.2.2.2.2.2.2.2.2.2.2.2.2.2.2.1) ?_
  refine congrArg₂ List.cons (gRecv_eq (off_send c).2.2.2.2.2.2.2.2.2.2.2.2.2.2.2.2.2.1 (off_land c).2.2.2.2.2.2.2.2.2.2.2.2.2.2.1) ?_
  refine congrArg₂ List.cons (gAdd_eq (off_kept c).2.2.2.2.2.2.2.2.2.2.2.2.2.2.1 (off_land c).2.2.2.2.2.2.2.2.2.2.2.2.2.2.2.2.2.2.2.2.2.2.2) ?_
  refine congrArg₂ List.cons (gRecv_eq (off_send c).2.2.2.2.2.2.2.2.2.2.2.2.2.2.2.2.2.2.1 off_land2.1) ?_
  refine congrArg₂ List.cons (gAdd_eq (off_kept c).2.2.2.2.2.2.2.2.2.2.2.2.2.2.2.1 off_land2.2.2.2.2.2.2.1) ?_
  refine congrArg₂ List.cons (gRecv_eq (off_send c).2.2.2.2.2.2.2.2.2.2.2.2.2.2.2.2.2.2.2.2.1 off_land2.2.1) ?_
  refine congrArg₂ List.cons (gAdd_eq (off_kept c).2.2.2.2.2.2.2.2.2.2.2.2.2.2.2.2.1 off_land2.2.2.2.2.2.2.2.1) ?_
  refine congrArg₂ List.cons (gRecv_eq (off_send c).2.2.2.2.2.2.2.2.2.2.2.2.2.2.2.2.2.2.2.2.2.2.1 off_land2.2.2.1) ?_
  refine congrArg₂ List.cons (gAdd_eq (off_kept c).2.2.2.2.2.2.2.2.2.2.2.2.2.2.2.2.2.1 off_land2.2.2.2.2.2.2.2.2.1) ?_
  refine congrArg₂ List.cons (gRecv_eq (off_send c).2.2.2.2.2.2.2.2.2.2.2.2.2.2.2.2.2.2.2.1 off_land2.2.2.2.1) ?_
  refine congrArg₂ List.cons (gAdd_eq (off_kept c).2.2.2.2.2.2.2.2.2.2.2.2.2.2.2.2.2.2.1 off_land2.2.2.2.2.2.2.2.2.2.1) ?_
  refine congrArg₂ List.cons (gPush_eq (off_gather c).1 (dev_table c).2.2.2.2.2.2.2.2.2.2.2.2.2.2.2.2.2.2.2.2.2.1) ?_
  refine congrArg₂ List.cons (gPush_eq (off_gather c).1 (dev_table c).2.2.2.2.2.2.2.2.2.2.2.2.2.2.2.2.2.2.2.2.2.2.1) ?_
  refine congrArg₂ List.cons (gPush_eq (off_gather c).1 (dev_table c).2.2.2.2.2.2.2.2.2.2.2.2.2.2.2.2.2.2.2.2.2.2.2.1) ?_
  refine congrArg₂ List.cons (gOut_eq (off_gather c).1) ?_
  refine congrArg₂ List.cons (gRecv_eq (off_send c).2.2.2.2.2.2.2.2.2.2.2.2.2.2.2.2.2.2.2.2.2.1 off_land2.2.2.2.2.1) ?_
  refine congrArg₂ List.cons (gAdd_eq (off_kept c).2.2.2.2.2.2.2.2.2.2.2.2.2.2.2.2.2.2.2.1 off_land2.2.2.2.2.2.2.2.2.2.2.1) ?_
  refine congrArg₂ List.cons (gPush_eq (off_gather c).2.1 (dev_table c).2.2.2.2.2.2.2.2.2.2.2.2.2.2.2.2.2.2.2.2.2.2.2.2.1) ?_
  refine congrArg₂ List.cons (gPush_eq (off_gather c).2.1 (dev_table c).2.2.2.2.2.2.2.2.2.2.2.2.2.2.2.2.2.2.2.2.2.2.2.2.2.1) ?_
  refine congrArg₂ List.cons (gPush_eq (off_gather c).2.1 (dev_table c).2.2.2.2.2.2.2.2.2.2.2.2.2.2.2.2.2.2.2.2.2.2.2.2.2.2.1) ?_
  refine congrArg₂ List.cons (gOut_eq (off_gather c).2.1) ?_
  refine congrArg₂ List.cons (gRecv_eq (off_send c).2.2.2.2.2.2.2.2.2.2.2.2.2.2.2.2.2.2.2.2.2.2.2 off_land2.2.2.2.2.2.1) ?_
  refine congrArg₂ List.cons (gAdd_eq (off_kept c).2.2.2.2.2.2.2.2.2.2.2.2.2.2.2.2.2.2.2.2 off_land2.2.2.2.2.2.2.2.2.2.2.2) ?_
  refine congrArg₂ List.cons (gPush_eq (off_gather c).2.2.1 (dev_table c).2.2.2.2.2.2.2.2.2.2.2.2.2.2.2.2.2.2.2.2.2.2.2.2.2.2.2.1) ?_
  refine congrArg₂ List.cons (gPush_eq (off_gather c).2.2.1 (dev_table c).2.2.2.2.2.2.2.2.2.2.2.2.2.2.2.2.2.2.2.2.2.2.2.2.2.2.2.2.1) ?_
  refine congrArg₂ List.cons (gPush_eq (off_gather c).2.2.1 (dev_table c).2.2.2.2.2.2.2.2.2.2.2.2.2.2.2.2.2.2.2.2.2.2.2.2.2.2.2.2.2.1) ?_
  refine congrArg₂ List.cons (gOut_eq (off_gather c).2.2.1) ?_
  refine congrArg₂ List.cons (gPull_eq (off_gather c).1) ?_
  refine congrArg₂ List.cons (gPush_eq (off_gather c).2.2.2.1 (dev_table c).2.2.2.2.2.2.2.2.2.2.2.2.2.2.2.2.2.2.2.2.2.2.2.2.2.2.2.2.2.2.1) ?_
  refine congrArg₂ List.cons (gPush_eq (off_gather c).2.2.2.1 (dev_table c).2.2.2.2.2.2.2.2.2.2.2.2.2.2.2.2.2.2.2.2.2.2.2.2.2.2.2.2.2.2.2.1) ?_
  refine congrArg₂ List.cons (gOut_eq (off_gather c).2.2.2.1) ?_
  refine congrArg₂ List.cons (gPull_eq (off_gather c).2.1) ?_
  refine congrArg₂ List.cons (gPush_eq (off_gather c).2.2.2.2.1 (dev_table c).2.2.2.2.2.2.2.2.2.2.2.2.2.2.2.2.2.2.2.2.2.2.2.2.2.2.2.2.2.2.2.2.1) ?_
  refine congrArg₂ List.cons (gPush_eq (off_gather c).2.2.2.2.1 (dev_table c).2.2.2.2.2.2.2.2.2.2.2.2.2.2.2.2.2.2.2.2.2.2.2.2.2.2.2.2.2.2.2.2.2.1) ?_
  refine congrArg₂ List.cons (gOut_eq (off_gather c).2.2.2.2.1) ?_
  refine congrArg₂ List.cons (gPull_eq (off_gather c).2.2.1) ?_
  refine congrArg₂ List.cons (gPush_eq (off_gather c).2.2.2.2.2.1 (dev_table c).2.2.2.2.2.2.2.2.2.2.2.2.2.2.2.2.2.2.2.2.2.2.2.2.2.2.2.2.2.2.2.2.2.2.1) ?_
  refine congrArg₂ List.cons (gPush_eq (off_gather c).2.2.2.2.2.1 (dev_table c).2.2.2.2.2.2.2.2.2.2.2.2.2.2.2.2.2.2.2.2.2.2.2.2.2.2.2.2.2.2.2.2.2.2.2.1) ?_
  refine congrArg₂ List.cons (gOut_eq (off_gather c).2.2.2.2.2.1) ?_
  refine congrArg₂ List.cons (gPull_eq (off_gather c).1) ?_
  refine congrArg₂ List.cons (gPush_eq (off_gather c).2.2.2.2.2.2.1 (dev_table c).2.2.2.2.2.2.2.2.2.2.2.2.2.2.2.2.2.2.2.2.2.2.2.2.2.2.2.2.2.2.2.2.2.2.2.2.1) ?_
  refine congrArg₂ List.cons (gOut_eq (off_gather c).2.2.2.2.2.2.1) ?_
  refine congrArg₂ List.cons (gPull_eq (off_gather c).2.1) ?_
  refine congrArg₂ List.cons (gPush_eq (off_gather c).2.2.2.2.2.2.2.1 (dev_table c).2.2.2.2.2.2.2.2.2.2.2.2.2.2.2.2.2.2.2.2.2.2.2.2.2.2.2.2.2.2.2.2.2.2.2.2.2.1) ?_
  refine congrArg₂ List.cons (gOut_eq (off_gather c).2.2.2.2.2.2.2.1) ?_
  refine congrArg₂ List.cons (gPull_eq (off_gather c).2.2.1) ?_
  refine congrArg₂ List.cons (gPush_eq (off_gather c).2.2.2.2.2.2.2.2.1 (dev_table c).2.2.2.2.2.2.2.2.2.2.2.2.2.2.2.2.2.2.2.2.2.2.2.2.2.2.2.2.2.2.2.2.2.2.2.2.2.2.1) ?_
  refine congrArg₂ List.cons (gOut_eq (off_gather c).2.2.2.2.2.2.2.2.1) ?_
  refine congrArg₂ List.cons (gPull_eq (off_gather c).2.2.2.1) ?_
  refine congrArg₂ List.cons (gPush_eq (off_gather c).2.2.2.2.2.2.2.2.2.1 (dev_table c).2.2.2.2.2.2.2.2.2.2.2.2.2.2.2.2.2.2.2.2.2.2.2.2.2.2.2.2.2.2.2.2.2.2.2.2.2.2.2.1) ?_
  refine congrArg₂ List.cons (gOut_eq (off_gather c).2.2.2.2.2.2.2.2.2.1) ?_
  refine congrArg₂ List.cons (gPull_eq (off_gather c).2.2.2.2.1) ?_
  refine congrArg₂ List.cons (gPush_eq (off_gather c).2.2.2.2.2.2.2.2.2.2.1 (dev_table c).2.2.2.2.2.2.2.2.2.2.2.2.2.2.2.2.2.2.2.2.2.2.2.2.2.2.2.2.2.2.2.2.2.2.2.2.2.2.2.2.1) ?_
  refine congrArg₂ List.cons (gOut_eq (off_gather c).2.2.2.2.2.2.2.2.2.2.1) ?_
  refine congrArg₂ List.cons (gPull_eq (off_gather c).2.2.2.2.2.1) ?_
  refine congrArg₂ List.cons (gPush_eq (off_gather c).2.2.2.2.2.2.2.2.2.2.2.1 (dev_table c).2.2.2.2.2.2.2.2.2.2.2.2.2.2.2.2.2.2.2.2.2.2.2.2.2.2.2.2.2.2.2.2.2.2.2.2.2.2.2.2.2) ?_
  refine congrArg₂ List.cons (gOut_eq (off_gather c).2.2.2.2.2.2.2.2.2.2.2.1) ?_
  refine congrArg₂ List.cons (gPull_eq (off_gather c).1) ?_
  refine congrArg₂ List.cons (gPull_eq (off_gather c).2.2.2.1) ?_
  refine congrArg₂ List.cons (gPull_eq (off_gather c).2.2.2.2.2.2.1) ?_
  refine congrArg₂ List.cons (gPull_eq (off_gather c).2.2.2.2.2.2.2.2.2.1) ?_
  refine congrArg₂ List.cons (gOut_eq (off_gather c).2.2.2.2.2.2.2.2.2.2.2.2.1) ?_
  refine congrArg₂ List.cons (gPull_eq (off_gather c).2.1) ?_
  refine congrArg₂ List.cons (gPull_eq (off_gather c).2.2.2.2.1) ?_
  refine congrArg₂ List.cons (gPull_eq (off_gather c).2.2.2.2.2.2.2.1) ?_
  refine congrArg₂ List.cons (gPull_eq (off_gather c).2.2.2.2.2.2.2.2.2.2.1) ?_
  refine congrArg₂ List.cons (gOut_eq (off_gather c).2.2.2.2.2.2.2.2.2.2.2.2.2.1) ?_
  refine congrArg₂ List.cons (gPull_eq (off_gather c).2.2.1) ?_
  refine congrArg₂ List.cons (gPull_eq (off_gather c).2.2.2.2.2.1) ?_
  refine congrArg₂ List.cons (gPull_eq (off_gather c).2.2.2.2.2.2.2.2.1) ?_
  refine congrArg₂ List.cons (gPull_eq (off_gather c).2.2.2.2.2.2.2.2.2.2.2.1) ?_
  refine congrArg₂ List.cons (gOut_eq (off_gather c).2.2.2.2.2.2.2.2.2.2.2.2.2.2) ?_
  refine congrArg₂ List.cons (gSent_eq (off_send c).2.1 (off_land c).1) ?_
  refine congrArg₂ List.cons (gSent_eq (off_send c).2.2.2.1 (off_land c).2.2.1) ?_
  refine congrArg₂ List.cons (gSent_eq (off_send c).2.2.2.2.2.1 (off_land c).2.1) ?_
  refine congrArg₂ List.cons (gSent_eq (off_send c).2.2.2.2.2.2.2.1 (off_land c).2.2.2.1) ?_
  refine congrArg₂ List.cons (gSent_eq (off_send c).2.2.2.2.2.2.2.2.2.1 (off_land c).2.2.2.2.1) ?_
  refine congrArg₂ List.cons (gSent_eq (off_send c).2.2.2.2.2.2.2.2.2.2.2.1 (off_land c).2.2.2.2.2.1) ?_
  refine congrArg₂ List.cons (gSent_eq (off_send c).2.2.2.2.2.2.2.2.2.2.2.2.1 (off_land c).2.2.2.2.2.2.2.2.2.1) ?_
  refine congrArg₂ List.cons (gSent_eq (off_send c).2.2.2.2.2.2.2.2.2.2.2.2.2.1 (off_land c).2.2.2.2.2.2.2.2.2.2.1) ?_
  refine congrArg₂ List.cons (gSent_eq (off_send c).2.2.2.2.2.2.2.2.2.2.2.2.2.2.1 (off_land c).2.2.2.2.2.2.2.2.2.2.2.1) ?_
  refine congrArg₂ List.cons (gSent_eq (off_send c).2.2.2.2.2.2.2.2.2.2.2.2.2.2.2.1 (off_land c).2.2.2.2.2.2.2.2.2.2.2.2.1) ?_
  refine congrArg₂ List.cons (gSent_eq (off_send c).2.2.2.2.2.2.2.2.2.2.2.2.2.2.2.2.1 (off_land c).2.2.2.2.2.2.2.2.2.2.2.2.2.1) ?_
  refine congrArg₂ List.cons (gSent_eq (off_send c).2.2.2.2.2.2.2.2.2.2.2.2.2.2.2.2.2.1 (off_land c).2.2.2.2.2.2.2.2.2.2.2.2.2.2.1) ?_
  refine congrArg₂ List.cons (gSent_eq (off_send c).2.2.2.2.2.2.2.2.2.2.2.2.2.2.2.2.2.2.1 off_land2.1) ?_
  refine congrArg₂ List.cons (gSent_eq (off_send c).2.2.2.2.2.2.2.2.2.2.2.2.2.2.2.2.2.2.2.1 off_land2.2.2.2.1) ?_
  refine congrArg₂ List.cons (gSent_eq (off_send c).2.2.2.2.2.2.2.2.2.2.2.2.2.2.2.2.2.2.2.2.1 off_land2.2.1) ?_
  refine congrArg₂ List.cons (gSent_eq (off_send c).2.2.2.2.2.2.2.2.2.2.2.2.2.2.2.2.2.2.2.2.2.1 off_land2.2.2.2.2.1) ?_
  refine congrArg₂ List.cons (gSent_eq (off_send c).2.2.2.2.2.2.2.2.2.2.2.2.2.2.2.2.2.2.2.2.2.2.1 off_land2.2.2.1) ?_
  refine congrArg₂ List.cons (gSent_eq (off_send c).2.2.2.2.2.2.2.2.2.2.2.2.2.2.2.2.2.2.2.2.2.2.2 off_land2.2.2.2.2.2.1) ?_
  refine congrArg₂ List.cons (gPull_eq (off_gather c).1) ?_
  refine congrArg₂ List.cons (gPull_eq (off_gather c).1) ?_
  refine congrArg₂ List.cons (gPull_eq (off_gather c).1) ?_
  refine congrArg₂ List.cons (gPull_eq (off_gather c).2.1) ?_
  refine congrArg₂ List.cons (gPull_eq (off_gather c).2.1) ?_
  refine congrArg₂ List.cons (gPull_eq (off_gather c).2.1) ?_
  refine congrArg₂ List.cons (gPull_eq (off_gather c).2.2.1) ?_
  refine congrArg₂ List.cons (gPull_eq (off_gather c).2.2.1) ?_
  refine congrArg₂ List.cons (gPull_eq (off_gather c).2.2.1) ?_
  refine congrArg₂ List.cons (gPull_eq (off_gather c).2.2.2.1) ?_
  refine congrArg₂ List.cons (gPull_eq (off_gather c).2.2.2.1) ?_
  refine congrArg₂ List.cons (gPull_eq (off_gather c).2.2.2.2.1) ?_
  refine congrArg₂ List.cons (gPull_eq (off_gather c).2.2.2.2.1) ?_
  refine congrArg₂ List.cons (gPull_eq (off_gather c).2.2.2.2.2.1) ?_
  refine congrArg₂ List.cons (gPull_eq (off_gather c).2.2.2.2.2.1) ?_
  refine congrArg₂ List.cons (gPull_eq (off_gather c).2.2.2.2.2.2.1) ?_
  refine congrArg₂ List.cons (gPull_eq (off_gather c).2.2.2.2.2.2.2.1) ?_
  refine congrArg₂ List.cons (gPull_eq (off_gather c).2.2.2.2.2.2.2.2.1) ?_
  refine congrArg₂ List.cons (gPull_eq (off_gather c).2.2.2.2.2.2.2.2.2.1) ?_
  refine congrArg₂ List.cons (gPull_eq (off_gather c).2.2.2.2.2.2.2.2.2.2.1) ?_
  refine congrArg₂ List.cons (gPull_eq (off_gather c).2.2.2.2.2.2.2.2.2.2.2.1) ?_
  refine congrArg₂ List.cons (gOutWait_eq (off_gather c).1) ?_
  refine congrArg₂ List.cons (gOutWait_eq (off_gather c).2.1) ?_
  refine congrArg₂ List.cons (gOutWait_eq (off_gather c).2.2.1) ?_
  refine congrArg₂ List.cons (gOutWait_eq (off_gather c).2.2.2.1) ?_
  refine congrArg₂ List.cons (gOutWait_eq (off_gather c).2.2.2.2.1) ?_
  refine congrArg₂ List.cons (gOutWait_eq (off_gather c).2.2.2.2.2.1) ?_
  refine congrArg₂ List.cons (gOutWait_eq (off_gather c).2.2.2.2.2.2.1) ?_
  refine congrArg₂ List.cons (gOutWait_eq (off_gather c).2.2.2.2.2.2.2.1) ?_
  refine congrArg₂ List.cons (gOutWait_eq (off_gather c).2.2.2.2.2.2.2.2.1) ?_
  refine congrArg₂ List.cons (gOutWait_eq (off_gather c).2.2.2.2.2.2.2.2.2.1) ?_
  refine congrArg₂ List.cons (gOutWait_eq (off_gather c).2.2.2.2.2.2.2.2.2.2.1) ?_
  refine congrArg₂ List.cons (gOutWait_eq (off_gather c).2.2.2.2.2.2.2.2.2.2.2.1) ?_
  refine congrArg₂ List.cons (gOutWait_eq (off_gather c).2.2.2.2.2.2.2.2.2.2.2.2.1) ?_
  refine congrArg₂ List.cons (gOutWait_eq (off_gather c).2.2.2.2.2.2.2.2.2.2.2.2.2.1) ?_
  refine congrArg₂ List.cons (gOutWait_eq (off_gather c).2.2.2.2.2.2.2.2.2.2.2.2.2.2) ?_
  rfl

/-- The kernel's body at the launch's buffers and semaphores. -/
abbrev body (F : FTy → Type) [FloatOps F] : PT F :=
  cc0_body (F := F) xM (Memref.isWhole_whole _) oM (Memref.isWhole_whole _) gM (Memref.isWhole_whole _) vM (Memref.isWhole_whole _) cM (Memref.isWhole_whole _) cc0_scratch3 cc0_scratch4 cc0_scratch5 cc0_scratch6

theorem part53_run : k0_part53 (F := F) xM (Memref.isWhole_whole _) oM (Memref.isWhole_whole _) gM (Memref.isWhole_whole _) vM (Memref.isWhole_whole _) cM (Memref.isWhole_whole _) cc0_scratch3 cc0_scratch4 cc0_scratch5 cc0_scratch6 =
    .op .deviceId fun c => runsK (rawSteps c) (.ret c) := by
  rw [k0_part53_eq_skeleton]
  delta k0_part53_skel
  obtain ⟨f_v2, f_v3, f_v21, f_v39, h1⟩ := part1_eq (F := F) (α := Dev nD)
  refine Eq.trans (h1 _) (congrArg (Prog.op _) (funext fun c => ?_))
  obtain ⟨v41, v42, v43, h2⟩ := part2_eq (F := F) (α := Dev nD) (f_v3 c) (f_v21 c) (f_v39 c)
  refine Eq.trans (h2 _) (congrArg (runsK _) ?_)
  refine Eq.trans (part3_eq (F := F) (α := Dev nD) c (f_v2 c) _) (congrArg (runsK _) ?_)
  obtain ⟨v88, v91, v93, v104, h4⟩ := part4_eq (F := F) (α := Dev nD) c (f_v2 c) v41 v42
  refine Eq.trans (h4 _) (congrArg (runsK _) ?_)
  obtain ⟨v127, v148, c1408_i32_117, h5⟩ := part5_eq (F := F) (α := Dev nD) c (f_v2 c) v88 v93
  refine Eq.trans (h5 _) (congrArg (runsK _) ?_)
  obtain ⟨v150, v153, v155, v166, h6⟩ := part6_eq (F := F) (α := Dev nD) c (f_v2 c) v42 v43 v148 c1408_i32_117
  refine Eq.trans (h6 _) (congrArg (runsK _) (congrArg (Prog.op _) (funext fun v182 => (congrArg (Prog.op _) (funext fun v186 => ?_)))))
  obtain ⟨v189, v212, v214, h7⟩ := part7_eq (F := F) (α := Dev nD) c (f_v2 c) v43 v150 v155 v182 v186
  refine Eq.trans (h7 _) (congrArg (Prog.op _) (funext fun _ => congrArg (runsK _) ?_))
  obtain ⟨v215, v217, v228, v251, h8⟩ := part8_eq (F := F) (α := Dev nD) c (f_v2 c) v41 v212 v214
  refine Eq.trans (h8 _) (congrArg (runsK _) ?_)
  obtain ⟨v284, v285, v286, h9⟩ := part9_eq (F := F) (α := Dev nD) c v41 v42 v91 v153 v215 v217 v251
  refine Eq.trans (h9 _) (congrArg (runsK _) ?_)
  obtain ⟨v309, v311, v312, h10⟩ := part10_eq (F := F) (α := Dev nD) c (f_v2 c) v42 v43 v104 v284 v285
  refine Eq.trans (h10 _) (congrArg (runsK _) ?_)
  obtain ⟨v325, v340, v342, v349, v350, h11⟩ := part11_eq (F := F) (α := Dev nD) c (f_v2 c) v42 v43 v166 v309 v311
  refine Eq.trans (h11 _) (congrArg (runsK _) ?_)
  obtain ⟨v368, v381, v386, h12⟩ := part12_eq (F := F) (α := Dev nD) c (f_v2 c) v41 v43 v340 v349 v350
  refine Eq.trans (h12 _) (congrArg (runsK _) ?_)
  obtain ⟨v396, v398, v421, h13⟩ := part13_eq (F := F) (α := Dev nD) c v41 v43 v228 v386
  refine Eq.trans (h13 _) (congrArg (runsK _) ?_)
  obtain ⟨v424, v437, v450, c0_i32_322, h14⟩ := part14_eq (F := F) (α := Dev nD) c (f_v2 c) v42 v127 v421
  refine Eq.trans (h14 _) (congrArg (runsK _) ?_)
  refine Eq.trans (part15_eq (F := F) (α := Dev nD) c v189 v284 v286 v340 v342 v450 c0_i32_322 _) (congrArg (runsK _) (congrArg (Prog.op _) (funext fun v480 => (congrArg (Prog.op _) (funext fun v483 => (congrArg (Prog.op _) (funext fun v487 => ?_)))))))
  obtain ⟨v512, v513, v514, v521, h16⟩ := part16_eq (F := F) (α := Dev nD) c v42 v43 v251 v284 v312 v396 v398 (payAdd v480 v483)
  refine Eq.trans (h16 _) (congrArg (Prog.op _) (funext fun _ => congrArg (runsK _) ?_))
  obtain ⟨v539, v552, h17⟩ := part17_eq (F := F) (α := Dev nD) c (f_v2 c) v43 v512 v513 v521
  refine Eq.trans (h17 _) (congrArg (runsK _) ?_)
  obtain ⟨v567, v569, v590, h18⟩ := part18_eq (F := F) (α := Dev nD) c v41 v43 v340 v368 v552
  refine Eq.trans (h18 _) (congrArg (runsK _) ?_)
  obtain ⟨v594, v607, v622, c160_i32_432, h19⟩ := part19_eq (F := F) (α := Dev nD) c (f_v2 c) v41 v396 v567 v590
  refine Eq.trans (h19 _) (congrArg (runsK _) ?_)
  obtain ⟨v624, v647, v648, v649, v654, h20⟩ := part20_eq (F := F) (α := Dev nD) c (f_v2 c) v42 v424 v622 c160_i32_432
  refine Eq.trans (h20 _) (congrArg (runsK _) ?_)
  obtain ⟨v662, v681, h21⟩ := part21_eq (F := F) (α := Dev nD) c (f_v2 c) v325 v512 v514 v647 v648 v654
  refine Eq.trans (h21 _) (congrArg (runsK _) (congrArg (Prog.op _) (funext fun v685 => ?_)))
  obtain ⟨v721, c3104_i32_502, h22⟩ := part22_eq (F := F) (α := Dev nD) c v381 v437 v567 v569 v622 v624 v681 v685
  refine Eq.trans (h22 _) (congrArg (Prog.op _) (funext fun v688 => congrArg (Prog.op _) (funext fun v692 => congrArg (Prog.op _) (funext fun _ => congrArg (runsK _) ?_))))
  obtain ⟨v737, v738, h23⟩ := part23_eq (F := F) (α := Dev nD) c v43 v512 v539 v624 v721 c3104_i32_502
  refine Eq.trans (h23 _) (congrArg (runsK _) ?_)
  obtain ⟨v761, v762, v785, v786, h24⟩ := part24_eq (F := F) (α := Dev nD) c v41 v42 v567 v594 v622 v649
  refine Eq.trans (h24 _) (congrArg (runsK _) ?_)
  refine Eq.trans (part25_eq (F := F) (α := Dev nD) c v552 v737 v738 v785 _) (congrArg (runsK _) ?_)
  obtain ⟨v827, v828, v829, v833, v843, v846, v850, h26⟩ := part26_eq (F := F) (α := Dev nD) c (f_v2 c) v41 v42 v43 v737
  refine Eq.trans (h26 _) (congrArg (runsK _) ?_)
  refine Eq.trans (part27_eq (F := F) (α := Dev nD) c v607 v737 v828 v829 _) (congrArg (runsK _) ?_)
  obtain ⟨v907, v908, v909, v913, v923, v926, v930, h28⟩ := part28_eq (F := F) (α := Dev nD) c (f_v2 c) v41 v42 v43 v761 v762
  refine Eq.trans (h28 _) (congrArg (runsK _) ?_)
  refine Eq.trans (part29_eq (F := F) (α := Dev nD) c v761 v907 v908 v909 _) (congrArg (runsK _) ?_)
  obtain ⟨v987, v988, v989, v993, v999, v1000, h30⟩ := part30_eq (F := F) (α := Dev nD) c (f_v2 c) v41 v42 v662 v785 v786
  refine Eq.trans (h30 _) (congrArg (runsK _) ?_)
  obtain ⟨v1003, v1006, v1010, c1_i32_703, h31⟩ := part31_eq (F := F) (α := Dev nD) c v41 v42 v43 v785 v987 v988 v999 v1000
  refine Eq.trans (h31 _) (congrArg (runsK _) ?_)
  refine Eq.trans (part32_eq (F := F) (α := Dev nD) c v785 v827 v828 v833 v989 c1_i32_703 _) (congrArg (runsK _) ?_)
  refine Eq.trans (part33_eq (F := F) (α := Dev nD) c v829 v833 v907 v908 v913 _) (congrArg (runsK _) ?_)
  refine Eq.trans (part34_eq (F := F) (α := Dev nD) c v909 v913 v987 v988 v993 _) (congrArg (runsK _) ?_)
  refine Eq.trans (part35_eq (F := F) (α := Dev nD) c v828 v829 v846 v989 v993 _) (congrArg (runsK _) ?_)
  refine Eq.trans (part36_eq (F := F) (α := Dev nD) c v846 v908 v909 v926 _) (congrArg (runsK _) ?_)
  refine Eq.trans (part37_eq (F := F) (α := Dev nD) c v828 v988 v989 v1006 _) (congrArg (runsK _) ?_)
  refine Eq.trans (part38_eq (F := F) (α := Dev nD) c v829 v850 v908 v909 v930 _) (congrArg (runsK _) ?_)
  refine Eq.trans (part39_eq (F := F) (α := Dev nD) c v930 v988 v989 v1010 _) (congrArg (runsK _) ?_)
  refine Eq.trans (part40_eq (F := F) (α := Dev nD) c v829 _) (congrArg (runsK _) ?_)
  refine Eq.trans (part41_eq (F := F) (α := Dev nD) c v843 v909 _) (congrArg (runsK _) ?_)
  refine Eq.trans (part42_eq (F := F) (α := Dev nD) c v909 v923 v989 _) (congrArg (runsK _) ?_)
  refine Eq.trans (part43_eq (F := F) (α := Dev nD) c v989 v1003 _) (congrArg (runsK _) ?_)
  refine Eq.trans (part44_eq (F := F) (α := Dev nD) c _) (congrArg (runsK _) ?_)
  refine Eq.trans (part45_eq (F := F) (α := Dev nD) c _) (congrArg (runsK _) ?_)
  refine Eq.trans (part46_eq (F := F) (α := Dev nD) c _) (congrArg (runsK _) ?_)
  refine Eq.trans (part47_eq (F := F) (α := Dev nD) c _) (congrArg (runsK _) ?_)
  refine Eq.trans (part48_eq (F := F) (α := Dev nD) c _) (congrArg (runsK _) ?_)
  refine Eq.trans (part49_eq (F := F) (α := Dev nD) c _) (congrArg (runsK _) ?_)
  refine Eq.trans (part50_eq (F := F) (α := Dev nD) c _) (congrArg (runsK _) ?_)
  refine Eq.trans (part51_eq (F := F) (α := Dev nD) c _) (congrArg (runsK _) ?_)
  refine Eq.trans (part52_eq (F := F) (α := Dev nD) c _) (congrArg (runsK _) ?_)
  rfl

/-- The printed body reads the device's number and runs the steps. -/
theorem body_eq : body F = .op .deviceId fun c => runs (steps c) := by
  unfold body
  rw [cc0_body_eq_skeleton]
  delta cc0_body_skel
  refine Eq.trans (congrArg (fun p => p >>= _) part53_run) ?_
  refine congrArg (Prog.op _) (funext fun c => ?_)
  rw [← rawSteps_eq, runs, runsK_append]
  exact runsK_bind _ _ _

end Cert.Butterfly
-- ==== Proof.Launch.lean ====
module

public import proofs.«01_k».proof.Proof.Deal
public import proofs.«01_k».proof.Proof.Whole
public import proofs.«01_k».proof.Proof.Gen.KernelIdeal.Launch
public import Idealize.ShloMosaic.Lib.Pipeline.CollectiveSegs

/-!
The launch: the shared state made for all devices at once, each device's run, and what the memory
holds at the end.
-/

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The shared state -/

/-- The kernel's own semaphores. -/
abbrev osem : DmaSem sig → SemLoc sig := fun q => .dma q

theorem kcell_inj : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  rw [h1, h2]

def cells : Finset (GSem nD τ sig) := Finset.univ.map ⟨kcell, kcell_inj⟩

/-- A token: its semaphore, its round and its duty. -/
def tokOf (x : Dev nD × (DmaSem sig ⊕ Fin 3)) : GSem nD τ sig × ℕ × Fin 3 := match x.2 with
  | .inl q => (dcell x.1 q, 0, 0)
  | .inr d => (bcell x.1, 0, d)

theorem tokOf_inj : Function.Injective tokOf := by
  rintro ⟨c, x⟩ ⟨c', x'⟩ h
  have h1 : c = c' := by
    have := congrArg (fun y : GSem nD τ sig × ℕ × Fin 3 => y.1.1.1) h
    rcases x with x | x <;> rcases x' with x' | x' <;> exact this
  subst h1
  rcases x with q | d <;> rcases x' with q' | d'
  · have := congrArg (fun y : GSem nD τ sig × ℕ × Fin 3 => y.1) h
    rw [(dcell_iff.mp this).2]
  · exact absurd (congrArg (fun y : GSem nD τ sig × ℕ × Fin 3 => y.1) h) (bcell_ne _ _ _).symm
  · exact absurd (congrArg (fun y : GSem nD τ sig × ℕ × Fin 3 => y.1) h) (bcell_ne _ _ _)
  · have : d = d' := congrArg (fun y : GSem nD τ sig × ℕ × Fin 3 => y.2.2) h
    rw [this]

def tokens : Finset (GSem nD τ sig × ℕ × Fin 3) := Finset.univ.map ⟨tokOf, tokOf_inj⟩

def u₀ : UU := (initOf (Pipeline.cells cfgs cellOf_inj) (Pipeline.launchToks cfgs cellOf_inj), initOf cells tokens)

/-- What is made for device `c`. -/
def G (c : Dev nD) : sProp 𝕄 :=
  iprop((bigSep Finset.univ fun k : SemLoc sig => roundState ER (Rd m) (kcell (c, k)) 0)
    ∗ (bigSep Finset.univ fun k : SemLoc sig => atPos ER (kcell (c, k)) 0 ∅ 0)
    ∗ (bigSep Finset.univ fun k : SemLoc sig => reached ER (kcell (c, k)) 0) ∗ mint c)

/-- What every device knows, the order of waits aside. -/
def known (K : Dev nD × SemLoc sig → ℕ) : sProp 𝕄 :=
  iprop((bigSep Finset.univ fun ck => cellInv ER (Rd m) (K ck) (kcell ck)) ∗ bigSep Finset.univ fun ck => reached ER (kcell ck) 0)

instance known_persistent (K : Dev nD × SemLoc sig → ℕ) : BI.Persistent (known m K) := by unfold known; infer_instance

/-- What device `c` starts with of the shared state. -/
def G' (c : Dev nD) : sProp 𝕄 := iprop(∃ K, known m K ∗ linear c)

/-- The launch's ghost state is every semaphore's. -/
theorem fund_all : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : SemLoc sig => Φ (kcell (c, k)) := by
    unfold cells; rw [bigSep_map, bigSep_univ_prod]; rfl
  have hT : bigSep tokens (fun x => (dutyTok ER x.1 x.2.1 x.2.2 : sProp 𝕄)) = bigSep Finset.univ fun c : Dev nD => mint c := by
    unfold tokens; rw [bigSep_map, bigSep_univ_prod]
    exact bigSep_congr fun c _ => by rw [bigSep_univ_sum]; rfl
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

theorem own_eq (c : Dev nD) : (Pipeline.ownSems0 (Ix := Unit) (Name := ℕ) (U := UU) (Lvl := ℕ) (Val := Elt F) (τ := τ) osem c : sProp 𝕄)
    = bigSep Finset.univ fun q => zero c q := rfl

theorem zeros_eq (c : Dev nD) : (bigSep Finset.univ fun q => (zero c q : sProp 𝕄)) = zeros c := dma_split _

theorem rest_eq (c : Dev nD) : (unscopedSems0 c : sProp 𝕄) = semVal (bcell c) 0 := by
  unfold unscopedSems0; rw [bigSep_eq_bigSepL_of_eq [SemLoc.reg barS] (by decide +kernel) (by decide)]; rfl

/-- A device's semaphores become invariants. -/
theorem make (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => atPos ER (kcell (c, k)) 0 ∅ 0)
          ∗ (bigSep Finset.univ fun k => reached ER (kcell (c, k)) 0) ∗ mint c) := by
  unfold G
  rw [own_eq, rest_eq]
  iintro ⟨Hos, Hus, Hst, Hat, Hre, Htok⟩
  ihave Hv := (Entails.of_eq (sem_split fun k => (semVal (kcell (c, k)) 0 : sProp 𝕄)).symm) $$ [Hos Hus]
  · isplitl [Hus]; · iexact Hus
    iexact Hos
  imod (show iprop((bigSep Finset.univ fun k : SemLoc sig => semVal (kcell (c, k)) 0) ∗ bigSep Finset.univ fun k : SemLoc sig => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hre] <;> iassumption

/-- The tokens of all devices, shared out. -/
theorem share :
    (bigSep Finset.univ fun c : Dev nD => iprop((bigSep Finset.univ fun k => iprop(∃ κ : ℕ, cellInv ER (Rd m) κ (kcell (c, k))))
          ∗ (bigSep Finset.univ fun k => atPos ER (kcell (c, k)) 0 ∅ 0)
          ∗ (bigSep Finset.univ fun k => reached ER (kcell (c, k)) 0) ∗ mint c) : sProp 𝕄)
      ⊢ bigSep Finset.univ (G' m) := by
  rw [bigSep_sep', bigSep_sep', bigSep_sep', ← bigSep_univ_prod (fun ck : Dev nD × SemLoc sig => iprop(∃ κ : ℕ, cellInv ER (Rd m) κ (kcell ck))),
    ← bigSep_univ_prod (fun ck : Dev nD × SemLoc sig => (reached ER (kcell ck) 0 : sProp 𝕄)), dealt]
  iintro ⟨HI, Hat, #HR, Htok⟩
  ihave HK := (BI.bigSep_exists_pi Finset.univ (fun (ck : Dev nD × SemLoc sig) (κ : ℕ) => (cellInv ER (Rd m) κ (kcell ck) : sProp 𝕄))) $$ HI
  icases HK with ⟨%K, #HI⟩
  iapply (show iprop(known m K ∗ bigSep Finset.univ fun c : Dev nD => linear c) ⊢ bigSep Finset.univ (G' m) from
    (sep_mono_left (BI.bigSep_of_persistent Finset.univ (known m K))).trans (by
      rw [← bigSep_sep']; exact bigSep_mono fun c _ => show iprop(known m K ∗ linear c) ⊢ G' m c from by unfold G'; iintro H; iexists K; iexact H))
  isplitr
  · unfold known; isplitl; · iexact HI
    iexact HR
  · unfold linear; rw [bigSep_sep']
    isplitl [Hat]; · iexact Hat
    iexact Htok

/-- From all devices' semaphores at zero to what each starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => make m c).trans (bigSep_fupd _ _)).trans (BI.fupd_mono (share m))

/-! ### A device's run -/

theorem whole_pt {sp : Space} {R : Nat} (M : Memref sig .tc sp (Sn R) .bf16) (hM : M.view.set = Finset.univ) (c : Dev nD) (f : M.view.ty.Contents (Elt F)) :
    (pt M c 0 R fullShare f : sProp 𝕄) = (M.view.loc (c : Thread nD τ) ↦{fullShare} f) := by
  unfold pt; rw [rows_all]; exact congrArg (fun S => (M.view.loc (c : Thread nD τ) ↦[S]{fullShare} f : sProp 𝕄)) hM

theorem whole_ex {sp : Space} {R : Nat} (M : Memref sig .tc sp (Sn R) .bf16) (hM : M.view.set = Finset.univ) (c : Dev nD) :
    (ex M c 0 R : sProp 𝕄) = iprop(∃ f : Buf (Elt F) (M.view.loc (c : Thread nD τ)), M.view.loc (c : Thread nD τ) ↦{fullShare} f) := by
  unfold ex; exact congrArg BIBase.exists (funext fun f => whole_pt M hM c f)

/-- What device `c` starts with. -/
def start (c : Dev nD) : sProp 𝕄 :=
  iprop((∃ K, ctx m K) ∗ pt xM c 0 4096 fullShare (X m c) ∗ ex oM c 0 4096 ∗ toks c ∗ (btok (peer 0 c) 0 ∗ btok (peer 1 c) 1 ∗ btok (peer 2 c) 2) ∗ bpend c)
/-- Before the body. -/
def Φ₀ (c : Dev nD) : sProp 𝕄 := iprop((∃ K, ctx m K) ∗ bufs₀ m c ∗ toks c ∗ (btok (peer 0 c) 0 ∗ btok (peer 1 c) 1 ∗ btok (peer 2 c) 2) ∗ bpend c)
/-- After the body. -/
def Φ₁ (c : Dev nD) : sProp 𝕄 := iprop(bufs₁ m c ∗ zeros c ∗ semVal (bcell c) 0)
/-- What device `c` keeps at the end. -/
def keeps (c : Dev nD) : sProp 𝕄 := iprop((pt xM c 0 4096 fullShare (X m c) ∗ pt oM c 0 4096 fullShare (Final m)) ∗ unscopedSems0 c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem Tr.whole {m : (ℓ : Loc nD τ sig) → Buf (Elt F) ℓ} {K : Dev nD × SemLoc sig → ℕ} {c : Dev nD} {P R : sProp (MT nD τ sig Unit (Elt F) ℕ UU ℕ)}
    {l : List (PT F)} (h : Tr m K c P l R) (Q : PUnit → sProp (MT nD τ sig Unit (Elt F) ℕ UU ℕ)) :
    iprop(ctx m K ∗ P ∗ (R -∗ Q ⟨⟩)) ⊢ wp Idealize.ShloMosaic.frame (wpE (defs₀ (F := F)) 𝒱₀ (c : Thread nD τ) none) Set.univ (runs l) Q := by
  iintro ⟨Hc, HP, Hk⟩
  iapply (h _ Q)
  iframe Hc HP
  iintro HR
  rw [wp_ret]; imodintro
  iapply Hk; iexact HR

/-- The body is a list of steps with the run's specification. -/
theorem some_steps (c : Dev nD) : ∃ l, l = steps (F := F) c ∧ ∀ K, Tr m K c (pre m c) l (post m c) := ⟨_, rfl, fun K => @tr_all F _ m K c⟩

/-- The body, run on a device. -/
theorem run_body (c : Dev nD) (Q : PUnit → sProp 𝕄) :
    iprop(Φ₀ m c ∗ sg 3 c ∗ ((Φ₁ m c ∗ ow 39 c) -∗ Q ⟨⟩)) ⊢ wp frame (wpE (defs₀ (F := F)) 𝒱₀ (c : Thread nD τ) none) Set.univ (body F) Q := by
  obtain ⟨l, hl, htr⟩ := some_steps m c
  rw [body_eq, wp_deviceId, ← hl]
  unfold Φ₀
  iintro ⟨⟨⟨%K, #Hc⟩, Hb, Ht, Hbt, Hbp⟩, HO, Hk⟩
  iapply ((htr K).whole Q)
  isplitr; · iexact Hc
  isplitl [Hb Ht Hbt Hbp HO]
  · unfold pre; iframe Hb Ht Hbt Hbp HO
  unfold post Φ₁
  iintro ⟨Hb, Hz, HB, HO⟩
  iapply Hk
  iframe Hb Hz HB HO

/-- The launched function is the body. -/
theorem body_called (t : Fin cfg0.N) : (defs₀ (F := F)) Proc.tc cfg0.body (cfg0.bodyArgs t (cfg0.slots t)) = body F := by
  unfold defs₀; rfl

/-- The launch's one step is the body's run. -/
theorem body_obligation (c : Dev nD) : BodyObligation (dats m 0 c) (defs₀ (F := F)) 𝒱₀ () Set.univ := fun t => by
  rw [fin_N0 t]
  rw [Finset.univ_eq_empty (α := Fin cfg0.W), bigSep_empty, bigSep_empty]
  rw [body_called, show (dats m 0 c).Φ t0_0.castSucc = Φ₀ m c from rfl, show (dats m 0 c).Φ t0_0.succ = Φ₁ m c from rfl]
  generalize hb : body F = B
  have hr := fun Q => run_body m c Q
  rw [hb] at hr
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply (hr _)
  isplitl [HΦ]; · iexact HΦ
  isplitl [HO]; · unfold sg; iexists W; iexact HO
  unfold ow; rw [Ow_end]
  iintro ⟨HΦ, ⟨%W', HO⟩⟩
  isplitl [HΦ]; · iexact HΦ
  isplitl
  · iexists W'
    isplitr; · ipureintro; exact fun _ _ => Or.inl trivial
    iexact HO
  iempintro

/-! ### The launch's side conditions -/

theorem ownSemFacts : Pipeline.OwnSemFacts cfg0.spec osem := by decide +kernel

theorem xM_set : (xM : Memref sig .tc .hbm S4096x1024 .bf16).view.set = Finset.univ := View.set_whole _
theorem oM_set : (oM : Memref sig .tc .hbm S4096x1024 .bf16).view.set = Finset.univ := View.set_whole _
theorem gM_set : (gM : Memref sig .tc .vmem S4096x1024 .bf16).view.set = Finset.univ := View.set_whole _
theorem vM_set : (vM : Memref sig .tc .vmem S4096x1024 .bf16).view.set = Finset.univ := View.set_whole _
theorem cM_set : (cM : Memref sig .tc .vmem S3584x1024 .bf16).view.set = Finset.univ := View.set_whole _

theorem scratch_eq (c : Dev nD) : (Pipeline.scopedRest (Ix := Unit) (Name := ℕ) (U := UU) (Lvl := ℕ) (Val := Elt F) cfg0.spec c : sProp 𝕄)
    = iprop(ex gM c 0 4096 ∗ ex vM c 0 4096 ∗ ex cM c 0 3584) := by
  rw [scopedRest0_eq, whole_ex gM gM_set, whole_ex vM vM_set, whole_ex cM cM_set]

/-- What a device brings to the launch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start known
  iintro ⟨⟨Hx, Ho⟩, Hlev, Hcr, -, ⟨%K, ⟨HI, HR⟩, HG⟩⟩
  ihave H := (deal c) $$ [$HG $Hcr]
  icases H with ⟨Ht, Hbt, Hbp⟩
  imodintro
  isplitl
  · isplitl [Hlev HI HR]
    · iexists K; unfold ctx; iframe HI HR Hlev
    isplitl [Hx]
    · rw [whole_pt xM xM_set]; iexact Hx
    isplitl [Ho]
    · rw [whole_ex oM oM_set]; iexists _; iexact Ho
    iframe Ht Hbt Hbp
  · iempintro

/-- What the region starts with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold start Φ₀ bufs₀
  iintro ⟨⟨HK, Hx, Ho, Ht, Hbt, Hbp⟩, -, Hg, Hv, Hc⟩
  iframe HK Hx Ho Ht Hbt Hbp Hg Hv Hc

/-- What the region ends with. -/
theorem phi1_exit (c : Dev nD) :
    (dats m 0 c).Φ (Fin.last cfg0.N) ⊢ iprop(keeps m c ∗ Pipeline.ownSems0 osem c ∗ Pipeline.scopedRest cfg0.spec c) := by
  rw [show (dats m 0 c).Φ (Fin.last cfg0.N) = Φ₁ m c from rfl, scratch_eq, own_eq, zeros_eq]
  unfold Φ₁ keeps bufs₁
  rw [rest_eq]
  iintro ⟨⟨Hx, Hv, Hg, Ho, Hc⟩, Hz, HB⟩
  iframe Hx Ho HB Hz Hg Hv Hc

/-- Every wait is below what is still owed. -/
theorem waits (c : Dev nD) : (levAts L lv : sProp 𝕄) ⊢ Pipeline.cellsWaits cfgs (dats m) () 0 c :=
  Pipeline.cellsWaits_intro cfgs (dats m) () 0 c fun w _ _ => w.elim0

/-- An owned buffer is read off the final memory. -/
theorem read_one (c : Dev nD) (s' : Phys nD τ sig (Elt F)) (b : Ref sig .tc) (f : Buf (Elt F) ((c : Thread nD τ).loc b)) :
    iprop((((c : Thread nD τ).loc b) ↦{fullShare} f : sProp 𝕄) ∗ SI s') ⊢ iprop(⌜s'.mem.mem ((c : Thread nD τ).loc b) = f⌝ ∗ SI s') := by
  iintro ⟨Hi, HSI⟩
  icombine HSI Hi gives %h
  isplitr
  · ipureintro; exact Buf.eq_of_forall_mem_univ h
  iexact HSI

/-- What the memory holds of device `c` at the end. -/
def Ends (c : Dev nD) (s : MemSt nD τ sig (Elt F)) : Prop :=
  s.mem ((c : Thread nD τ).loc main_arg0) = m ((c : Thread nD τ).loc main_arg0) ∧ s.mem ((c : Thread nD τ).loc main_v1) = Final m

/-- Every run ends with the argument unchanged, every device's result the finished array, and every semaphore at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := keeps m) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := fun c s' => by
      unfold keeps
      rw [whole_pt xM xM_set, whole_pt oM oM_set]
      iintro ⟨⟨⟨Hx, Ho⟩, Hu⟩, -, HSI⟩
      ihave H := (read_one c s' main_arg0 _) $$ [$Hx $HSI]
      icases H with ⟨%hx, HSI⟩
      ihave H := (read_one c s' main_v1 _) $$ [$Ho $HSI]
      icases H with ⟨%ho, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨⟨hx, ho⟩, hs⟩
      iexact HSI)
    (hQ := fun _ h hs => ⟨fun c => (h c).2.2.1, sem_eq_zero hs fun c => (h c).2.2.2⟩)

end Cert.Butterfly
-- ==== Proof.Equation.lean ====
module

public import proofs.«01_k».proof.Proof.Protocol
public import proofs.«01_k».proof.Proof.Gen.ReferenceIdeal
public import Idealize.ShloMosaic.Lib.Pointwise.Reduce
public import Idealize.ShloMosaic.Lib.Pointwise.Reshape
public import Idealize.ShloMosaic.Lib.IdealHost
public import Idealize.ShloMosaic.Lib.Pipeline.Value
public import Idealize.ShloMosaic.Lib.Layout

/-!
Over the extended reals, the finished array is the sum of the eight blocks, and so is the reference's.
-/

@[expose] public section

noncomputable section

namespace Cert.Butterfly

open Cert.KernelIdeal Cert.KernelIdeal.Gen
open Idealize.ShloMosaic Idealize.ShloMosaic.TcCoe

/-! ### The finished array -/

/-- The eight pieces of a butterfly's band are the eight devices'. -/
theorem piece_owned : ∀ (b : Fin 3) (j : Fin 8), ∃ c : Dev nD, keep b 2 c = base b + j.val * gsz b := by
  decide +kernel

/-- Every row of a butterfly's band is finished by a device. -/
theorem band_owned (b : Fin 3) (r : Nat) (h : base b ≤ r ∧ r < base b + 8 * gsz b) :
    ∃ c : Dev nD, keep b 2 c ≤ r ∧ r < keep b 2 c + gsz b := by
  have hg : ∀ b, 0 < gsz b := by decide
  replace hg := hg b
  have hj : (r - base b) / gsz b < 8 := Nat.div_lt_of_lt_mul (by rw [Nat.mul_comm]; omega)
  obtain ⟨c, hc⟩ := piece_owned b ⟨_, hj⟩
  have h1 := Nat.div_mul_le_self (r - base b) (gsz b)
  have h2 := Nat.lt_div_mul_add (a := r - base b) hg
  refine ⟨c, ?_⟩
  simp only at hc
  omega

/-- Every row is finished by some butterfly on some device. -/
theorem owned (i : (Sn 4096).Idx) : ∃ (b : Fin 3) (c : Dev nD), i ∈ rows 4096 (keep b 2 c) (gsz b) := by
  have hi : (i 0).val < 4096 := (i 0).isLt
  have key : ∃ b : Fin 3, base b ≤ (i 0).val ∧ (i 0).val < base b + 8 * gsz b := by
    rcases Nat.lt_or_ge (i 0).val 1408 with h | h
    · exact ⟨0, by show 0 ≤ _ ∧ _ < 0 + 8 * 176; omega⟩
    rcases Nat.lt_or_ge (i 0).val 2816 with h' | h'
    · exact ⟨1, by show 1408 ≤ _ ∧ _ < 1408 + 8 * 176; omega⟩
    · exact ⟨2, by show 2816 ≤ _ ∧ _ < 2816 + 8 * 160; omega⟩
  obtain ⟨b, hb⟩ := key
  obtain ⟨c, hc⟩ := band_owned b _ hb
  exact ⟨b, c, mem_rows.2 hc⟩

/-- The devices whose blocks device `c` has summed after `s` stages of butterfly `b`. -/
def heard (b : Fin 3) : Nat → Dev nD → List (Dev nD)
  | 0, c => [c]
  | s + 1, c => heard b s c ++ heard b s (peer (dir b (st s)) c)

/-- After three stages a device has heard every device once. -/
theorem heard_all : ∀ (b : Fin 3) (c : Dev nD), (heard b 3 c).Perm (List.finRange 8) := by
  decide +kernel

variable (m : (ℓ : Loc nD τ sig) → Buf (Elt Ideal) ℓ)

/-- The value of an element of device `c`'s block. -/
def val (i : (Sn 4096).Idx) (c : Dev nD) : EReal := X m c i

/-- A partial sum is the sum over the devices heard. -/
theorem partial_sum (b : Fin 3) (i : (Sn 4096).Idx) :
    ∀ (s : Nat) (c : Dev nD), (A m b s c i : EReal) = ((heard b s c).map (val m i)).sum
  | 0, c => by simp [heard, A, val]
  | s + 1, c => by
    rw [heard, List.map_append, List.sum_append, ← partial_sum b i s c, ← partial_sum b i s]
    rfl

/-- The finished array's element is the sum of the eight devices' elements. -/
theorem final_sum (i : (Sn 4096).Idx) : (Final m i : EReal) = ∑ c : Fin 8, val m i c := by
  obtain ⟨b, c, h⟩ := owned i
  rw [final_eq m b c i h, partial_sum, ((heard_all b c).map _).sum_eq]
  simp [Fin.sum_univ_def]

/-! ### The reference's array -/

/-- The array the reference computes from the whole argument. -/
def Whole (x : ReferenceIdeal.S32768x1024.Idx → EReal) : ReferenceIdeal.S4096x1024.Idx → EReal :=
  truncf (F := Ideal) (φ := .f32) .bf16
    (Host.reduceAdd (F := Ideal)
      (shapeCast _ (extf (F := Ideal) (φ := .bf16) .f32 x ReferenceIdeal.Gen.bitsLt_bf16_f32)
        ReferenceIdeal.Gen.shapeCasts_S32768x1024_S8x4096x1024)
      (constant ReferenceIdeal.S_ .f32 0x00000000#32)
      ReferenceIdeal.Gen.reducesTo_S8x4096x1024_S4096x1024_d0 ReferenceIdeal.Gen.h_S_)
    ReferenceIdeal.Gen.bitsLt_bf16_f32

/-- Device `k`'s block of the whole argument. -/
abbrev part (x : ReferenceIdeal.S32768x1024.Idx → EReal) (k : Fin 8) : (Sn 4096).Idx → EReal :=
  Layout.block ⟨2, ![4096, 1024]⟩ ⟨2, ![32768, 1024]⟩ 0 8 k x

/-- Reshaped to eight blocks, an element is the element of that block of rows. -/
theorem reshaped (x : ReferenceIdeal.S32768x1024.Idx → EReal) (k : Fin 8) (i : (Sn 4096).Idx) :
    shapeCast ReferenceIdeal.S8x4096x1024 x ReferenceIdeal.Gen.shapeCasts_S32768x1024_S8x4096x1024
        (ix3 (n0 := 8) (n1 := 4096) (n2 := 1024) k (i 0) (i 1))
      = part x k i := by
  refine shapeCast_apply _ _ _ _ ?_
  rw [Shape.rowMajor_val_two, Shape.rowMajor_val_three]
  rfl

/-- The reference's element is the sum of the eight blocks' elements. -/
theorem whole_sum (x : ReferenceIdeal.S32768x1024.Idx → EReal) (i : (Sn 4096).Idx) :
    Whole x i = ∑ k : Fin 8, part x k i := by
  have h : Whole x i = Ideal.hostReduceAdd ReferenceIdeal.Gen.reducesTo_S8x4096x1024_S4096x1024_d0
      (shapeCast ReferenceIdeal.S8x4096x1024 x ReferenceIdeal.Gen.shapeCasts_S32768x1024_S8x4096x1024)
      (Ideal.ofBits .f32 0x00000000#32) i := rfl
  rw [h, Ideal.hostReduceAdd_r3_a0, Ideal.ofBits_zero_f32, zero_add]
  exact Finset.sum_congr rfl fun k _ => reshaped x k i

/-- The kernel's finished array is the reference's. -/
theorem final_whole (x : ReferenceIdeal.S32768x1024.Idx → EReal)
    (h : ∀ c : Dev nD, m ((c : Thread nD τ).loc main_arg0) = part x c) :
    Final m = Whole x := by
  funext i
  refine (final_sum m i).trans ((Finset.sum_congr rfl fun c _ => ?_).trans (whole_sum x i).symm)
  exact congrFun (h c) i

end Cert.Butterfly

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as written runs as its reading over any float values does: the two texts are one. -/
theorem frame_kernel : Cert.quiescent_Kernel (hKernel := Cert.Kernel.Gen.facts) := fun m ρ _ =>
  (θ_run Cert.KernelIdeal.defs _ _).mono (fun _ h => ⟨fun c => (h.1 c).1, h.2⟩) (Butterfly.run_main (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (Butterfly.run_main (F := Ideal) m ρ)

/-- The reference has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem equal_ideal : Cert.algebraic_KernelIdeal_ReferenceIdeal (hKernelIdeal := Cert.KernelIdeal.Gen.facts)
    (hReferenceIdeal := Cert.ReferenceIdeal.Gen.facts) := fun m ρ m' ρ' _ hx =>
  ⟨Butterfly.Whole (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Butterfly.final_whole m _ hx), (h.1 c).1⟩) (Butterfly.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, equal_ideal⟩

end Cert.Proof

end
